-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_and_counting_up [hPre_finite_and_counting_up : Cert.Pre_finite_and_counting_up.Facts] (m : (ℓ : Loc Cert.AttnIdeal.nD Cert.AttnIdeal.τ Cert.AttnIdeal.sig) → Buf (Elt Ideal) ℓ) : Prop :=
  ∀ c : Dev Cert.AttnIdeal.nD,
    (Cert.Pre_finite_and_counting_up.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_and_counting_up [hPre_finite_and_counting_up : Cert.Pre_finite_and_counting_up.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_and_counting_up.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_and_counting_up [hAttnIdeal : Cert.AttnIdeal.Facts] [hPre_finite_and_counting_up : Cert.Pre_finite_and_counting_up.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_and_counting_up m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_and_counting_up [hAttnRefIdeal : Cert.AttnRefIdeal.Facts] [hPre_finite_and_counting_up : Cert.Pre_finite_and_counting_up.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_and_counting_up m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7)
      ∧ r.2.mem ((c.tc : Thread Cert.In.nD Cert.In.τ).loc Cert.In.main_arg8) = m ((c.tc : Thread Cert.In.nD Cert.In.τ).loc Cert.In.main_arg8)
      ∧ r.2.mem ((c.tc : Thread Cert.In.nD Cert.In.τ).loc Cert.In.main_arg9) = m ((c.tc : Thread Cert.In.nD Cert.In.τ).loc Cert.In.main_arg9))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8)
      ∧ r.2.mem ((c.tc : Thread Cert.InIdeal.nD Cert.InIdeal.τ).loc Cert.InIdeal.main_arg9) = m ((c.tc : Thread Cert.InIdeal.nD Cert.InIdeal.τ).loc Cert.InIdeal.main_arg9))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15)
      ∧ r.2.mem ((c.tc : Thread Cert.Mix.nD Cert.Mix.τ).loc Cert.Mix.main_arg16) = m ((c.tc : Thread Cert.Mix.nD Cert.Mix.τ).loc Cert.Mix.main_arg16))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15)
      ∧ r.2.mem ((c.tc : Thread Cert.MixRefIdeal.nD Cert.MixRefIdeal.τ).loc Cert.MixRefIdeal.main_arg16) = m ((c.tc : Thread Cert.MixRefIdeal.nD Cert.MixRefIdeal.τ).loc Cert.MixRefIdeal.main_arg16))
      ∧ r.2.sem = fun _ => 0)

def preserves_Attn_AttnIdeal : Prop :=
  IdealRules.named_const.Statement Cert.AttnIdeal.κ "query_factor" .f32 0x3E16C740#32 (((Real.sqrt 96)⁻¹ * (Real.log 2)⁻¹ : ℝ) : EReal)

def algebraic_AttnIdeal_AttnRefIdeal_pre_finite_and_counting_up [hAttnIdeal : Cert.AttnIdeal.Facts] [hAttnRefIdeal : Cert.AttnRefIdeal.Facts] [hPre_finite_and_counting_up : Cert.Pre_finite_and_counting_up.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_and_counting_up m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v12)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v12) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v24) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)) →
    ∃ (v0 : (c : Dev Cert.MoeIdeal.nD) → Buf (Elt Ideal) ((c.tc : Thread Cert.MoeIdeal.nD Cert.MoeIdeal.τ).loc Cert.MoeIdeal.main_v15)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v15) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v94) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7))

def preserves_In_InIdeal : Prop :=
  True

def algebraic_InIdeal_InRefIdeal_on_used_lanes [hInIdeal : Cert.InIdeal.Facts] [hInRefIdeal : Cert.InRefIdeal.Facts] [hOn_used_lanes : Cert.On_used_lanes.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)
      ∧ m' ((c.tc : Thread Cert.InRefIdeal.nD Cert.InRefIdeal.τ).loc Cert.InRefIdeal.main_arg7) = m ((c.tc : Thread Cert.InIdeal.nD Cert.InIdeal.τ).loc Cert.InIdeal.main_arg7)
      ∧ m' ((c.tc : Thread Cert.InRefIdeal.nD Cert.InRefIdeal.τ).loc Cert.InRefIdeal.main_arg8) = m ((c.tc : Thread Cert.InIdeal.nD Cert.InIdeal.τ).loc Cert.InIdeal.main_arg8)
      ∧ m' ((c.tc : Thread Cert.InRefIdeal.nD Cert.InRefIdeal.τ).loc Cert.InRefIdeal.main_arg9) = m ((c.tc : Thread Cert.InIdeal.nD Cert.InIdeal.τ).loc Cert.InIdeal.main_arg9)) →
    ∃ (v0 : (c : Dev Cert.InIdeal.nD) → Buf (Elt Ideal) ((c.tc : Thread Cert.InIdeal.nD Cert.InIdeal.τ).loc Cert.InIdeal.main_v41_0)) (v1 : (c : Dev Cert.InIdeal.nD) → Buf (Elt Ideal) ((c.tc : Thread Cert.InIdeal.nD Cert.InIdeal.τ).loc Cert.InIdeal.main_v41_1)) (v2 : (c : Dev Cert.InIdeal.nD) → Buf (Elt Ideal) ((c.tc : Thread Cert.InIdeal.nD Cert.InIdeal.τ).loc Cert.InIdeal.main_v41_2)) (v3 : (c : Dev Cert.InIdeal.nD) → Buf (Elt Ideal) ((c.tc : Thread Cert.InIdeal.nD Cert.InIdeal.τ).loc Cert.InIdeal.main_v41_3)) (v4 : (c : Dev Cert.InIdeal.nD) → Buf (Elt Ideal) ((c.tc : Thread Cert.InIdeal.nD Cert.InIdeal.τ).loc Cert.InIdeal.main_v41_4)),
      θ_run (Cert.InIdeal.defs (F := Ideal)) (onTc (τ := Cert.InIdeal.τ) (Cert.InIdeal.main (F := Ideal))) ⟨m, fun _ => 0, g⟩ (fun r => ∀ c : Dev Cert.InIdeal.nD,
          (∀ i : (⟨4, ![4, 8, 8192, 128]⟩ : Shape).Idx, (Cert.On_used_lanes.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9))).1 i = 1#1 → r.2.mem ((c.tc : Thread Cert.InIdeal.nD Cert.InIdeal.τ).loc Cert.InIdeal.main_v41_0) i = v0 c i)
          ∧ (∀ i : (⟨4, ![4, 8, 8192, 128]⟩ : Shape).Idx, (Cert.On_used_lanes.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9))).2.1 i = 1#1 → r.2.mem ((c.tc : Thread Cert.InIdeal.nD Cert.InIdeal.τ).loc Cert.InIdeal.main_v41_1) i = v1 c i)
          ∧ (∀ i : (⟨4, ![4, 8, 8192, 128]⟩ : Shape).Idx, (Cert.On_used_lanes.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9))).2.2.1 i = 1#1 → r.2.mem ((c.tc : Thread Cert.InIdeal.nD Cert.InIdeal.τ).loc Cert.InIdeal.main_v41_2) i = v2 c i)
          ∧ (∀ i : (⟨2, ![32768, 512]⟩ : Shape).Idx, (Cert.On_used_lanes.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9))).2.2.2.1 i = 1#1 → r.2.mem ((c.tc : Thread Cert.InIdeal.nD Cert.InIdeal.τ).loc Cert.InIdeal.main_v41_3) i = v3 c i)
          ∧ (∀ i : (⟨2, ![32768, 2048]⟩ : Shape).Idx, (Cert.On_used_lanes.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9))).2.2.2.2 i = 1#1 → r.2.mem ((c.tc : Thread Cert.InIdeal.nD Cert.InIdeal.τ).loc Cert.InIdeal.main_v41_4) i = v4 c i)
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7)
          ∧ r.2.mem ((c.tc : Thread Cert.InIdeal.nD Cert.InIdeal.τ).loc Cert.InIdeal.main_arg8) = m ((c.tc : Thread Cert.InIdeal.nD Cert.InIdeal.τ).loc Cert.InIdeal.main_arg8)
          ∧ r.2.mem ((c.tc : Thread Cert.InIdeal.nD Cert.InIdeal.τ).loc Cert.InIdeal.main_arg9) = m ((c.tc : Thread Cert.InIdeal.nD Cert.InIdeal.τ).loc Cert.InIdeal.main_arg9))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          (∀ i : (⟨4, ![4, 8, 8192, 128]⟩ : Shape).Idx, (Cert.On_used_lanes.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9))).1 i = 1#1 → r.2.mem ((c.tc : Thread Cert.InRefIdeal.nD Cert.InRefIdeal.τ).loc Cert.InRefIdeal.main_v118) i = v0 c i)
          ∧ (∀ i : (⟨4, ![4, 8, 8192, 128]⟩ : Shape).Idx, (Cert.On_used_lanes.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9))).2.1 i = 1#1 → r.2.mem ((c.tc : Thread Cert.InRefIdeal.nD Cert.InRefIdeal.τ).loc Cert.InRefIdeal.main_v119) i = v1 c i)
          ∧ (∀ i : (⟨4, ![4, 8, 8192, 128]⟩ : Shape).Idx, (Cert.On_used_lanes.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9))).2.2.1 i = 1#1 → r.2.mem ((c.tc : Thread Cert.InRefIdeal.nD Cert.InRefIdeal.τ).loc Cert.InRefIdeal.main_v120) i = v2 c i)
          ∧ (∀ i : (⟨2, ![32768, 512]⟩ : Shape).Idx, (Cert.On_used_lanes.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9))).2.2.2.1 i = 1#1 → r.2.mem ((c.tc : Thread Cert.InRefIdeal.nD Cert.InRefIdeal.τ).loc Cert.InRefIdeal.main_v121) i = v3 c i)
          ∧ (∀ i : (⟨2, ![32768, 2048]⟩ : Shape).Idx, (Cert.On_used_lanes.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9))).2.2.2.2 i = 1#1 → r.2.mem ((c.tc : Thread Cert.InRefIdeal.nD Cert.InRefIdeal.τ).loc Cert.InRefIdeal.main_v122) i = v4 c i)
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7)
          ∧ r.2.mem ((c.tc : Thread Cert.InRefIdeal.nD Cert.InRefIdeal.τ).loc Cert.InRefIdeal.main_arg8) = m' ((c.tc : Thread Cert.InRefIdeal.nD Cert.InRefIdeal.τ).loc Cert.InRefIdeal.main_arg8)
          ∧ r.2.mem ((c.tc : Thread Cert.InRefIdeal.nD Cert.InRefIdeal.τ).loc Cert.InRefIdeal.main_arg9) = m' ((c.tc : Thread Cert.InRefIdeal.nD Cert.InRefIdeal.τ).loc Cert.InRefIdeal.main_arg9))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)
      ∧ m' ((c.tc : Thread Cert.MixRefIdeal.nD Cert.MixRefIdeal.τ).loc Cert.MixRefIdeal.main_arg15) = m ((c.tc : Thread Cert.MixIdeal.nD Cert.MixIdeal.τ).loc Cert.MixIdeal.main_arg15)
      ∧ m' ((c.tc : Thread Cert.MixRefIdeal.nD Cert.MixRefIdeal.τ).loc Cert.MixRefIdeal.main_arg16) = m ((c.tc : Thread Cert.MixIdeal.nD Cert.MixIdeal.τ).loc Cert.MixIdeal.main_arg16)) →
    ∃ (v0 : (c : Dev Cert.MixIdeal.nD) → Buf (Elt Ideal) ((c.tc : Thread Cert.MixIdeal.nD Cert.MixIdeal.τ).loc Cert.MixIdeal.main_v22_0)) (v1 : (c : Dev Cert.MixIdeal.nD) → Buf (Elt Ideal) ((c.tc : Thread Cert.MixIdeal.nD Cert.MixIdeal.τ).loc Cert.MixIdeal.main_v22_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v22_0) = v0 c
          ∧ r.2.mem ((c.tc : Thread Cert.MixIdeal.nD Cert.MixIdeal.τ).loc Cert.MixIdeal.main_v22_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
          ∧ r.2.mem ((c.tc : Thread Cert.MixIdeal.nD Cert.MixIdeal.τ).loc Cert.MixIdeal.main_arg16) = m ((c.tc : Thread Cert.MixIdeal.nD Cert.MixIdeal.τ).loc Cert.MixIdeal.main_arg16))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v295) = v0 c
          ∧ r.2.mem ((c.tc : Thread Cert.MixRefIdeal.nD Cert.MixRefIdeal.τ).loc Cert.MixRefIdeal.main_v297) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14)
          ∧ r.2.mem ((c.tc : Thread Cert.MixRefIdeal.nD Cert.MixRefIdeal.τ).loc Cert.MixRefIdeal.main_arg15) = m' ((c.tc : Thread Cert.MixRefIdeal.nD Cert.MixRefIdeal.τ).loc Cert.MixRefIdeal.main_arg15)
          ∧ r.2.mem ((c.tc : Thread Cert.MixRefIdeal.nD Cert.MixRefIdeal.τ).loc Cert.MixRefIdeal.main_arg16) = m' ((c.tc : Thread Cert.MixRefIdeal.nD Cert.MixRefIdeal.τ).loc Cert.MixRefIdeal.main_arg16))

def Claim : Prop :=
  ∃ (hAttn : Cert.Attn.Facts) (hAttnIdeal : Cert.AttnIdeal.Facts) (hAttnRefIdeal : Cert.AttnRefIdeal.Facts) (hMoe : Cert.Moe.Facts) (hMoeIdeal : Cert.MoeIdeal.Facts) (hMoeRefIdeal : Cert.MoeRefIdeal.Facts) (hIn : Cert.In.Facts) (hInIdeal : Cert.InIdeal.Facts) (hInRefIdeal : Cert.InRefIdeal.Facts) (hMix : Cert.Mix.Facts) (hMixIdeal : Cert.MixIdeal.Facts) (hMixRefIdeal : Cert.MixRefIdeal.Facts) (hPre_finite_and_counting_up : Cert.Pre_finite_and_counting_up.Facts) (hOn_used_lanes : Cert.On_used_lanes.Facts),
    quiescent_Attn (hAttn := hAttn)
    ∧ quiescent_AttnIdeal (hAttnIdeal := hAttnIdeal)
    ∧ quiescent_AttnIdeal_pre_finite_and_counting_up (hAttnIdeal := hAttnIdeal) (hPre_finite_and_counting_up := hPre_finite_and_counting_up)
    ∧ quiescent_AttnRefIdeal (hAttnRefIdeal := hAttnRefIdeal)
    ∧ quiescent_AttnRefIdeal_pre_finite_and_counting_up (hAttnRefIdeal := hAttnRefIdeal) (hPre_finite_and_counting_up := hPre_finite_and_counting_up)
    ∧ quiescent_Moe (hMoe := hMoe)
    ∧ quiescent_MoeIdeal (hMoeIdeal := hMoeIdeal)
    ∧ quiescent_MoeRefIdeal (hMoeRefIdeal := hMoeRefIdeal)
    ∧ quiescent_In (hIn := hIn)
    ∧ quiescent_InIdeal (hInIdeal := hInIdeal)
    ∧ quiescent_InRefIdeal (hInRefIdeal := hInRefIdeal)
    ∧ quiescent_Mix (hMix := hMix)
    ∧ quiescent_MixIdeal (hMixIdeal := hMixIdeal)
    ∧ quiescent_MixRefIdeal (hMixRefIdeal := hMixRefIdeal)
    ∧ preserves_Attn_AttnIdeal
    ∧ algebraic_AttnIdeal_AttnRefIdeal_pre_finite_and_counting_up (hAttnIdeal := hAttnIdeal) (hAttnRefIdeal := hAttnRefIdeal) (hPre_finite_and_counting_up := hPre_finite_and_counting_up)
    ∧ preserves_Moe_MoeIdeal
    ∧ algebraic_MoeIdeal_MoeRefIdeal (hMoeIdeal := hMoeIdeal) (hMoeRefIdeal := hMoeRefIdeal)
    ∧ preserves_In_InIdeal
    ∧ algebraic_InIdeal_InRefIdeal_on_used_lanes (hInIdeal := hInIdeal) (hInRefIdeal := hInRefIdeal) (hOn_used_lanes := hOn_used_lanes)
    ∧ preserves_Mix_MixIdeal
    ∧ algebraic_MixIdeal_MixRefIdeal (hMixIdeal := hMixIdeal) (hMixRefIdeal := hMixRefIdeal)
-- ==== On_used_lanes.lean ====
abbrev S4x8192x1024 : Shape := ⟨3, ![4, 8192, 1024]⟩
abbrev S4x6144 : Shape := ⟨2, ![4, 6144]⟩
abbrev S4x8192x16 : Shape := ⟨3, ![4, 8192, 16]⟩
abbrev S1024 : Shape := ⟨1, ![1024]⟩
abbrev S1024x3744 : Shape := ⟨2, ![1024, 3744]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S4x8x8192x128 : Shape := ⟨4, ![4, 8, 8192, 128]⟩
abbrev S_ : Shape := ⟨0, ![]⟩
abbrev S32768x512 : Shape := ⟨2, ![32768, 512]⟩
abbrev S32768x2048 : Shape := ⟨2, ![32768, 2048]⟩

class Facts : Prop where
  bcast_S_S4x8x8192x128 : S_.BroadcastsInDim S4x8x8192x128 (![] : Fin 0 → Fin S4x8x8192x128.rank)
  bcast_S_S32768x512 : S_.BroadcastsInDim S32768x512 (![] : Fin 0 → Fin S32768x512.rank)
  bcast_S_S32768x2048 : S_.BroadcastsInDim S32768x2048 (![] : Fin 0 → Fin S32768x2048.rank)

variable [Facts]

def fn {F : FTy → Type} [FloatOps F] (main_arg0 : FVec F S4x8192x1024 .f32) (main_arg1 : FVec F S4x6144 .f32) (main_arg2 : FVec F S4x8192x16 .f32) (main_arg3 : FVec F S4x8192x16 .f32) (main_arg4 : FVec F S1024 .f32) (main_arg5 : FVec F S1024x3744 .f32) (main_arg6 : FVec F S384 .f32) (main_arg7 : FVec F S384x768 .f32) (main_arg8 : FVec F S256 .f32) (main_arg9 : FVec F S256x1024 .f32) : IVec S4x8x8192x128 1 × IVec S4x8x8192x128 1 × IVec S4x8x8192x128 1 × IVec S32768x512 1 × IVec S32768x2048 1 :=
  let main_v0 : IVec S4x8x8192x128 32 := iotaInDim S4x8x8192x128 32 3
  let main_c : IVec S_ 32 := constantI S_ 32 96#32
  let main_v1 : IVec S4x8x8192x128 32 := broadcastInDim S4x8x8192x128 ![] bcast_S_S4x8x8192x128 main_c
  let main_v2 : IVec S4x8x8192x128 1 := cmpi .slt main_v0 main_v1
  let main_c_0 : IVec S_ 32 := constantI S_ 32 96#32
  let main_v3 : IVec S4x8x8192x128 32 := broadcastInDim S4x8x8192x128 ![] bcast_S_S4x8x8192x128 main_c_0
  let main_v4 : IVec S4x8x8192x128 1 := cmpi .slt main_v0 main_v3
  let main_c_1 : IVec S_ 32 := constantI S_ 32 64#32
  let main_v5 : IVec S4x8x8192x128 32 := broadcastInDim S4x8x8192x128 ![] bcast_S_S4x8x8192x128 main_c_1
  let main_v6 : IVec S4x8x8192x128 1 := cmpi .slt main_v0 main_v5
  let main_c_2 : IVec S_ 1 := constantI S_ 1 1#1
  let main_v7 : IVec S32768x512 1 := broadcastInDim S32768x512 ![] bcast_S_S32768x512 main_c_2
  let main_c_3 : IVec S_ 1 := constantI S_ 1 1#1
  let main_v8 : IVec S32768x2048 1 := broadcastInDim S32768x2048 ![] bcast_S_S32768x2048 main_c_3
  (main_v2, main_v4, main_v6, main_v7, main_v8)
-- ==== Pre_finite_and_counting_up.lean ====
abbrev S4x8x8192x96 : Shape := ⟨4, ![4, 8, 8192, 96]⟩
abbrev S4x8x8192x64 : Shape := ⟨4, ![4, 8, 8192, 64]⟩
abbrev S4x8192 : Shape := ⟨2, ![4, 8192]⟩
abbrev S4x1 : Shape := ⟨2, ![4, 1]⟩
abbrev S_ : Shape := ⟨0, ![]⟩

class Facts : Prop where
  slices_S4x8192_S4x1_0_0 : S4x8192.Slices ![0, 0] S4x1
  bcast_S_S4x8x8192x96 : S_.BroadcastsInDim S4x8x8192x96 (![] : Fin 0 → Fin S4x8x8192x96.rank)
  reducesTo_S4x8x8192x96_S_d0_1_2_3 : S4x8x8192x96.ReducesTo [0, 1, 2, 3] S_
  h_S_ : 0 < S_.numel
  bcast_S_S4x1 : S_.BroadcastsInDim S4x1 (![] : Fin 0 → Fin S4x1.rank)
  reducesTo_S4x1_S_d0_1 : S4x1.ReducesTo [0, 1] S_
  bcast_S4x1_S4x8192_0_1 : S4x1.BroadcastsInDim S4x8192 (![0, 1] : Fin 2 → Fin S4x8192.rank)
  reducesTo_S4x8192_S_d0_1 : S4x8192.ReducesTo [0, 1] S_

variable [Facts]

def fn_part1 {F : FTy → Type} [FloatOps F] (main_arg3 : IVec S4x8192 32) (main_v0 : IVec S4x1 32) (main_v13 : IVec S_ 1) (main_v15 : IVec S4x1 1) (main_c_5 : IVec S_ 1) : IVec S_ 1 :=
  let main_v16 : IVec S_ 1 := (fun x v => Host.reduce IntOp.andi x v reducesTo_S4x1_S_d0_1 h_S_) main_v15 main_c_5
  let main_v17 : IVec S_ 1 := andi main_v13 main_v16
  let main_v18 : IVec S4x8192 32 := iotaInDim S4x8192 32 1
  let main_v19 : IVec S4x8192 32 := broadcastInDim S4x8192 ![0, 1] bcast_S4x1_S4x8192_0_1 main_v0
  let main_v20 : IVec S4x8192 32 := addi main_v19 main_v18
  let main_v21 : IVec S4x8192 1 := cmpi .eq main_arg3 main_v20
  let main_c_6 : IVec S_ 1 := constantI S_ 1 1#1
  let main_v22 : IVec S_ 1 := (fun x v => Host.reduce IntOp.andi x v reducesTo_S4x8192_S_d0_1 h_S_) main_v21 main_c_6
  let main_v23 : IVec S_ 1 := andi main_v17 main_v22
  main_v23

def fn {F : FTy → Type} [FloatOps F] (main_arg0 : FVec F S4x8x8192x96 .f32) (main_arg1 : FVec F S4x8x8192x96 .f32) (main_arg2 : FVec F S4x8x8192x64 .f32) (main_arg3 : IVec S4x8192 32) : IVec S_ 1 :=
  let main_v0 : IVec S4x1 32 := (extractStridedSlice S4x1 ![0, 0] · slices_S4x8192_S4x1_0_0) main_arg3
  let main_v1 : FVec F S4x8x8192x96 .f32 := Host.absf main_arg0
  let main_cst : FVec F S_ .f32 := constant S_ .f32 0x7F800000#32
  let main_v2 : FVec F S4x8x8192x96 .f32 := broadcastInDim S4x8x8192x96 ![] bcast_S_S4x8x8192x96 main_cst
  let main_v3 : IVec S4x8x8192x96 1 := cmpf .olt main_v1 main_v2
  let main_c : IVec S_ 1 := constantI S_ 1 1#1
  let main_v4 : IVec S_ 1 := (fun x v => Host.reduce IntOp.andi x v reducesTo_S4x8x8192x96_S_d0_1_2_3 h_S_) main_v3 main_c
  let main_v5 : FVec F S4x8x8192x96 .f32 := Host.absf main_arg1
  let main_cst_0 : FVec F S_ .f32 := constant S_ .f32 0x7F800000#32
  let main_v6 : FVec F S4x8x8192x96 .f32 := broadcastInDim S4x8x8192x96 ![] bcast_S_S4x8x8192x96 main_cst_0
  let main_v7 : IVec S4x8x8192x96 1 := cmpf .olt main_v5 main_v6
  let main_c_1 : IVec S_ 1 := constantI S_ 1 1#1
  let main_v8 : IVec S_ 1 := (fun x v => Host.reduce IntOp.andi x v reducesTo_S4x8x8192x96_S_d0_1_2_3 h_S_) main_v7 main_c_1
  let main_v9 : IVec S_ 1 := andi main_v4 main_v8
  let main_c_2 : IVec S_ 32 := constantI S_ 32 0#32
  let main_v10 : IVec S4x1 32 := broadcastInDim S4x1 ![] bcast_S_S4x1 main_c_2
  let main_v11 : IVec S4x1 1 := cmpi .sge main_v0 main_v10
  let main_c_3 : IVec S_ 1 := constantI S_ 1 1#1
  let main_v12 : IVec S_ 1 := (fun x v => Host.reduce IntOp.andi x v reducesTo_S4x1_S_d0_1 h_S_) main_v11 main_c_3
  let main_v13 : IVec S_ 1 := andi main_v9 main_v12
  let main_c_4 : IVec S_ 32 := constantI S_ 32 1024#32
  let main_v14 : IVec S4x1 32 := broadcastInDim S4x1 ![] bcast_S_S4x1 main_c_4
  let main_v15 : IVec S4x1 1 := cmpi .slt main_v0 main_v14
  let main_c_5 : IVec S_ 1 := constantI S_ 1 1#1
  fn_part1 (F := F) main_arg3 main_v0 main_v13 main_v15 main_c_5
-- ==== Attn.lean ====
abbrev S4x8x8192x96 : Shape := ⟨4, ![4, 8, 8192, 96]⟩
abbrev S4x8x8192x64 : Shape := ⟨4, ![4, 8, 8192, 64]⟩
abbrev S4x8192 : Shape := ⟨2, ![4, 8192]⟩
abbrev S1x1x1x128 : Shape := ⟨4, ![1, 1, 1, 128]⟩
abbrev S_ : Shape := ⟨0, ![]⟩
abbrev S4x8x8192x128 : Shape := ⟨4, ![4, 8, 8192, 128]⟩
abbrev S4x8192x512 : Shape := ⟨3, ![4, 8192, 512]⟩
abbrev S1x2x512x128 : Shape := ⟨4, ![1, 2, 512, 128]⟩
abbrev S1x2x8192x128 : Shape := ⟨4, ![1, 2, 8192, 128]⟩
abbrev S1x512x128 : Shape := ⟨3, ![1, 512, 128]⟩
abbrev S1x1x512x128 : Shape := ⟨4, ![1, 1, 512, 128]⟩
abbrev S512x128 : Shape := ⟨2, ![512, 128]⟩
abbrev S512x1 : Shape := ⟨2, ![512, 1]⟩
abbrev S512x512 : Shape := ⟨2, ![512, 512]⟩
abbrev S512 : Shape := ⟨1, ![512]⟩
abbrev S512x64 : Shape := ⟨2, ![512, 64]⟩

abbrev nBuf : Space → Nat
  | .hbm => 28
  | .vmem => 8
  | .smem => 0
  | _ => 0

abbrev bufTy : (tb : Table) → Fin (tcTables nBuf tb) → BufTy
  | .hbm, ⟨0, _⟩ => ⟨S4x8x8192x96, .f32⟩
  | .hbm, ⟨1, _⟩ => ⟨S4x8x8192x96, .f32⟩
  | .hbm, ⟨2, _⟩ => ⟨S4x8x8192x64, .f32⟩
  | .hbm, ⟨3, _⟩ => ⟨S4x8192, .i32⟩
  | .hbm, ⟨4, _⟩ => ⟨S1x1x1x128, .i32⟩
  | .hbm, ⟨5, _⟩ => ⟨S_, .i32⟩
  | .hbm, ⟨6, _⟩ => ⟨S1x1x1x128, .i32⟩
  | .hbm, ⟨7, _⟩ => ⟨S1x1x1x128, .i1⟩
  | .hbm, ⟨8, _⟩ => ⟨S_, .f32⟩
  | .hbm, ⟨9, _⟩ => ⟨S_, .f32⟩
  | .hbm, ⟨10, _⟩ => ⟨S1x1x1x128, .f32⟩
  | .hbm, ⟨11, _⟩ => ⟨S1x1x1x128, .f32⟩
  | .hbm, ⟨12, _⟩ => ⟨S1x1x1x128, .f32⟩
  | .hbm, ⟨13, _⟩ => ⟨S_, .i32⟩
  | .hbm, ⟨14, _⟩ => ⟨S_, .f32⟩
  | .hbm, ⟨15, _⟩ => ⟨S4x8x8192x128, .f32⟩
  | .hbm, ⟨16, _⟩ => ⟨S_, .i32⟩
  | .hbm, ⟨17, _⟩ => ⟨S_, .f32⟩
  | .hbm, ⟨18, _⟩ => ⟨S4x8x8192x128, .f32⟩
  | .hbm, ⟨19, _⟩ => ⟨S4x8x8192x128, .bf16⟩
  | .hbm, ⟨20, _⟩ => ⟨S_, .i32⟩
  | .hbm, ⟨21, _⟩ => ⟨S_, .f32⟩
  | .hbm, ⟨22, _⟩ => ⟨S4x8x8192x128, .f32⟩
  | .hbm, ⟨23, _⟩ => ⟨S1x1x1x128, .f32⟩
  | .hbm, ⟨24, _⟩ => ⟨S4x8x8192x128, .f32⟩
  | .hbm, ⟨25, _⟩ => ⟨S4x8x8192x128, .f32⟩
  | .hbm, ⟨26, _⟩ => ⟨S4x8x8192x128, .bf16⟩
  | .hbm, ⟨27, _⟩ => ⟨S4x8192x512, .bf16⟩
  | .local _ .vmem, ⟨0, _⟩ => ⟨S1x2x512x128, .f32⟩
  | .local _ .vmem, ⟨1, _⟩ => ⟨S1x2x512x128, .f32⟩
  | .local _ .vmem, ⟨2, _⟩ => ⟨S1x2x8192x128, .bf16⟩
  | .local _ .vmem, ⟨3, _⟩ => ⟨S1x2x8192x128, .bf16⟩
  | .local _ .vmem, ⟨4, _⟩ => ⟨S1x2x8192x128, .bf16⟩
  | .local _ .vmem, ⟨5, _⟩ => ⟨S1x2x8192x128, .bf16⟩
  | .local _ .vmem, ⟨6, _⟩ => ⟨S1x512x128, .bf16⟩
  | .local _ .vmem, ⟨7, _⟩ => ⟨S1x512x128, .bf16⟩
  | _, _ => ⟨S4x8x8192x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_c_1 : Ref sig .tc := ⟨.hbm, 13, rfl⟩
abbrev main_call1_v0 : Ref sig .tc := ⟨.hbm, 14, rfl⟩
abbrev main_v4 : Ref sig .tc := ⟨.hbm, 15, rfl⟩
abbrev main_c_2 : Ref sig .tc := ⟨.hbm, 16, rfl⟩
abbrev main_call2_v0 : Ref sig .tc := ⟨.hbm, 17, rfl⟩
abbrev main_v5 : Ref sig .tc := ⟨.hbm, 18, rfl⟩
abbrev main_v6 : Ref sig .tc := ⟨.hbm, 19, rfl⟩
abbrev main_c_3 : Ref sig .tc := ⟨.hbm, 20, rfl⟩
abbrev main_call3_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

@[reducible] def k0_t1_loop (i : grid0.Coords) : Scf.Loop 32 :=
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_5 : BitVec 32 := 1#32
  ⟨c0_i32, v11, c1_i32_5⟩
def k0_off1 (i : grid0.Coords) (k0_t1 : Fin (k0_t1_loop i).trips) : Fin 4 → Nat :=
  let c0_44 : Index := 0#32
  let c0_45 : Index := 0#32
  let c0_i32 : BitVec 32 := 0#32
  let c1_i32_5 : BitVec 32 := 1#32
  let arg7 : BitVec 32 := Scf.iv c0_i32 c1_i32_5 k0_t1
  let c512_i32_43 : BitVec 32 := 512#32
  let v95 : BitVec 32 := Scalar.muli arg7 c512_i32_43
  let v96 : Index := Scalar.indexCast v95
  let c0_46 : Index := 0#32
  ![0, 0, v96.toNat, 0]
@[reducible] def k0_t2_loop (i : grid0.Coords) : Scf.Loop 32 :=
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let v8 : BitVec 32 := Scalar.addi c0_i32 v7
  let c1_i32_6 : BitVec 32 := 1#32
  ⟨v11, v8, c1_i32_6⟩
def k0_off2 (i : grid0.Coords) (k0_t2 : Fin (k0_t2_loop i).trips) : Fin 4 → Nat :=
  let c0_44 : Index := 0#32
  let c0_45 : Index := 0#32
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_6 : BitVec 32 := 1#32
  let arg7 : BitVec 32 := Scf.iv v11 c1_i32_6 k0_t2
  let c512_i32_43 : BitVec 32 := 512#32
  let v95 : BitVec 32 := Scalar.muli arg7 c512_i32_43
  let v96 : Index := Scalar.indexCast v95
  let c0_46 : Index := 0#32
  ![0, 0, v96.toNat, 0]
def k0_off3 (i : grid0.Coords) : Fin 4 → Nat :=
  let c0_7 : Index := 0#32
  let c0_8 : Index := 0#32
  let arg2 : BitVec 32 := BitVec.ofNat 32 (i 2).val
  let c512_i32 : BitVec 32 := 512#32
  let v14 : BitVec 32 := Scalar.muli arg2 c512_i32
  let v15 : Index := Scalar.indexCast v14
  let c0_9 : Index := 0#32
  ![0, 0, v15.toNat, 0]
@[reducible] def k0_t3_loop (i : grid0.Coords) : Scf.Loop 32 :=
  let c0_i32_24 : BitVec 32 := 0#32
  let arg2 : BitVec 32 := BitVec.ofNat 32 (i 2).val
  let v52 : BitVec 32 := Scalar.subi arg2 c0_i32_24
  let c1_i32_25 : BitVec 32 := 1#32
  let v54 : BitVec 32 := Scalar.divsi v52 c1_i32_25
  let v55 : BitVec 32 := Scalar.muli v54 c1_i32_25
  let v56 : BitVec 32 := Scalar.addi c0_i32_24 v55
  let c1_i32_26 : BitVec 32 := 1#32
  ⟨c0_i32_24, v56, c1_i32_26⟩
def k0_off4 (i : grid0.Coords) (k0_t3 : Fin (k0_t3_loop i).trips) : Fin 4 → Nat :=
  let c0_44 : Index := 0#32
  let c1_45 : Index := 1#32
  let c0_i32_24 : BitVec 32 := 0#32
  let c1_i32_26 : BitVec 32 := 1#32
  let arg7 : BitVec 32 := Scf.iv c0_i32_24 c1_i32_26 k0_t3
  let c512_i32_43 : BitVec 32 := 512#32
  let v95 : BitVec 32 := Scalar.muli arg7 c512_i32_43
  let v96 : Index := Scalar.indexCast v95
  let c0_46 : Index := 0#32
  ![0, 1, v96.toNat, 0]
@[reducible] def k0_t4_loop (i : grid0.Coords) : Scf.Loop 32 :=
  let c0_i32_24 : BitVec 32 := 0#32
  let arg2 : BitVec 32 := BitVec.ofNat 32 (i 2).val
  let v52 : BitVec 32 := Scalar.subi arg2 c0_i32_24
  let c1_i32_25 : BitVec 32 := 1#32
  let v54 : BitVec 32 := Scalar.divsi v52 c1_i32_25
  let v55 : BitVec 32 := Scalar.muli v54 c1_i32_25
  let v56 : BitVec 32 := Scalar.addi c0_i32_24 v55
  let v53 : BitVec 32 := Scalar.addi c0_i32_24 v52
  let c1_i32_27 : BitVec 32 := 1#32
  ⟨v56, v53, c1_i32_27⟩
def k0_off5 (i : grid0.Coords) (k0_t4 : Fin (k0_t4_loop i).trips) : Fin 4 → Nat :=
  let c0_44 : Index := 0#32
  let c1_45 : Index := 1#32
  let c0_i32_24 : BitVec 32 := 0#32
  let arg2 : BitVec 32 := BitVec.ofNat 32 (i 2).val
  let v52 : BitVec 32 := Scalar.subi arg2 c0_i32_24
  let c1_i32_25 : BitVec 32 := 1#32
  let v54 : BitVec 32 := Scalar.divsi v52 c1_i32_25
  let v55 : BitVec 32 := Scalar.muli v54 c1_i32_25
  let v56 : BitVec 32 := Scalar.addi c0_i32_24 v55
  let c1_i32_27 : BitVec 32 := 1#32
  let arg7 : BitVec 32 := Scf.iv v56 c1_i32_27 k0_t4
  let c512_i32_43 : BitVec 32 := 512#32
  let v95 : BitVec 32 := Scalar.muli arg7 c512_i32_43
  let v96 : Index := Scalar.indexCast v95
  let c0_46 : Index := 0#32
  ![0, 1, v96.toNat, 0]
def k0_off6 (i : grid0.Coords) : Fin 4 → Nat :=
  let c0_29 : Index := 0#32
  let c1_30 : Index := 1#32
  let arg2 : BitVec 32 := BitVec.ofNat 32 (i 2).val
  let c512_i32_28 : BitVec 32 := 512#32
  let v59 : BitVec 32 := Scalar.muli arg2 c512_i32_28
  let v60 : Index := Scalar.indexCast v59
  let c0_31 : Index := 0#32
  ![0, 1, v60.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnIdeal.lean ====
variable {F : FTy → Type} [FloatOps F] [Named F]
def κ : String → Option EReal := fun
  | "query_factor" => some (((Real.sqrt 96)⁻¹ * (Real.log 2)⁻¹ : ℝ) : EReal)
  | _ => none
-- ==== AttnRefIdeal.lean ====
abbrev S4x8x8192x96 : Shape := ⟨4, ![4, 8, 8192, 96]⟩
abbrev S4x8x8192x64 : Shape := ⟨4, ![4, 8, 8192, 64]⟩
abbrev S4x8192 : Shape := ⟨2, ![4, 8192]⟩
abbrev S4x8x8192x8192 : Shape := ⟨4, ![4, 8, 8192, 8192]⟩
abbrev S_ : Shape := ⟨0, ![]⟩
abbrev S4x1x1x8192 : Shape := ⟨4, ![4, 1, 1, 8192]⟩
abbrev S4x1x8192x1 : Shape := ⟨4, ![4, 1, 8192, 1]⟩
abbrev S4x1x8192x8192 : Shape := ⟨4, ![4, 1, 8192, 8192]⟩
abbrev S4x8x8192 : Shape := ⟨3, ![4, 8, 8192]⟩
abbrev S4x8x8192x1 : Shape := ⟨4, ![4, 8, 8192, 1]⟩
abbrev S4x8192x8x64 : Shape := ⟨4, ![4, 8192, 8, 64]⟩
abbrev S4x8192x512 : Shape := ⟨3, ![4, 8192, 512]⟩

abbrev nBuf : Space → Nat
  | .hbm => 37
  | .vmem => 0
  | .smem => 0
  | _ => 0

abbrev bufTy : (tb : Table) → Fin (tcTables nBuf tb) → BufTy
  | .hbm, ⟨0, _⟩ => ⟨S4x8x8192x96, .f32⟩
  | .hbm, ⟨1, _⟩ => ⟨S4x8x8192x96, .f32⟩
  | .hbm, ⟨2, _⟩ => ⟨S4x8x8192x64, .f32⟩
  | .hbm, ⟨3, _⟩ => ⟨S4x8192, .i32⟩
  | .hbm, ⟨4, _⟩ => ⟨S4x8x8192x8192, .f32⟩
  | .hbm, ⟨5, _⟩ => ⟨S_, .f32⟩
  | .hbm, ⟨6, _⟩ => ⟨S_, .f32⟩
  | .hbm, ⟨7, _⟩ => ⟨S4x8x8192x8192, .f32⟩
  | .hbm, ⟨8, _⟩ => ⟨S4x8x8192x8192, .f32⟩
  | .hbm, ⟨9, _⟩ => ⟨S4x1x1x8192, .i32⟩
  | .hbm, ⟨10, _⟩ => ⟨S4x1x8192x1, .i32⟩
  | .hbm, ⟨11, _⟩ => ⟨S4x1x8192x8192, .i32⟩
  | .hbm, ⟨12, _⟩ => ⟨S4x1x8192x8192, .i32⟩
  | .hbm, ⟨13, _⟩ => ⟨S4x1x8192x8192, .i1⟩
  | .hbm, ⟨14, _⟩ => ⟨S_, .f32⟩
  | .hbm, ⟨15, _⟩ => ⟨S_, .f32⟩
  | .hbm, ⟨16, _⟩ => ⟨S4x8x8192x8192, .i1⟩
  | .hbm, ⟨17, _⟩ => ⟨S4x8x8192x8192, .f32⟩
  | .hbm, ⟨18, _⟩ => ⟨S4x8x8192x8192, .f32⟩
  | .hbm, ⟨19, _⟩ => ⟨S_, .f32⟩
  | .hbm, ⟨20, _⟩ => ⟨S4x8x8192, .f32⟩
  | .hbm, ⟨21, _⟩ => ⟨S_, .f32⟩
  | .hbm, ⟨22, _⟩ => ⟨S4x8x8192, .f32⟩
  | .hbm, ⟨23, _⟩ => ⟨S4x8x8192, .f32⟩
  | .hbm, ⟨24, _⟩ => ⟨S4x8x8192x1, .f32⟩
  | .hbm, ⟨25, _⟩ => ⟨S4x8x8192x8192, .f32⟩
  | .hbm, ⟨26, _⟩ => ⟨S4x8x8192x8192, .f32⟩
  | .hbm, ⟨27, _⟩ => ⟨S4x8x8192x8192, .f32⟩
  | .hbm, ⟨28, _⟩ => ⟨S_, .f32⟩
  | .hbm, ⟨29, _⟩ => ⟨S4x8x8192, .f32⟩
  | .hbm, ⟨30, _⟩ => ⟨S4x8x8192x1, .f32⟩
  | .hbm, ⟨31, _⟩ => ⟨S4x8x8192x8192, .f32⟩
  | .hbm, ⟨32, _⟩ => ⟨S4x8x8192x8192, .f32⟩
  | .hbm, ⟨33, _⟩ => ⟨S4x8x8192x64, .f32⟩
  | .hbm, ⟨34, _⟩ => ⟨S4x8192x8x64, .f32⟩
  | .hbm, ⟨35, _⟩ => ⟨S4x8192x512, .f32⟩
  | .hbm, ⟨36, _⟩ => ⟨S4x8192x512, .bf16⟩
  | _, _ => ⟨S4x8x8192x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Moe.lean ====
abbrev S4x8192x1024 : Shape := ⟨3, ![4, 8192, 1024]⟩
abbrev S32768x4x8 : Shape := ⟨3, ![32768, 4, 8]⟩
abbrev S4x6144 : Shape := ⟨2, ![4, 6144]⟩
abbrev S4x8x1024x128 : Shape := ⟨4, ![4, 8, 1024, 128]⟩
abbrev S4x8x128x1024 : Shape := ⟨4, ![4, 8, 128, 1024]⟩
abbrev S1024 : Shape := ⟨1, ![1024]⟩
abbrev S_ : Shape := ⟨0, ![]⟩
abbrev S32768x4x128 : Shape := ⟨3, ![32768, 4, 128]⟩
abbrev S32768x512 : Shape := ⟨2, ![32768, 512]⟩
abbrev S4x1024x8x128 : Shape := ⟨4, ![4, 1024, 8, 128]⟩
abbrev S4x1024x1024 : Shape := ⟨3, ![4, 1024, 1024]⟩
abbrev S32768x1024 : Shape := ⟨2, ![32768, 1024]⟩
abbrev S4x6x1024 : Shape := ⟨3, ![4, 6, 1024]⟩
abbrev S1x1024 : Shape := ⟨2, ![1, 1024]⟩
abbrev S512x1024 : Shape := ⟨2, ![512, 1024]⟩
abbrev S512x128 : Shape := ⟨2, ![512, 128]⟩
abbrev S1x6x1024 : Shape := ⟨3, ![1, 6, 1024]⟩
abbrev S1x1024x1024 : Shape := ⟨3, ![1, 1024, 1024]⟩
abbrev S1024x1024 : Shape := ⟨2, ![1024, 1024]⟩
abbrev S512x1 : Shape := ⟨2, ![512, 1]⟩
abbrev S1x1x1024 : Shape := ⟨3, ![1, 1, 1024]⟩
abbrev S512 : Shape := ⟨1, ![512]⟩

abbrev nBuf : Space → Nat
  | .hbm => 26
  | .vmem => 18
  | .smem => 0
  | _ => 0

abbrev bufTy : (tb : Table) → Fin (tcTables nBuf tb) → BufTy
  | .hbm, ⟨0, _⟩ => ⟨S4x8192x1024, .f32⟩
  | .hbm, ⟨1, _⟩ => ⟨S32768x4x8, .f32⟩
  | .hbm, ⟨2, _⟩ => ⟨S4x8192x1024, .f32⟩
  | .hbm, ⟨3, _⟩ => ⟨S4x6144, .f32⟩
  | .hbm, ⟨4, _⟩ => ⟨S4x8x1024x128, .f32⟩
  | .hbm, ⟨5, _⟩ => ⟨S4x8x1024x128, .f32⟩
  | .hbm, ⟨6, _⟩ => ⟨S4x8x128x1024, .f32⟩
  | .hbm, ⟨7, _⟩ => ⟨S1024, .f32⟩
  | .hbm, ⟨8, _⟩ => ⟨S_, .i32⟩
  | .hbm, ⟨9, _⟩ => ⟨S_, .f32⟩
  | .hbm, ⟨10, _⟩ => ⟨S32768x4x128, .f32⟩
  | .hbm, ⟨11, _⟩ => ⟨S32768x512, .f32⟩
  | .hbm, ⟨12, _⟩ => ⟨S4x1024x8x128, .f32⟩
  | .hbm, ⟨13, _⟩ => ⟨S4x1024x1024, .f32⟩
  | .hbm, ⟨14, _⟩ => ⟨S4x1024x1024, .bf16⟩
  | .hbm, ⟨15, _⟩ => ⟨S4x1024x8x128, .f32⟩
  | .hbm, ⟨16, _⟩ => ⟨S4x1024x1024, .f32⟩
  | .hbm, ⟨17, _⟩ => ⟨S4x1024x1024, .bf16⟩
  | .hbm, ⟨18, _⟩ => ⟨S4x1024x1024, .f32⟩
  | .hbm, ⟨19, _⟩ => ⟨S4x1024x1024, .bf16⟩
  | .hbm, ⟨20, _⟩ => ⟨S32768x1024, .f32⟩
  | .hbm, ⟨21, _⟩ => ⟨S32768x1024, .bf16⟩
  | .hbm, ⟨22, _⟩ => ⟨S32768x1024, .f32⟩
  | .hbm, ⟨23, _⟩ => ⟨S4x6x1024, .f32⟩
  | .hbm, ⟨24, _⟩ => ⟨S1x1024, .f32⟩
  | .hbm, ⟨25, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S512x1024, .f32⟩
  | .local _ .vmem, ⟨5, _⟩ => ⟨S512x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v102 : BitVec 1 := Scalar.cmpi .eq arg1 c3_i32
  let v103 : BitVec 32 := Scalar.extui v102
  let c0_i32_19 : BitVec 32 := 0#32
  let v104 : BitVec 1 := Scalar.cmpi .ne v103 c0_i32_19
  v104

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MoeRefIdeal.lean ====
abbrev S4x8192x1024 : Shape := ⟨3, ![4, 8192, 1024]⟩
abbrev S32768x4x8 : Shape := ⟨3, ![32768, 4, 8]⟩
abbrev S4x6144 : Shape := ⟨2, ![4, 6144]⟩
abbrev S4x8x1024x128 : Shape := ⟨4, ![4, 8, 1024, 128]⟩
abbrev S4x8x128x1024 : Shape := ⟨4, ![4, 8, 128, 1024]⟩
abbrev S1024 : Shape := ⟨1, ![1024]⟩
abbrev S4x1024 : Shape := ⟨2, ![4, 1024]⟩
abbrev S4x1x1024 : Shape := ⟨3, ![4, 1, 1024]⟩
abbrev S32768x1024 : Shape := ⟨2, ![32768, 1024]⟩
abbrev S_ : Shape := ⟨0, ![]⟩
abbrev S1x8x1024x128 : Shape := ⟨4, ![1, 8, 1024, 128]⟩
abbrev S8x1024x128 : Shape := ⟨3, ![8, 1024, 128]⟩
abbrev S32768x8x128 : Shape := ⟨3, ![32768, 8, 128]⟩
abbrev S32768x1x8 : Shape := ⟨3, ![32768, 1, 8]⟩
abbrev S32768x8 : Shape := ⟨2, ![32768, 8]⟩
abbrev S32768x8x1 : Shape := ⟨3, ![32768, 8, 1]⟩
abbrev S1x8x128x1024 : Shape := ⟨4, ![1, 8, 128, 1024]⟩
abbrev S8x128x1024 : Shape := ⟨3, ![8, 128, 1024]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 139
  | .vmem => 0
  | .smem => 0
  | _ => 0

abbrev hbmTy0_0 (i : Nat) : BufTy := match i % 128 with
  | 0 => ⟨S4x8192x1024, .f32⟩
  | 1 => ⟨S32768x4x8, .f32⟩
  | 2 => ⟨S4x8192x1024, .f32⟩
  | 3 => ⟨S4x6144, .f32⟩
  | 4 => ⟨S4x8x1024x128, .f32⟩
  | 5 => ⟨S4x8x1024x128, .f32⟩
  | 6 => ⟨S4x8x128x1024, .f32⟩
  | 7 => ⟨S1024, .f32⟩
  | 8 => ⟨S4x1024, .f32⟩
  | 9 => ⟨S4x1024, .f32⟩
  | 10 => ⟨S4x1024, .f32⟩
  | 11 => ⟨S4x1024, .f32⟩
  | 12 => ⟨S4x1024, .f32⟩
  | 13 => ⟨S4x1024, .f32⟩
  | 14 => ⟨S4x1x1024, .f32⟩
  | 15 => ⟨S32768x1024, .f32⟩
  | 16 => ⟨S_, .f32⟩
  | 17 => ⟨S32768x1024, .f32⟩
  | 18 => ⟨S1x8x1024x128, .f32⟩
  | 19 => ⟨S8x1024x128, .f32⟩
  | 20 => ⟨S32768x8x128, .f32⟩
  | 21 => ⟨S1x8x1024x128, .f32⟩
  | 22 => ⟨S8x1024x128, .f32⟩
  | 23 => ⟨S32768x8x128, .f32⟩
  | 24 => ⟨S32768x8x128, .f32⟩
  | 25 => ⟨S32768x8x128, .f32⟩
  | 26 => ⟨S_, .f32⟩
  | 27 => ⟨S32768x8x128, .f32⟩
  | 28 => ⟨S32768x8x128, .f32⟩
  | 29 => ⟨S_, .f32⟩
  | 30 => ⟨S32768x8x128, .f32⟩
  | 31 => ⟨S32768x8x128, .f32⟩
  | 32 => ⟨S32768x8x128, .f32⟩
  | 33 => ⟨S32768x8x128, .f32⟩
  | 34 => ⟨S32768x1x8, .f32⟩
  | 35 => ⟨S32768x8, .f32⟩
  | 36 => ⟨S32768x8x1, .f32⟩
  | 37 => ⟨S32768x8x128, .f32⟩
  | 38 => ⟨S32768x8x128, .f32⟩
  | 39 => ⟨S1x8x128x1024, .f32⟩
  | 40 => ⟨S8x128x1024, .f32⟩
  | 41 => ⟨S32768x1024, .f32⟩
  | 42 => ⟨S32768x1024, .f32⟩
  | 43 => ⟨S1x8x1024x128, .f32⟩
  | 44 => ⟨S8x1024x128, .f32⟩
  | 45 => ⟨S32768x8x128, .f32⟩
  | 46 => ⟨S1x8x1024x128, .f32⟩
  | 47 => ⟨S8x1024x128, .f32⟩
  | 48 => ⟨S32768x8x128, .f32⟩
  | 49 => ⟨S32768x8x128, .f32⟩
  | 50 => ⟨S32768x8x128, .f32⟩
  | 51 => ⟨S_, .f32⟩
  | 52 => ⟨S32768x8x128, .f32⟩
  | 53 => ⟨S32768x8x128, .f32⟩
  | 54 => ⟨S_, .f32⟩
  | 55 => ⟨S32768x8x128, .f32⟩
  | 56 => ⟨S32768x8x128, .f32⟩
  | 57 => ⟨S32768x8x128, .f32⟩
  | 58 => ⟨S32768x8x128, .f32⟩
  | 59 => ⟨S32768x1x8, .f32⟩
  | 60 => ⟨S32768x8, .f32⟩
  | 61 => ⟨S32768x8x1, .f32⟩
  | 62 => ⟨S32768x8x128, .f32⟩
  | 63 => ⟨S32768x8x128, .f32⟩
  | 64 => ⟨S1x8x128x1024, .f32⟩
  | 65 => ⟨S8x128x1024, .f32⟩
  | 66 => ⟨S32768x1024, .f32⟩
  | 67 => ⟨S32768x1024, .f32⟩
  | 68 => ⟨S1x8x1024x128, .f32⟩
  | 69 => ⟨S8x1024x128, .f32⟩
  | 70 => ⟨S32768x8x128, .f32⟩
  | 71 => ⟨S1x8x1024x128, .f32⟩
  | 72 => ⟨S8x1024x128, .f32⟩
  | 73 => ⟨S32768x8x128, .f32⟩
  | 74 => ⟨S32768x8x128, .f32⟩
  | 75 => ⟨S32768x8x128, .f32⟩
  | 76 => ⟨S_, .f32⟩
  | 77 => ⟨S32768x8x128, .f32⟩
  | 78 => ⟨S32768x8x128, .f32⟩
  | 79 => ⟨S_, .f32⟩
  | 80 => ⟨S32768x8x128, .f32⟩
  | 81 => ⟨S32768x8x128, .f32⟩
  | 82 => ⟨S32768x8x128, .f32⟩
  | 83 => ⟨S32768x8x128, .f32⟩
  | 84 => ⟨S32768x1x8, .f32⟩
  | 85 => ⟨S32768x8, .f32⟩
  | 86 => ⟨S32768x8x1, .f32⟩
  | 87 => ⟨S32768x8x128, .f32⟩
  | 88 => ⟨S32768x8x128, .f32⟩
  | 89 => ⟨S1x8x128x1024, .f32⟩
  | 90 => ⟨S8x128x1024, .f32⟩
  | 91 => ⟨S32768x1024, .f32⟩
  | 92 => ⟨S32768x1024, .f32⟩
  | 93 => ⟨S1x8x1024x128, .f32⟩
  | 94 => ⟨S8x1024x128, .f32⟩
  | 95 => ⟨S32768x8x128, .f32⟩
  | 96 => ⟨S1x8x1024x128, .f32⟩
  | 97 => ⟨S8x1024x128, .f32⟩
  | 98 => ⟨S32768x8x128, .f32⟩
  | 99 => ⟨S32768x8x128, .f32⟩
  | 100 => ⟨S32768x8x128, .f32⟩
  | 101 => ⟨S_, .f32⟩
  | 102 => ⟨S32768x8x128, .f32⟩
  | 103 => ⟨S32768x8x128, .f32⟩
  | 104 => ⟨S_, .f32⟩
  | 105 => ⟨S32768x8x128, .f32⟩
  | 106 => ⟨S32768x8x128, .f32⟩
  | 107 => ⟨S32768x8x128, .f32⟩
  | 108 => ⟨S32768x8x128, .f32⟩
  | 109 => ⟨S32768x1x8, .f32⟩
  | 110 => ⟨S32768x8, .f32⟩
  | 111 => ⟨S32768x8x1, .f32⟩
  | 112 => ⟨S32768x8x128, .f32⟩
  | 113 => ⟨S32768x8x128, .f32⟩
  | 114 => ⟨S1x8x128x1024, .f32⟩
  | 115 => ⟨S8x128x1024, .f32⟩
  | 116 => ⟨S32768x1024, .f32⟩
  | 117 => ⟨S32768x1024, .f32⟩
  | 118 => ⟨S4x8192x1024, .f32⟩
  | 119 => ⟨S4x8192x1024, .f32⟩
  | 120 => ⟨S4x8192x1024, .f32⟩
  | 121 => ⟨S4x8192x1024, .f32⟩
  | 122 => ⟨S4x8192x1024, .f32⟩
  | 123 => ⟨S_, .f32⟩
  | 124 => ⟨S4x8192, .f32⟩
  | 125 => ⟨S4x8192x1, .f32⟩
  | 126 => ⟨S_, .f32⟩
  | 127 => ⟨S4x8192x1, .f32⟩
  | _ => ⟨S4x8192x1024, .f32⟩

abbrev hbmTy0_1 (i : Nat) : BufTy := match i % 128 with
  | 0 => ⟨S4x8192x1, .f32⟩
  | 1 => ⟨S_, .f32⟩
  | 2 => ⟨S4x8192x1, .f32⟩
  | 3 => ⟨S4x8192x1, .f32⟩
  | 4 => ⟨S4x8192x1, .f32⟩
  | 5 => ⟨S4x8192x1024, .f32⟩
  | 6 => ⟨S4x8192x1024, .f32⟩
  | 7 => ⟨S1x1x1024, .f32⟩
  | 8 => ⟨S4x8192x1024, .f32⟩
  | 9 => ⟨S4x8192x1024, .f32⟩
  | 10 => ⟨S32768x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call2_v0 : Ref sig .tc := ⟨.hbm, 74, rfl⟩
abbrev main_call2_v1 : Ref sig .tc := ⟨.hbm, 75, rfl⟩
abbrev main_call2_cst : Ref sig .tc := ⟨.hbm, 76, rfl⟩
abbrev main_call2_v2 : Ref sig .tc := ⟨.hbm, 77, rfl⟩
abbrev main_call2_v3 : Ref sig .tc := ⟨.hbm, 78, rfl⟩
abbrev main_call2_cst_0 : Ref sig .tc := ⟨.hbm, 79, rfl⟩
abbrev main_call2_v4 : Ref sig .tc := ⟨.hbm, 80, rfl⟩
abbrev main_call2_v5 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call3_v0 : Ref sig .tc := ⟨.hbm, 99, rfl⟩
abbrev main_call3_v1 : Ref sig .tc := ⟨.hbm, 100, rfl⟩
abbrev main_call3_cst : Ref sig .tc := ⟨.hbm, 101, rfl⟩
abbrev main_call3_v2 : Ref sig .tc := ⟨.hbm, 102, rfl⟩
abbrev main_call3_v3 : Ref sig .tc := ⟨.hbm, 103, rfl⟩
abbrev main_call3_cst_0 : Ref sig .tc := ⟨.hbm, 104, rfl⟩
abbrev main_call3_v4 : Ref sig .tc := ⟨.hbm, 105, rfl⟩
abbrev main_call3_v5 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_0 : Ref sig .tc := ⟨.hbm, 123, rfl⟩
abbrev main_v82 : Ref sig .tc := ⟨.hbm, 124, rfl⟩
abbrev main_v83 : Ref sig .tc := ⟨.hbm, 125, rfl⟩
abbrev main_cst_1 : Ref sig .tc := ⟨.hbm, 126, rfl⟩
abbrev main_v84 : Ref sig .tc := ⟨.hbm, 127, rfl⟩
abbrev main_v85 : Ref sig .tc := ⟨.hbm, 128, rfl⟩
abbrev main_cst_2 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩

abbrev nD : Nat := 1
abbrev τ : Topo := Topo.v7x

variable {F : FTy → Type} [FloatOps F]
-- ==== In.lean ====
abbrev S4x8192x1024 : Shape := ⟨3, ![4, 8192, 1024]⟩
abbrev S4x6144 : Shape := ⟨2, ![4, 6144]⟩
abbrev S4x8192x16 : Shape := ⟨3, ![4, 8192, 16]⟩
abbrev S1024 : Shape := ⟨1, ![1024]⟩
abbrev S1024x3744 : Shape := ⟨2, ![1024, 3744]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S_ : Shape := ⟨0, ![]⟩
abbrev S32768x64 : Shape := ⟨2, ![32768, 64]⟩
abbrev S32768x16 : Shape := ⟨2, ![32768, 16]⟩
abbrev S32768x32 : Shape := ⟨2, ![32768, 32]⟩
abbrev S32768x128 : Shape := ⟨2, ![32768, 128]⟩
abbrev S32768x80 : Shape := ⟨2, ![32768, 80]⟩
abbrev S32768x48 : Shape := ⟨2, ![32768, 48]⟩
abbrev S1024x640 : Shape := ⟨2, ![1024, 640]⟩
abbrev S1024x64 : Shape := ⟨2, ![1024, 64]⟩
abbrev S1024x32 : Shape := ⟨2, ![1024, 32]⟩
abbrev S1024x3072 : Shape := ⟨2, ![1024, 3072]⟩
abbrev S1024x3840 : Shape := ⟨2, ![1024, 3840]⟩
abbrev S384x8x96 : Shape := ⟨3, ![384, 8, 96]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S256x512 : Shape := ⟨2, ![256, 512]⟩
abbrev S32768x1024 : Shape := ⟨2, ![32768, 1024]⟩
abbrev S4x6x1024 : Shape := ⟨3, ![4, 6, 1024]⟩
abbrev S1x1024 : Shape := ⟨2, ![1, 1024]⟩
abbrev S1x384 : Shape := ⟨2, ![1, 384]⟩
abbrev S1x256 : Shape := ⟨2, ![1, 256]⟩
abbrev S4x8x8192x128 : Shape := ⟨4, ![4, 8, 8192, 128]⟩
abbrev S32768x512 : Shape := ⟨2, ![32768, 512]⟩
abbrev S32768x2048 : Shape := ⟨2, ![32768, 2048]⟩
abbrev S512x1024 : Shape := ⟨2, ![512, 1024]⟩
abbrev S1x6x1024 : Shape := ⟨3, ![1, 6, 1024]⟩
abbrev S512x128 : Shape := ⟨2, ![512, 128]⟩
abbrev S1x8x512x128 : Shape := ⟨4, ![1, 8, 512, 128]⟩
abbrev S512x512 : Shape := ⟨2, ![512, 512]⟩
abbrev S512x2048 : Shape := ⟨2, ![512, 2048]⟩
abbrev S1x1x1024 : Shape := ⟨3, ![1, 1, 1024]⟩
abbrev S512 : Shape := ⟨1, ![512]⟩
abbrev S512x1 : Shape := ⟨2, ![512, 1]⟩
abbrev S512x3840 : Shape := ⟨2, ![512, 3840]⟩
abbrev S512x384 : Shape := ⟨2, ![512, 384]⟩
abbrev S512x256 : Shape := ⟨2, ![512, 256]⟩
abbrev S1x128 : Shape := ⟨2, ![1, 128]⟩
abbrev S1x1x512x128 : Shape := ⟨4, ![1, 1, 512, 128]⟩

abbrev nBuf : Space → Nat
  | .hbm => 70
  | .vmem => 27
  | .smem => 0
  | _ => 0

abbrev bufTy : (tb : Table) → Fin (tcTables nBuf tb) → BufTy
  | .hbm, ⟨0, _⟩ => ⟨S4x8192x1024, .f32⟩
  | .hbm, ⟨1, _⟩ => ⟨S4x6144, .f32⟩
  | .hbm, ⟨2, _⟩ => ⟨S4x8192x16, .f32⟩
  | .hbm, ⟨3, _⟩ => ⟨S4x8192x16, .f32⟩
  | .hbm, ⟨4, _⟩ => ⟨S1024, .f32⟩
  | .hbm, ⟨5, _⟩ => ⟨S1024x3744, .f32⟩
  | .hbm, ⟨6, _⟩ => ⟨S384, .f32⟩
  | .hbm, ⟨7, _⟩ => ⟨S384x768, .f32⟩
  | .hbm, ⟨8, _⟩ => ⟨S256, .f32⟩
  | .hbm, ⟨9, _⟩ => ⟨S256x1024, .f32⟩
  | .hbm, ⟨10, _⟩ => ⟨S_, .f32⟩
  | .hbm, ⟨11, _⟩ => ⟨S32768x64, .f32⟩
  | .hbm, ⟨12, _⟩ => ⟨S32768x16, .f32⟩
  | .hbm, ⟨13, _⟩ => ⟨S32768x16, .f32⟩
  | .hbm, ⟨14, _⟩ => ⟨S_, .f32⟩
  | .hbm, ⟨15, _⟩ => ⟨S32768x32, .f32⟩
  | .hbm, ⟨16, _⟩ => ⟨S32768x128, .f32⟩
  | .hbm, ⟨17, _⟩ => ⟨S_, .f32⟩
  | .hbm, ⟨18, _⟩ => ⟨S32768x80, .f32⟩
  | .hbm, ⟨19, _⟩ => ⟨S_, .f32⟩
  | .hbm, ⟨20, _⟩ => ⟨S32768x32, .f32⟩
  | .hbm, ⟨21, _⟩ => ⟨S32768x128, .f32⟩
  | .hbm, ⟨22, _⟩ => ⟨S_, .f32⟩
  | .hbm, ⟨23, _⟩ => ⟨S32768x64, .f32⟩
  | .hbm, ⟨24, _⟩ => ⟨S32768x16, .f32⟩
  | .hbm, ⟨25, _⟩ => ⟨S_, .f32⟩
  | .hbm, ⟨26, _⟩ => ⟨S32768x48, .f32⟩
  | .hbm, ⟨27, _⟩ => ⟨S32768x128, .f32⟩
  | .hbm, ⟨28, _⟩ => ⟨S1024x640, .f32⟩
  | .hbm, ⟨29, _⟩ => ⟨S_, .f32⟩
  | .hbm, ⟨30, _⟩ => ⟨S1024x64, .f32⟩
  | .hbm, ⟨31, _⟩ => ⟨S1024x32, .f32⟩
  | .hbm, ⟨32, _⟩ => ⟨S_, .f32⟩
  | .hbm, ⟨33, _⟩ => ⟨S1024x32, .f32⟩
  | .hbm, ⟨34, _⟩ => ⟨S1024x3072, .f32⟩
  | .hbm, ⟨35, _⟩ => ⟨S1024x3840, .f32⟩
  | .hbm, ⟨36, _⟩ => ⟨S1024x3840, .bf16⟩
  | .hbm, ⟨37, _⟩ => ⟨S384x8x96, .f32⟩
  | .hbm, ⟨38, _⟩ => ⟨S_, .i32⟩
  | .hbm, ⟨39, _⟩ => ⟨S_, .f32⟩
  | .hbm, ⟨40, _⟩ => ⟨S384x8x128, .f32⟩
  | .hbm, ⟨41, _⟩ => ⟨S384x1024, .f32⟩
  | .hbm, ⟨42, _⟩ => ⟨S384x1024, .bf16⟩
  | .hbm, ⟨43, _⟩ => ⟨S256x8x128, .f32⟩
  | .hbm, ⟨44, _⟩ => ⟨S256x8x64, .f32⟩
  | .hbm, ⟨45, _⟩ => ⟨S256x512, .f32⟩
  | .hbm, ⟨46, _⟩ => ⟨S256x8x64, .f32⟩
  | .hbm, ⟨47, _⟩ => ⟨S_, .i32⟩
  | .hbm, ⟨48, _⟩ => ⟨S_, .f32⟩
  | .hbm, ⟨49, _⟩ => ⟨S256x8x128, .f32⟩
  | .hbm, ⟨50, _⟩ => ⟨S256x1024, .f32⟩
  | .hbm, ⟨51, _⟩ => ⟨S256x1024, .bf16⟩
  | .hbm, ⟨52, _⟩ => ⟨S256x8x64, .f32⟩
  | .hbm, ⟨53, _⟩ => ⟨S256x512, .f32⟩
  | .hbm, ⟨54, _⟩ => ⟨S256x8x64, .f32⟩
  | .hbm, ⟨55, _⟩ => ⟨S_, .i32⟩
  | .hbm, ⟨56, _⟩ => ⟨S_, .f32⟩
  | .hbm, ⟨57, _⟩ => ⟨S256x8x128, .f32⟩
  | .hbm, ⟨58, _⟩ => ⟨S256x1024, .f32⟩
  | .hbm, ⟨59, _⟩ => ⟨S256x1024, .bf16⟩
  | .hbm, ⟨60, _⟩ => ⟨S32768x1024, .f32⟩
  | .hbm, ⟨61, _⟩ => ⟨S4x6x1024, .f32⟩
  | .hbm, ⟨62, _⟩ => ⟨S1x1024, .f32⟩
  | .hbm, ⟨63, _⟩ => ⟨S1x384, .f32⟩
  | .hbm, ⟨64, _⟩ => ⟨S1x256, .f32⟩
  | .hbm, ⟨65, _⟩ => ⟨S4x8x8192x128, .bf16⟩
  | .hbm, ⟨66, _⟩ => ⟨S4x8x8192x128, .bf16⟩
  | .hbm, ⟨67, _⟩ => ⟨S4x8x8192x128, .bf16⟩
  | .hbm, ⟨68, _⟩ => ⟨S32768x512, .bf16⟩
  | .hbm, ⟨69, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3840, .bf16⟩
  | .local _ .vmem, ⟨6, _⟩ => ⟨S1x384, .f32⟩
  | .local _ .vmem, ⟨7, _⟩ => ⟨S384x1024, .bf16⟩
  | .local _ .vmem, ⟨8, _⟩ => ⟨S1x256, .f32⟩
  | .local _ .vmem, ⟨9, _⟩ => ⟨S256x1024, .bf16⟩
  | .local _ .vmem, ⟨10, _⟩ => ⟨S256x1024, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S1x8x512x128, .bf16⟩
  | .local _ .vmem, ⟨18, _⟩ => ⟨S1x8x512x128, .bf16⟩
  | .local _ .vmem, ⟨19, _⟩ => ⟨S1x8x512x128, .bf16⟩
  | .local _ .vmem, ⟨20, _⟩ => ⟨S1x8x512x128, .bf16⟩
  | .local _ .vmem, ⟨21, _⟩ => ⟨S1x8x512x128, .bf16⟩
  | .local _ .vmem, ⟨22, _⟩ => ⟨S1x8x512x128, .bf16⟩
  | .local _ .vmem, ⟨23, _⟩ => ⟨S512x512, .bf16⟩
  | .local _ .vmem, ⟨24, _⟩ => ⟨S512x512, .bf16⟩
  | .local _ .vmem, ⟨25, _⟩ => ⟨S512x2048, .bf16⟩
  | .local _ .vmem, ⟨26, _⟩ => ⟨S512x2048, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_cst_6 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_call0_v0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_7 : Ref sig .tc := ⟨.hbm, 47, rfl⟩
abbrev main_call1_v0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_call2_v0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41_0 : Ref sig .tc := ⟨.hbm, 65, rfl⟩
abbrev main_v41_1 : Ref sig .tc := ⟨.hbm, 66, rfl⟩
abbrev main_v41_2 : Ref sig .tc := ⟨.hbm, 67, rfl⟩
abbrev main_v41_3 : Ref sig .tc := ⟨.hbm, 68, rfl⟩
abbrev main_v41_4 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3840 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== InRefIdeal.lean ====
abbrev S4x8192x1024 : Shape := ⟨3, ![4, 8192, 1024]⟩
abbrev S4x6144 : Shape := ⟨2, ![4, 6144]⟩
abbrev S4x8192x16 : Shape := ⟨3, ![4, 8192, 16]⟩
abbrev S1024 : Shape := ⟨1, ![1024]⟩
abbrev S1024x3744 : Shape := ⟨2, ![1024, 3744]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S4x1024 : Shape := ⟨2, ![4, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3744 : Shape := ⟨3, ![4, 8192, 3744]⟩
abbrev S4x8192x384 : Shape := ⟨3, ![4, 8192, 384]⟩
abbrev S4x8192x256 : Shape := ⟨3, ![4, 8192, 256]⟩
abbrev S4x8192x32 : Shape := ⟨3, ![4, 8192, 32]⟩
abbrev S4x8192x2048 : Shape := ⟨3, ![4, 8192, 2048]⟩
abbrev S1x1x384 : Shape := ⟨3, ![1, 1, 384]⟩
abbrev S4x8192x768 : Shape := ⟨3, ![4, 8192, 768]⟩
abbrev S4x8192x8x96 : Shape := ⟨4, ![4, 8192, 8, 96]⟩
abbrev S4x8192x8x64 : Shape := ⟨4, ![4, 8192, 8, 64]⟩
abbrev S4x8192x8x32 : Shape := ⟨4, ![4, 8192, 8, 32]⟩
abbrev S4x8192x1x16 : Shape := ⟨4, ![4, 8192, 1, 16]⟩
abbrev S4x8192x8x16 : Shape := ⟨4, ![4, 8192, 8, 16]⟩
abbrev S1x1x256 : Shape := ⟨3, ![1, 1, 256]⟩
abbrev S4x8192x8x128 : Shape := ⟨4, ![4, 8192, 8, 128]⟩
abbrev S4x8192x1x32 : Shape := ⟨4, ![4, 8192, 1, 32]⟩
abbrev S4x8x8192x96 : Shape := ⟨4, ![4, 8, 8192, 96]⟩
abbrev S4x8192x512 : Shape := ⟨3, ![4, 8192, 512]⟩
abbrev S32768x512 : Shape := ⟨2, ![32768, 512]⟩
abbrev S32768x2048 : Shape := ⟨2, ![32768, 2048]⟩
abbrev S4x8x8192x128 : Shape := ⟨4, ![4, 8, 8192, 128]⟩
abbrev S4x8x8192x64 : Shape := ⟨4, ![4, 8, 8192, 64]⟩

abbrev nBuf : Space → Nat
  | .hbm => 153
  | .vmem => 0
  | .smem => 0
  | _ => 0

abbrev hbmTy0_0 (i : Nat) : BufTy := match i % 128 with
  | 0 => ⟨S4x8192x1024, .f32⟩
  | 1 => ⟨S4x6144, .f32⟩
  | 2 => ⟨S4x8192x16, .f32⟩
  | 3 => ⟨S4x8192x16, .f32⟩
  | 4 => ⟨S1024, .f32⟩
  | 5 => ⟨S1024x3744, .f32⟩
  | 6 => ⟨S384, .f32⟩
  | 7 => ⟨S384x768, .f32⟩
  | 8 => ⟨S256, .f32⟩
  | 9 => ⟨S256x1024, .f32⟩
  | 10 => ⟨S4x1024, .f32⟩
  | 11 => ⟨S4x1024, .f32⟩
  | 12 => ⟨S4x1024, .f32⟩
  | 13 => ⟨S4x1024, .f32⟩
  | 14 => ⟨S4x1024, .f32⟩
  | 15 => ⟨S4x1024, .f32⟩
  | 16 => ⟨S4x1x1024, .f32⟩
  | 17 => ⟨S4x1x1024, .f32⟩
  | 18 => ⟨S4x8192x1024, .f32⟩
  | 19 => ⟨S_, .f32⟩
  | 20 => ⟨S4x8192, .f32⟩
  | 21 => ⟨S4x8192x1, .f32⟩
  | 22 => ⟨S_, .f32⟩
  | 23 => ⟨S4x8192x1, .f32⟩
  | 24 => ⟨S4x8192x1, .f32⟩
  | 25 => ⟨S_, .f32⟩
  | 26 => ⟨S4x8192x1, .f32⟩
  | 27 => ⟨S4x8192x1, .f32⟩
  | 28 => ⟨S4x8192x1, .f32⟩
  | 29 => ⟨S4x8192x1024, .f32⟩
  | 30 => ⟨S4x8192x1024, .f32⟩
  | 31 => ⟨S1x1x1024, .f32⟩
  | 32 => ⟨S4x8192x1024, .f32⟩
  | 33 => ⟨S4x8192x1024, .f32⟩
  | 34 => ⟨S_, .f32⟩
  | 35 => ⟨S4x1x1024, .f32⟩
  | 36 => ⟨S4x1x1024, .f32⟩
  | 37 => ⟨S4x8192x1024, .f32⟩
  | 38 => ⟨S4x8192x1024, .f32⟩
  | 39 => ⟨S4x8192x1024, .f32⟩
  | 40 => ⟨S4x8192x1024, .f32⟩
  | 41 => ⟨S4x8192x3744, .f32⟩
  | 42 => ⟨S4x8192x384, .f32⟩
  | 43 => ⟨S4x8192x256, .f32⟩
  | 44 => ⟨S4x8192x32, .f32⟩
  | 45 => ⟨S4x8192x1024, .f32⟩
  | 46 => ⟨S4x8192x2048, .f32⟩
  | 47 => ⟨S4x8192x384, .f32⟩
  | 48 => ⟨S_, .f32⟩
  | 49 => ⟨S4x8192, .f32⟩
  | 50 => ⟨S4x8192x1, .f32⟩
  | 51 => ⟨S_, .f32⟩
  | 52 => ⟨S4x8192x1, .f32⟩
  | 53 => ⟨S4x8192x1, .f32⟩
  | 54 => ⟨S_, .f32⟩
  | 55 => ⟨S4x8192x1, .f32⟩
  | 56 => ⟨S4x8192x1, .f32⟩
  | 57 => ⟨S4x8192x1, .f32⟩
  | 58 => ⟨S4x8192x384, .f32⟩
  | 59 => ⟨S4x8192x384, .f32⟩
  | 60 => ⟨S1x1x384, .f32⟩
  | 61 => ⟨S4x8192x384, .f32⟩
  | 62 => ⟨S4x8192x384, .f32⟩
  | 63 => ⟨S4x8192x768, .f32⟩
  | 64 => ⟨S4x8192x8x96, .f32⟩
  | 65 => ⟨S4x8192x8x64, .f32⟩
  | 66 => ⟨S4x8192x8x32, .f32⟩
  | 67 => ⟨S4x8192x1x16, .f32⟩
  | 68 => ⟨S4x8192x1x16, .f32⟩
  | 69 => ⟨S4x8192x8x16, .f32⟩
  | 70 => ⟨S4x8192x8x16, .f32⟩
  | 71 => ⟨S4x8192x8x16, .f32⟩
  | 72 => ⟨S4x8192x8x16, .f32⟩
  | 73 => ⟨S4x8192x8x16, .f32⟩
  | 74 => ⟨S4x8192x8x16, .f32⟩
  | 75 => ⟨S4x8192x8x16, .f32⟩
  | 76 => ⟨S4x8192x8x16, .f32⟩
  | 77 => ⟨S4x8192x8x16, .f32⟩
  | 78 => ⟨S4x8192x8x16, .f32⟩
  | 79 => ⟨S4x8192x8x16, .f32⟩
  | 80 => ⟨S4x8192x8x16, .f32⟩
  | 81 => ⟨S4x8192x8x32, .f32⟩
  | 82 => ⟨S4x8192x256, .f32⟩
  | 83 => ⟨S_, .f32⟩
  | 84 => ⟨S4x8192, .f32⟩
  | 85 => ⟨S4x8192x1, .f32⟩
  | 86 => ⟨S_, .f32⟩
  | 87 => ⟨S4x8192x1, .f32⟩
  | 88 => ⟨S4x8192x1, .f32⟩
  | 89 => ⟨S_, .f32⟩
  | 90 => ⟨S4x8192x1, .f32⟩
  | 91 => ⟨S4x8192x1, .f32⟩
  | 92 => ⟨S4x8192x1, .f32⟩
  | 93 => ⟨S4x8192x256, .f32⟩
  | 94 => ⟨S4x8192x256, .f32⟩
  | 95 => ⟨S1x1x256, .f32⟩
  | 96 => ⟨S4x8192x256, .f32⟩
  | 97 => ⟨S4x8192x256, .f32⟩
  | 98 => ⟨S4x8192x1024, .f32⟩
  | 99 => ⟨S4x8192x8x128, .f32⟩
  | 100 => ⟨S4x8192x8x64, .f32⟩
  | 101 => ⟨S4x8192x8x64, .f32⟩
  | 102 => ⟨S4x8192x16, .f32⟩
  | 103 => ⟨S4x8192x16, .f32⟩
  | 104 => ⟨S4x8192x16, .f32⟩
  | 105 => ⟨S4x8192x16, .f32⟩
  | 106 => ⟨S4x8192x16, .f32⟩
  | 107 => ⟨S4x8192x16, .f32⟩
  | 108 => ⟨S4x8192x16, .f32⟩
  | 109 => ⟨S4x8192x16, .f32⟩
  | 110 => ⟨S4x8192x32, .f32⟩
  | 111 => ⟨S4x8192x1x32, .f32⟩
  | 112 => ⟨S4x8192x8x32, .f32⟩
  | 113 => ⟨S4x8192x8x96, .f32⟩
  | 114 => ⟨S4x8x8192x96, .f32⟩
  | 115 => ⟨S4x8192x8x96, .f32⟩
  | 116 => ⟨S4x8x8192x96, .f32⟩
  | 117 => ⟨S4x8192x512, .f32⟩
  | 118 => ⟨S4x8192x512, .f32⟩
  | 119 => ⟨S4x8192x512, .f32⟩
  | 120 => ⟨S4x8192x512, .f32⟩
  | 121 => ⟨S_, .f32⟩
  | 122 => ⟨S4x8192x512, .f32⟩
  | 123 => ⟨S4x8192x512, .f32⟩
  | 124 => ⟨S_, .f32⟩
  | 125 => ⟨S4x8192x512, .f32⟩
  | 126 => ⟨S4x8192x512, .f32⟩
  | 127 => ⟨S4x8192x512, .f32⟩
  | _ => ⟨S4x8192x1024, .f32⟩

abbrev hbmTy0_1 (i : Nat) : BufTy := match i % 128 with
  | 0 => ⟨S32768x512, .f32⟩
  | 1 => ⟨S4x8192x2048, .f32⟩
  | 2 => ⟨S4x8192x2048, .f32⟩
  | 3 => ⟨S_, .f32⟩
  | 4 => ⟨S4x8192x2048, .f32⟩
  | 5 => ⟨S4x8192x2048, .f32⟩
  | 6 => ⟨S_, .f32⟩
  | 7 => ⟨S4x8192x2048, .f32⟩
  | 8 => ⟨S4x8192x2048, .f32⟩
  | 9 => ⟨S32768x2048, .f32⟩
  | 10 => ⟨S_, .i32⟩
  | 11 => ⟨S_, .f32⟩
  | 12 => ⟨S4x8x8192x128, .f32⟩
  | 13 => ⟨S_, .i32⟩
  | 14 => ⟨S_, .f32⟩
  | 15 => ⟨S4x8x8192x128, .f32⟩
  | 16 => ⟨S4x8x8192x64, .f32⟩
  | 17 => ⟨S_, .i32⟩
  | 18 => ⟨S_, .f32⟩
  | 19 => ⟨S4x8x8192x128, .f32⟩
  | 20 => ⟨S4x8x8192x128, .bf16⟩
  | 21 => ⟨S4x8x8192x128, .bf16⟩
  | 22 => ⟨S4x8x8192x128, .bf16⟩
  | 23 => ⟨S32768x512, .bf16⟩
  | 24 => ⟨S32768x2048, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_6 : Ref sig .tc := ⟨.hbm, 83, rfl⟩
abbrev main_v66 : Ref sig .tc := ⟨.hbm, 84, rfl⟩
abbrev main_v67 : Ref sig .tc := ⟨.hbm, 85, rfl⟩
abbrev main_cst_7 : Ref sig .tc := ⟨.hbm, 86, rfl⟩
abbrev main_v68 : Ref sig .tc := ⟨.hbm, 87, rfl⟩
abbrev main_v69 : Ref sig .tc := ⟨.hbm, 88, rfl⟩
abbrev main_cst_8 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_cst_9 : Ref sig .tc := ⟨.hbm, 121, rfl⟩
abbrev main_v101 : Ref sig .tc := ⟨.hbm, 122, rfl⟩
abbrev main_v102 : Ref sig .tc := ⟨.hbm, 123, rfl⟩
abbrev main_cst_10 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_cst_11 : Ref sig .tc := ⟨.hbm, 131, rfl⟩
abbrev main_v109 : Ref sig .tc := ⟨.hbm, 132, rfl⟩
abbrev main_v110 : Ref sig .tc := ⟨.hbm, 133, rfl⟩
abbrev main_cst_12 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_c : Ref sig .tc := ⟨.hbm, 138, rfl⟩
abbrev main_call0_v0 : Ref sig .tc := ⟨.hbm, 139, rfl⟩
abbrev main_v114 : Ref sig .tc := ⟨.hbm, 140, rfl⟩
abbrev main_c_13 : Ref sig .tc := ⟨.hbm, 141, rfl⟩
abbrev main_call1_v0 : Ref sig .tc := ⟨.hbm, 142, rfl⟩
abbrev main_v115 : Ref sig .tc := ⟨.hbm, 143, rfl⟩
abbrev main_v116 : Ref sig .tc := ⟨.hbm, 144, rfl⟩
abbrev main_c_14 : Ref sig .tc := ⟨.hbm, 145, rfl⟩
abbrev main_call2_v0 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩

abbrev nD : Nat := 1
abbrev τ : Topo := Topo.v7x

variable {F : FTy → Type} [FloatOps F]
-- ==== Mix.lean ====
abbrev S4x8192x512 : Shape := ⟨3, ![4, 8192, 512]⟩
abbrev S4x8192x2048 : Shape := ⟨3, ![4, 8192, 2048]⟩
abbrev S4x8192x1024 : Shape := ⟨3, ![4, 8192, 1024]⟩
abbrev S4x6144 : Shape := ⟨2, ![4, 6144]⟩
abbrev S512x1024 : Shape := ⟨2, ![512, 1024]⟩
abbrev S31x512 : Shape := ⟨2, ![31, 512]⟩
abbrev S512 : Shape := ⟨1, ![512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1024x36 : Shape := ⟨2, ![1024, 36]⟩
abbrev S_ : Shape := ⟨0, ![]⟩
abbrev S1024x128 : Shape := ⟨2, ![1024, 128]⟩
abbrev S36 : Shape := ⟨1, ![36]⟩
abbrev S128 : Shape := ⟨1, ![128]⟩
abbrev S1x128 : Shape := ⟨2, ![1, 128]⟩
abbrev S32x512 : Shape := ⟨2, ![32, 512]⟩
abbrev S32768x512 : Shape := ⟨2, ![32768, 512]⟩
abbrev S32768x2048 : Shape := ⟨2, ![32768, 2048]⟩
abbrev S32768x1024 : Shape := ⟨2, ![32768, 1024]⟩
abbrev S4x6x1024 : Shape := ⟨3, ![4, 6, 1024]⟩
abbrev S1x512 : Shape := ⟨2, ![1, 512]⟩
abbrev S1x1024 : Shape := ⟨2, ![1, 1024]⟩
abbrev S512x512 : Shape := ⟨2, ![512, 512]⟩
abbrev S512x2048 : Shape := ⟨2, ![512, 2048]⟩
abbrev S1x6x1024 : Shape := ⟨3, ![1, 6, 1024]⟩
abbrev S544x512 : Shape := ⟨2, ![544, 512]⟩
abbrev S512x1 : Shape := ⟨2, ![512, 1]⟩
abbrev S1x1x1024 : Shape := ⟨3, ![1, 1, 1024]⟩
abbrev S512x128 : Shape := ⟨2, ![512, 128]⟩

abbrev nBuf : Space → Nat
  | .hbm => 48
  | .vmem => 29
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x2048, .f32⟩
  | .hbm, ⟨3, _⟩ => ⟨S4x8192x1024, .f32⟩
  | .hbm, ⟨4, _⟩ => ⟨S4x6144, .f32⟩
  | .hbm, ⟨5, _⟩ => ⟨S512x1024, .f32⟩
  | .hbm, ⟨6, _⟩ => ⟨S31x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512x1024, .f32⟩
  | .hbm, ⟨11, _⟩ => ⟨S1024x1024, .f32⟩
  | .hbm, ⟨12, _⟩ => ⟨S1024, .f32⟩
  | .hbm, ⟨13, _⟩ => ⟨S1024x4, .f32⟩
  | .hbm, ⟨14, _⟩ => ⟨S4, .f32⟩
  | .hbm, ⟨15, _⟩ => ⟨S1024x32, .f32⟩
  | .hbm, ⟨16, _⟩ => ⟨S32, .f32⟩
  | .hbm, ⟨17, _⟩ => ⟨S1024x36, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S1024x128, .bf16⟩
  | .hbm, ⟨22, _⟩ => ⟨S36, .f32⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S_, .i32⟩
  | .hbm, ⟨28, _⟩ => ⟨S_, .f32⟩
  | .hbm, ⟨29, _⟩ => ⟨S32x512, .f32⟩
  | .hbm, ⟨30, _⟩ => ⟨S32768x512, .f32⟩
  | .hbm, ⟨31, _⟩ => ⟨S32768x512, .bf16⟩
  | .hbm, ⟨32, _⟩ => ⟨S32768x512, .f32⟩
  | .hbm, ⟨33, _⟩ => ⟨S32768x512, .bf16⟩
  | .hbm, ⟨34, _⟩ => ⟨S32768x2048, .f32⟩
  | .hbm, ⟨35, _⟩ => ⟨S32768x2048, .bf16⟩
  | .hbm, ⟨36, _⟩ => ⟨S32768x1024, .f32⟩
  | .hbm, ⟨37, _⟩ => ⟨S4x6x1024, .f32⟩
  | .hbm, ⟨38, _⟩ => ⟨S512x1024, .bf16⟩
  | .hbm, ⟨39, _⟩ => ⟨S1x512, .f32⟩
  | .hbm, ⟨40, _⟩ => ⟨S1x512, .f32⟩
  | .hbm, ⟨41, _⟩ => ⟨S1x512, .f32⟩
  | .hbm, ⟨42, _⟩ => ⟨S512x1024, .bf16⟩
  | .hbm, ⟨43, _⟩ => ⟨S1024x1024, .bf16⟩
  | .hbm, ⟨44, _⟩ => ⟨S1x1024, .f32⟩
  | .hbm, ⟨45, _⟩ => ⟨S32768x1024, .f32⟩
  | .hbm, ⟨46, _⟩ => ⟨S32768x1024, .bf16⟩
  | .hbm, ⟨47, _⟩ => ⟨S32768x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S32x512, .bf16⟩
  | .local _ .vmem, ⟨5, _⟩ => ⟨S32x512, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .f32⟩
  | .local _ .vmem, ⟨9, _⟩ => ⟨S512x1024, .f32⟩
  | .local _ .vmem, ⟨10, _⟩ => ⟨S1x6x1024, .f32⟩
  | .local _ .vmem, ⟨11, _⟩ => ⟨S1x6x1024, .f32⟩
  | .local _ .vmem, ⟨12, _⟩ => ⟨S512x1024, .bf16⟩
  | .local _ .vmem, ⟨13, _⟩ => ⟨S32x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S512x1024, .bf16⟩
  | .local _ .vmem, ⟨18, _⟩ => ⟨S1024x1024, .bf16⟩
  | .local _ .vmem, ⟨19, _⟩ => ⟨S1x1024, .f32⟩
  | .local _ .vmem, ⟨20, _⟩ => ⟨S1024x128, .bf16⟩
  | .local _ .vmem, ⟨21, _⟩ => ⟨S1x128, .f32⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S512x512, .f32⟩
  | .local _ .vmem, ⟨27, _⟩ => ⟨S512x512, .f32⟩
  | .local _ .vmem, ⟨28, _⟩ => ⟨S544x512, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_call0_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_call1_v0 : Ref sig .tc := ⟨.hbm, 24, rfl⟩
abbrev main_v4 : Ref sig .tc := ⟨.hbm, 25, rfl⟩
abbrev main_v5 : Ref sig .tc := ⟨.hbm, 26, rfl⟩
abbrev main_c_1 : Ref sig .tc := ⟨.hbm, 27, rfl⟩
abbrev main_call2_v0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22_0 : Ref sig .tc := ⟨.hbm, 45, rfl⟩
abbrev main_v22_1 : Ref sig .tc := ⟨.hbm, 46, rfl⟩
abbrev main_v22_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MixRefIdeal.lean ====
abbrev S4x8192x512 : Shape := ⟨3, ![4, 8192, 512]⟩
abbrev S4x8192x2048 : Shape := ⟨3, ![4, 8192, 2048]⟩
abbrev S4x8192x1024 : Shape := ⟨3, ![4, 8192, 1024]⟩
abbrev S4x6144 : Shape := ⟨2, ![4, 6144]⟩
abbrev S512x1024 : Shape := ⟨2, ![512, 1024]⟩
abbrev S31x512 : Shape := ⟨2, ![31, 512]⟩
abbrev S512 : Shape := ⟨1, ![512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S4x1024 : Shape := ⟨2, ![4, 1024]⟩
abbrev S4x1x1024 : Shape := ⟨3, ![4, 1, 1024]⟩
abbrev S_ : Shape := ⟨0, ![]⟩
abbrev S4x8222x512 : Shape := ⟨3, ![4, 8222, 512]⟩
abbrev S1x512 : Shape := ⟨2, ![1, 512]⟩
abbrev S1x1x512 : Shape := ⟨3, ![1, 1, 512]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩

abbrev nBuf : Space → Nat
  | .hbm => 329
  | .vmem => 0
  | .smem => 0
  | _ => 0

abbrev hbmTy0_0 (i : Nat) : BufTy := match i % 128 with
  | 0 => ⟨S4x8192x512, .f32⟩
  | 1 => ⟨S4x8192x512, .f32⟩
  | 2 => ⟨S4x8192x2048, .f32⟩
  | 3 => ⟨S4x8192x1024, .f32⟩
  | 4 => ⟨S4x6144, .f32⟩
  | 5 => ⟨S512x1024, .f32⟩
  | 6 => ⟨S31x512, .f32⟩
  | 7 => ⟨S512, .f32⟩
  | 8 => ⟨S512, .f32⟩
  | 9 => ⟨S512, .f32⟩
  | 10 => ⟨S512x1024, .f32⟩
  | 11 => ⟨S1024x1024, .f32⟩
  | 12 => ⟨S1024, .f32⟩
  | 13 => ⟨S1024x4, .f32⟩
  | 14 => ⟨S4, .f32⟩
  | 15 => ⟨S1024x32, .f32⟩
  | 16 => ⟨S32, .f32⟩
  | 17 => ⟨S4x1024, .f32⟩
  | 18 => ⟨S4x1024, .f32⟩
  | 19 => ⟨S4x1024, .f32⟩
  | 20 => ⟨S4x1024, .f32⟩
  | 21 => ⟨S4x1024, .f32⟩
  | 22 => ⟨S4x1024, .f32⟩
  | 23 => ⟨S4x1x1024, .f32⟩
  | 24 => ⟨S4x1x1024, .f32⟩
  | 25 => ⟨S4x1x1024, .f32⟩
  | 26 => ⟨S4x1x1024, .f32⟩
  | 27 => ⟨S4x1x1024, .f32⟩
  | 28 => ⟨S4x1x1024, .f32⟩
  | 29 => ⟨S4x8192x1024, .f32⟩
  | 30 => ⟨S_, .i32⟩
  | 31 => ⟨S_, .f32⟩
  | 32 => ⟨S4x8222x512, .f32⟩
  | 33 => ⟨S4x8192x512, .f32⟩
  | 34 => ⟨S1x512, .f32⟩
  | 35 => ⟨S512, .f32⟩
  | 36 => ⟨S1x1x512, .f32⟩
  | 37 => ⟨S4x8192x512, .f32⟩
  | 38 => ⟨S4x8192x512, .f32⟩
  | 39 => ⟨S_, .f32⟩
  | 40 => ⟨S4x8192x512, .f32⟩
  | 41 => ⟨S4x8192x512, .f32⟩
  | 42 => ⟨S4x8192x512, .f32⟩
  | 43 => ⟨S1x512, .f32⟩
  | 44 => ⟨S512, .f32⟩
  | 45 => ⟨S1x1x512, .f32⟩
  | 46 => ⟨S4x8192x512, .f32⟩
  | 47 => ⟨S4x8192x512, .f32⟩
  | 48 => ⟨S4x8192x512, .f32⟩
  | 49 => ⟨S4x8192x512, .f32⟩
  | 50 => ⟨S1x512, .f32⟩
  | 51 => ⟨S512, .f32⟩
  | 52 => ⟨S1x1x512, .f32⟩
  | 53 => ⟨S4x8192x512, .f32⟩
  | 54 => ⟨S4x8192x512, .f32⟩
  | 55 => ⟨S4x8192x512, .f32⟩
  | 56 => ⟨S4x8192x512, .f32⟩
  | 57 => ⟨S1x512, .f32⟩
  | 58 => ⟨S512, .f32⟩
  | 59 => ⟨S1x1x512, .f32⟩
  | 60 => ⟨S4x8192x512, .f32⟩
  | 61 => ⟨S4x8192x512, .f32⟩
  | 62 => ⟨S4x8192x512, .f32⟩
  | 63 => ⟨S4x8192x512, .f32⟩
  | 64 => ⟨S1x512, .f32⟩
  | 65 => ⟨S512, .f32⟩
  | 66 => ⟨S1x1x512, .f32⟩
  | 67 => ⟨S4x8192x512, .f32⟩
  | 68 => ⟨S4x8192x512, .f32⟩
  | 69 => ⟨S4x8192x512, .f32⟩
  | 70 => ⟨S4x8192x512, .f32⟩
  | 71 => ⟨S1x512, .f32⟩
  | 72 => ⟨S512, .f32⟩
  | 73 => ⟨S1x1x512, .f32⟩
  | 74 => ⟨S4x8192x512, .f32⟩
  | 75 => ⟨S4x8192x512, .f32⟩
  | 76 => ⟨S4x8192x512, .f32⟩
  | 77 => ⟨S4x8192x512, .f32⟩
  | 78 => ⟨S1x512, .f32⟩
  | 79 => ⟨S512, .f32⟩
  | 80 => ⟨S1x1x512, .f32⟩
  | 81 => ⟨S4x8192x512, .f32⟩
  | 82 => ⟨S4x8192x512, .f32⟩
  | 83 => ⟨S4x8192x512, .f32⟩
  | 84 => ⟨S4x8192x512, .f32⟩
  | 85 => ⟨S1x512, .f32⟩
  | 86 => ⟨S512, .f32⟩
  | 87 => ⟨S1x1x512, .f32⟩
  | 88 => ⟨S4x8192x512, .f32⟩
  | 89 => ⟨S4x8192x512, .f32⟩
  | 90 => ⟨S4x8192x512, .f32⟩
  | 91 => ⟨S4x8192x512, .f32⟩
  | 92 => ⟨S1x512, .f32⟩
  | 93 => ⟨S512, .f32⟩
  | 94 => ⟨S1x1x512, .f32⟩
  | 95 => ⟨S4x8192x512, .f32⟩
  | 96 => ⟨S4x8192x512, .f32⟩
  | 97 => ⟨S4x8192x512, .f32⟩
  | 98 => ⟨S4x8192x512, .f32⟩
  | 99 => ⟨S1x512, .f32⟩
  | 100 => ⟨S512, .f32⟩
  | 101 => ⟨S1x1x512, .f32⟩
  | 102 => ⟨S4x8192x512, .f32⟩
  | 103 => ⟨S4x8192x512, .f32⟩
  | 104 => ⟨S4x8192x512, .f32⟩
  | 105 => ⟨S4x8192x512, .f32⟩
  | 106 => ⟨S1x512, .f32⟩
  | 107 => ⟨S512, .f32⟩
  | 108 => ⟨S1x1x512, .f32⟩
  | 109 => ⟨S4x8192x512, .f32⟩
  | 110 => ⟨S4x8192x512, .f32⟩
  | 111 => ⟨S4x8192x512, .f32⟩
  | 112 => ⟨S4x8192x512, .f32⟩
  | 113 => ⟨S1x512, .f32⟩
  | 114 => ⟨S512, .f32⟩
  | 115 => ⟨S1x1x512, .f32⟩
  | 116 => ⟨S4x8192x512, .f32⟩
  | 117 => ⟨S4x8192x512, .f32⟩
  | 118 => ⟨S4x8192x512, .f32⟩
  | 119 => ⟨S4x8192x512, .f32⟩
  | 120 => ⟨S1x512, .f32⟩
  | 121 => ⟨S512, .f32⟩
  | 122 => ⟨S1x1x512, .f32⟩
  | 123 => ⟨S4x8192x512, .f32⟩
  | 124 => ⟨S4x8192x512, .f32⟩
  | 125 => ⟨S4x8192x512, .f32⟩
  | 126 => ⟨S4x8192x512, .f32⟩
  | 127 => ⟨S1x512, .f32⟩
  | _ => ⟨S4x8192x512, .f32⟩

abbrev hbmTy0_1 (i : Nat) : BufTy := match i % 128 with
  | 0 => ⟨S512, .f32⟩
  | 1 => ⟨S1x1x512, .f32⟩
  | 2 => ⟨S4x8192x512, .f32⟩
  | 3 => ⟨S4x8192x512, .f32⟩
  | 4 => ⟨S4x8192x512, .f32⟩
  | 5 => ⟨S4x8192x512, .f32⟩
  | 6 => ⟨S1x512, .f32⟩
  | 7 => ⟨S512, .f32⟩
  | 8 => ⟨S1x1x512, .f32⟩
  | 9 => ⟨S4x8192x512, .f32⟩
  | 10 => ⟨S4x8192x512, .f32⟩
  | 11 => ⟨S4x8192x512, .f32⟩
  | 12 => ⟨S4x8192x512, .f32⟩
  | 13 => ⟨S1x512, .f32⟩
  | 14 => ⟨S512, .f32⟩
  | 15 => ⟨S1x1x512, .f32⟩
  | 16 => ⟨S4x8192x512, .f32⟩
  | 17 => ⟨S4x8192x512, .f32⟩
  | 18 => ⟨S4x8192x512, .f32⟩
  | 19 => ⟨S4x8192x512, .f32⟩
  | 20 => ⟨S1x512, .f32⟩
  | 21 => ⟨S512, .f32⟩
  | 22 => ⟨S1x1x512, .f32⟩
  | 23 => ⟨S4x8192x512, .f32⟩
  | 24 => ⟨S4x8192x512, .f32⟩
  | 25 => ⟨S4x8192x512, .f32⟩
  | 26 => ⟨S4x8192x512, .f32⟩
  | 27 => ⟨S1x512, .f32⟩
  | 28 => ⟨S512, .f32⟩
  | 29 => ⟨S1x1x512, .f32⟩
  | 30 => ⟨S4x8192x512, .f32⟩
  | 31 => ⟨S4x8192x512, .f32⟩
  | 32 => ⟨S4x8192x512, .f32⟩
  | 33 => ⟨S4x8192x512, .f32⟩
  | 34 => ⟨S1x512, .f32⟩
  | 35 => ⟨S512, .f32⟩
  | 36 => ⟨S1x1x512, .f32⟩
  | 37 => ⟨S4x8192x512, .f32⟩
  | 38 => ⟨S4x8192x512, .f32⟩
  | 39 => ⟨S4x8192x512, .f32⟩
  | 40 => ⟨S4x8192x512, .f32⟩
  | 41 => ⟨S1x512, .f32⟩
  | 42 => ⟨S512, .f32⟩
  | 43 => ⟨S1x1x512, .f32⟩
  | 44 => ⟨S4x8192x512, .f32⟩
  | 45 => ⟨S4x8192x512, .f32⟩
  | 46 => ⟨S4x8192x512, .f32⟩
  | 47 => ⟨S4x8192x512, .f32⟩
  | 48 => ⟨S1x512, .f32⟩
  | 49 => ⟨S512, .f32⟩
  | 50 => ⟨S1x1x512, .f32⟩
  | 51 => ⟨S4x8192x512, .f32⟩
  | 52 => ⟨S4x8192x512, .f32⟩
  | 53 => ⟨S4x8192x512, .f32⟩
  | 54 => ⟨S4x8192x512, .f32⟩
  | 55 => ⟨S1x512, .f32⟩
  | 56 => ⟨S512, .f32⟩
  | 57 => ⟨S1x1x512, .f32⟩
  | 58 => ⟨S4x8192x512, .f32⟩
  | 59 => ⟨S4x8192x512, .f32⟩
  | 60 => ⟨S4x8192x512, .f32⟩
  | 61 => ⟨S4x8192x512, .f32⟩
  | 62 => ⟨S1x512, .f32⟩
  | 63 => ⟨S512, .f32⟩
  | 64 => ⟨S1x1x512, .f32⟩
  | 65 => ⟨S4x8192x512, .f32⟩
  | 66 => ⟨S4x8192x512, .f32⟩
  | 67 => ⟨S4x8192x512, .f32⟩
  | 68 => ⟨S4x8192x512, .f32⟩
  | 69 => ⟨S1x512, .f32⟩
  | 70 => ⟨S512, .f32⟩
  | 71 => ⟨S1x1x512, .f32⟩
  | 72 => ⟨S4x8192x512, .f32⟩
  | 73 => ⟨S4x8192x512, .f32⟩
  | 74 => ⟨S4x8192x512, .f32⟩
  | 75 => ⟨S4x8192x512, .f32⟩
  | 76 => ⟨S1x512, .f32⟩
  | 77 => ⟨S512, .f32⟩
  | 78 => ⟨S1x1x512, .f32⟩
  | 79 => ⟨S4x8192x512, .f32⟩
  | 80 => ⟨S4x8192x512, .f32⟩
  | 81 => ⟨S4x8192x512, .f32⟩
  | 82 => ⟨S4x8192x512, .f32⟩
  | 83 => ⟨S1x512, .f32⟩
  | 84 => ⟨S512, .f32⟩
  | 85 => ⟨S1x1x512, .f32⟩
  | 86 => ⟨S4x8192x512, .f32⟩
  | 87 => ⟨S4x8192x512, .f32⟩
  | 88 => ⟨S4x8192x512, .f32⟩
  | 89 => ⟨S4x8192x512, .f32⟩
  | 90 => ⟨S1x512, .f32⟩
  | 91 => ⟨S512, .f32⟩
  | 92 => ⟨S1x1x512, .f32⟩
  | 93 => ⟨S4x8192x512, .f32⟩
  | 94 => ⟨S4x8192x512, .f32⟩
  | 95 => ⟨S4x8192x512, .f32⟩
  | 96 => ⟨S4x8192x512, .f32⟩
  | 97 => ⟨S1x512, .f32⟩
  | 98 => ⟨S512, .f32⟩
  | 99 => ⟨S1x1x512, .f32⟩
  | 100 => ⟨S4x8192x512, .f32⟩
  | 101 => ⟨S4x8192x512, .f32⟩
  | 102 => ⟨S4x8192x512, .f32⟩
  | 103 => ⟨S4x8192x512, .f32⟩
  | 104 => ⟨S1x512, .f32⟩
  | 105 => ⟨S512, .f32⟩
  | 106 => ⟨S1x1x512, .f32⟩
  | 107 => ⟨S4x8192x512, .f32⟩
  | 108 => ⟨S4x8192x512, .f32⟩
  | 109 => ⟨S4x8192x512, .f32⟩
  | 110 => ⟨S4x8192x512, .f32⟩
  | 111 => ⟨S1x512, .f32⟩
  | 112 => ⟨S512, .f32⟩
  | 113 => ⟨S1x1x512, .f32⟩
  | 114 => ⟨S4x8192x512, .f32⟩
  | 115 => ⟨S4x8192x512, .f32⟩
  | 116 => ⟨S4x8192x512, .f32⟩
  | 117 => ⟨S4x8192x512, .f32⟩
  | 118 => ⟨S1x512, .f32⟩
  | 119 => ⟨S512, .f32⟩
  | 120 => ⟨S1x1x512, .f32⟩
  | 121 => ⟨S4x8192x512, .f32⟩
  | 122 => ⟨S4x8192x512, .f32⟩
  | 123 => ⟨S4x8192x512, .f32⟩
  | 124 => ⟨S1x1x512, .f32⟩
  | 125 => ⟨S4x8192x512, .f32⟩
  | 126 => ⟨S4x8192x512, .f32⟩
  | 127 => ⟨S_, .f32⟩
  | _ => ⟨S4x8192x512, .f32⟩

abbrev hbmTy0_2 (i : Nat) : BufTy := match i % 128 with
  | 0 => ⟨S4x8192, .f32⟩
  | 1 => ⟨S4x8192x1, .f32⟩
  | 2 => ⟨S_, .f32⟩
  | 3 => ⟨S4x8192x1, .f32⟩
  | 4 => ⟨S4x8192x1, .f32⟩
  | 5 => ⟨S4x8192x512, .f32⟩
  | 6 => ⟨S4x8192x512, .f32⟩
  | 7 => ⟨S4x8192x512, .f32⟩
  | 8 => ⟨S_, .f32⟩
  | 9 => ⟨S4x8192, .f32⟩
  | 10 => ⟨S4x8192x1, .f32⟩
  | 11 => ⟨S_, .f32⟩
  | 12 => ⟨S4x8192x1, .f32⟩
  | 13 => ⟨S4x8192x1, .f32⟩
  | 14 => ⟨S4x8192x512, .f32⟩
  | 15 => ⟨S4x8192x512, .f32⟩
  | 16 => ⟨S_, .f32⟩
  | 17 => ⟨S4x8192x1, .f32⟩
  | 18 => ⟨S4x8192x1, .f32⟩
  | 19 => ⟨S4x8192x1, .f32⟩
  | 20 => ⟨S4x8192x512, .f32⟩
  | 21 => ⟨S4x8192x512, .f32⟩
  | 22 => ⟨S1x1x512, .f32⟩
  | 23 => ⟨S4x8192x512, .f32⟩
  | 24 => ⟨S4x8192x512, .f32⟩
  | 25 => ⟨S1x1x512, .f32⟩
  | 26 => ⟨S4x8192x512, .f32⟩
  | 27 => ⟨S4x8192x512, .f32⟩
  | 28 => ⟨S4x8192x512, .f32⟩
  | 29 => ⟨S4x8192x512, .f32⟩
  | 30 => ⟨S_, .f32⟩
  | 31 => ⟨S4x8192x512, .f32⟩
  | 32 => ⟨S4x8192x512, .f32⟩
  | 33 => ⟨S_, .f32⟩
  | 34 => ⟨S4x8192x512, .f32⟩
  | 35 => ⟨S4x8192x512, .f32⟩
  | 36 => ⟨S4x8192x512, .f32⟩
  | 37 => ⟨S4x8192x1024, .f32⟩
  | 38 => ⟨S4x8192x1024, .f32⟩
  | 39 => ⟨S4x8192x1024, .f32⟩
  | 40 => ⟨S4x8192x1024, .f32⟩
  | 41 => ⟨S4x8192x1024, .f32⟩
  | 42 => ⟨S4x8192x1024, .f32⟩
  | 43 => ⟨S4x8192x1024, .f32⟩
  | 44 => ⟨S4x8192x1024, .f32⟩
  | 45 => ⟨S4x8192x1024, .f32⟩
  | 46 => ⟨S4x8192x1024, .f32⟩
  | 47 => ⟨S4x8192x1024, .f32⟩
  | 48 => ⟨S_, .f32⟩
  | 49 => ⟨S4x8192, .f32⟩
  | 50 => ⟨S4x8192x1, .f32⟩
  | 51 => ⟨S_, .f32⟩
  | 52 => ⟨S4x8192x1, .f32⟩
  | 53 => ⟨S4x8192x1, .f32⟩
  | 54 => ⟨S_, .f32⟩
  | 55 => ⟨S4x8192x1, .f32⟩
  | 56 => ⟨S4x8192x1, .f32⟩
  | 57 => ⟨S4x8192x1, .f32⟩
  | 58 => ⟨S4x8192x1024, .f32⟩
  | 59 => ⟨S4x8192x1024, .f32⟩
  | 60 => ⟨S1x1x1024, .f32⟩
  | 61 => ⟨S4x8192x1024, .f32⟩
  | 62 => ⟨S4x8192x1024, .f32⟩
  | 63 => ⟨S_, .f32⟩
  | 64 => ⟨S4x1x1024, .f32⟩
  | 65 => ⟨S4x1x1024, .f32⟩
  | 66 => ⟨S4x8192x1024, .f32⟩
  | 67 => ⟨S4x8192x1024, .f32⟩
  | 68 => ⟨S4x8192x1024, .f32⟩
  | 69 => ⟨S4x8192x1024, .f32⟩
  | 70 => ⟨S32768x1024, .f32⟩
  | 71 => ⟨S32768x1024, .f32⟩
  | 72 => ⟨S32768x1024, .bf16⟩
  | _ => ⟨S4x8192x512, .f32⟩

abbrev hbmTy (i : Nat) : BufTy := match i / 128 with
  | 0 => hbmTy0_0 i
  | 1 => hbmTy0_1 i
  | 2 => hbmTy0_2 i
  | _ => ⟨S4x8192x512, .f32⟩

abbrev bufTy : (tb : Table) → Fin (tcTables nBuf tb) → BufTy
  | .hbm, ⟨i, _⟩ => hbmTy i
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_call0_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩
abbrev main_v216 : Ref sig .tc := ⟨.hbm, 236, rfl⟩
abbrev main_v217 : Ref sig .tc := ⟨.hbm, 237, rfl⟩
abbrev main_v218 : Ref sig .tc := ⟨.hbm, 238, rfl⟩
abbrev main_v219 : Ref sig .tc := ⟨.hbm, 239, rfl⟩
abbrev main_v220 : Ref sig .tc := ⟨.hbm, 240, rfl⟩
abbrev main_v221 : Ref sig .tc := ⟨.hbm, 241, rfl⟩
abbrev main_v222 : Ref sig .tc := ⟨.hbm, 242, rfl⟩
abbrev main_v223 : Ref sig .tc := ⟨.hbm, 243, rfl⟩
abbrev main_v224 : Ref sig .tc := ⟨.hbm, 244, rfl⟩
abbrev main_v225 : Ref sig .tc := ⟨.hbm, 245, rfl⟩
abbrev main_v226 : Ref sig .tc := ⟨.hbm, 246, rfl⟩
abbrev main_v227 : Ref sig .tc := ⟨.hbm, 247, rfl⟩
abbrev main_v228 : Ref sig .tc := ⟨.hbm, 248, rfl⟩
abbrev main_v229 : Ref sig .tc := ⟨.hbm, 249, rfl⟩
abbrev main_v230 : Ref sig .tc := ⟨.hbm, 250, rfl⟩
abbrev main_v231 : Ref sig .tc := ⟨.hbm, 251, rfl⟩
abbrev main_v232 : Ref sig .tc := ⟨.hbm, 252, rfl⟩
abbrev main_v233 : Ref sig .tc := ⟨.hbm, 253, rfl⟩
abbrev main_v234 : Ref sig .tc := ⟨.hbm, 254, rfl⟩
abbrev main_cst_0 : Ref sig .tc := ⟨.hbm, 255, rfl⟩
abbrev main_v235 : Ref sig .tc := ⟨.hbm, 256, rfl⟩
abbrev main_v236 : Ref sig .tc := ⟨.hbm, 257, rfl⟩
abbrev main_cst_1 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_cst_2 : Ref sig .tc := ⟨.hbm, 264, rfl⟩
abbrev main_v242 : Ref sig .tc := ⟨.hbm, 265, rfl⟩
abbrev main_v243 : Ref sig .tc := ⟨.hbm, 266, rfl⟩
abbrev main_cst_3 : Ref sig .tc := ⟨.hbm, 267, rfl⟩
abbrev main_v244 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_cst_4 : Ref sig .tc := ⟨.hbm, 272, rfl⟩
abbrev main_v248 : Ref sig .tc := ⟨.hbm, 273, rfl⟩
abbrev main_v249 : Ref sig .tc := ⟨.hbm, 274, rfl⟩
abbrev main_v250 : Ref sig .tc := ⟨.hbm, 275, rfl⟩
abbrev main_v251 : Ref sig .tc := ⟨.hbm, 276, rfl⟩
abbrev main_v252 : Ref sig .tc := ⟨.hbm, 277, rfl⟩
abbrev main_v253 : Ref sig .tc := ⟨.hbm, 278, rfl⟩
abbrev main_v254 : Ref sig .tc := ⟨.hbm, 279, rfl⟩
abbrev main_v255 : Ref sig .tc := ⟨.hbm, 280, rfl⟩
abbrev main_v256 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_cst_5 : Ref sig .tc := ⟨.hbm, 286, rfl⟩
abbrev main_v261 : Ref sig .tc := ⟨.hbm, 287, rfl⟩
abbrev main_v262 : Ref sig .tc := ⟨.hbm, 288, rfl⟩
abbrev main_cst_6 : Ref sig .tc := ⟨.hbm, 289, rfl⟩
abbrev main_v263 : Ref sig .tc := ⟨.hbm, 290, rfl⟩
abbrev main_v264 : Ref sig .tc := ⟨.hbm, 291, rfl⟩
abbrev main_v265 : Ref sig .tc := ⟨.hbm, 292, rfl⟩
abbrev main_v266 : Ref sig .tc := ⟨.hbm, 293, rfl⟩
abbrev main_v267 : Ref sig .tc := ⟨.hbm, 294, rfl⟩
abbrev main_v268 : Ref sig .tc := ⟨.hbm, 295, rfl⟩
abbrev main_v269 : Ref sig .tc := ⟨.hbm, 296, rfl⟩
abbrev main_v270 : Ref sig .tc := ⟨.hbm, 297, rfl⟩
abbrev main_v271 : Ref sig .tc := ⟨.hbm, 298, rfl⟩
abbrev main_v272 : Ref sig .tc := ⟨.hbm, 299, rfl⟩
abbrev main_v273 : Ref sig .tc := ⟨.hbm, 300, rfl⟩
abbrev main_v274 : Ref sig .tc := ⟨.hbm, 301, rfl⟩
abbrev main_v275 : Ref sig .tc := ⟨.hbm, 302, rfl⟩
abbrev main_v276 : Ref sig .tc := ⟨.hbm, 303, rfl⟩
abbrev main_cst_7 : Ref sig .tc := ⟨.hbm, 304, rfl⟩
abbrev main_v277 : Ref sig .tc := ⟨.hbm, 305, rfl⟩
abbrev main_v278 : Ref sig .tc := ⟨.hbm, 306, rfl⟩
abbrev main_cst_8 : Ref sig .tc := ⟨.hbm, 307, rfl⟩
abbrev main_v279 : Ref sig .tc := ⟨.hbm, 308, rfl⟩
abbrev main_v280 : Ref sig .tc := ⟨.hbm, 309, rfl⟩
abbrev main_cst_9 : Ref sig .tc := ⟨.hbm, 310, rfl⟩
abbrev main_v281 : Ref sig .tc := ⟨.hbm, 311, rfl⟩
abbrev main_v282 : Ref sig .tc := ⟨.hbm, 312, rfl⟩
abbrev main_v283 : Ref sig .tc := ⟨.hbm, 313, rfl⟩
abbrev main_v284 : Ref sig .tc := ⟨.hbm, 314, rfl⟩
abbrev main_v285 : Ref sig .tc := ⟨.hbm, 315, rfl⟩
abbrev main_v286 : Ref sig .tc := ⟨.hbm, 316, rfl⟩
abbrev main_v287 : Ref sig .tc := ⟨.hbm, 317, rfl⟩
abbrev main_v288 : Ref sig .tc := ⟨.hbm, 318, rfl⟩
abbrev main_cst_10 : Ref sig .tc := ⟨.hbm, 319, rfl⟩
abbrev main_v289 : Ref sig .tc := ⟨.hbm, 320, rfl⟩
abbrev main_v290 : Ref sig .tc := ⟨.hbm, 321, rfl⟩
abbrev main_v291 : Ref sig .tc := ⟨.hbm, 322, rfl⟩
abbrev main_v292 : Ref sig .tc := ⟨.hbm, 323, rfl⟩
abbrev main_v293 : Ref sig .tc := ⟨.hbm, 324, rfl⟩
abbrev main_v294 : Ref sig .tc := ⟨.hbm, 325, rfl⟩
abbrev main_v295 : Ref sig .tc := ⟨.hbm, 326, rfl⟩
abbrev main_v296 : Ref sig .tc := ⟨.hbm, 327, rfl⟩
abbrev main_v297 : Ref sig .tc := ⟨.hbm, 328, rfl⟩

abbrev nD : Nat := 1
abbrev τ : Topo := Topo.v7x

variable {F : FTy → Type} [FloatOps F]
-- ==== Proof.AttnBlocks.lean ====
/- The blocks that the attention kernel reads at a grid point, as entries of the arguments. -/
module

public import proofs.«01_k».proof.Proof.Gen.AttnIdeal.Value
public import Idealize.ShloMosaic.Lib.KernelVsHost
public import Idealize.ShloMosaic.Lib.IdealHost
public import Idealize.ShloMosaic.Lib.Pipeline.ValueKit
public import Idealize.ShloMosaic.Lib.Claim

@[expose] public section

set_option maxRecDepth 16384

noncomputable section

namespace Cert.AttnBlocks

open Idealize.ShloMosaic Idealize.ShloMosaic.TcCoe Idealize.SL.Sem
open Idealize.ShloMosaic.Pipeline (Dat)
open Cert.AttnIdeal Cert.AttnIdeal.Gen

variable (m : (ℓ : Loc nD τ sig) → Buf (Elt Ideal) ℓ)

/-- The blocks of the grid's point `t`. -/
theorem idx_val : ∀ t : Fin cfg0.N,
    win0_0.index t = ![t.val / 64, t.val / 16 % 4, t.val % 16, 0] ∧ win0_1.index t = ![t.val / 64, t.val / 16 % 4, 0, 0] ∧
    win0_2.index t = ![t.val / 64, t.val / 16 % 4, 0, 0] ∧ win0_3.index t = ![t.val / 64, t.val % 16, t.val / 16 % 4] :=
  (by decide +kernel : ∀ t : Fin grid0.N, _)

/-- The place of the point `t` on the grid's last axis. -/
theorem coord_val : ∀ t : Fin cfg0.N, (grid0.coords t 2).val = t.val % 16 :=
  (by decide +kernel : ∀ t : Fin grid0.N, _)

/-- The batch entry of point `t`. -/
abbrev bat (t : Fin cfg0.N) : Fin 4 :=
  ⟨t.val / 64, by have := lt_of_lt_of_eq t.isLt (show cfg0.N = 256 from N_0); omega⟩

/-- Head `h` of the two that point `t` works on. -/
abbrev hd (t : Fin cfg0.N) (h : Fin 2) : Fin 8 := ⟨2 * (t.val / 16 % 4) + h.val, by omega⟩

/-- Row `r` of the queries that point `t` works on. -/
abbrev row (t : Fin cfg0.N) (r : Fin 512) : Fin 8192 := ⟨512 * (t.val % 16) + r.val, by omega⟩

/-- Queries or keys, padded to 128 lanes. -/
abbrev wide (x : FVec Ideal S4x8x8192x96 .f32) : FVec Ideal S4x8x8192x128 .f32 :=
  pad S4x8x8192x128 ![0, 0, 0, 0] ![0, 0, 0, 32] ![0, 0, 0, 0] x (sitofp .f32 (constantI S_ 32 0#32) : FVec Ideal S_ .f32)
    pads_S4x8x8192x96_S4x8x8192x128_000_000_000_0320 h_S_

/-- The column that is one in lane 64 and zero elsewhere. -/
abbrev column : FVec Ideal S1x1x1x128 .f32 :=
  select (cmpi .eq (iotaInDim S1x1x1x128 32 3) (broadcastInDim S1x1x1x128 ![] bcast_S_S1x1x1x128 (constantI S_ 32 64#32)))
    (broadcastInDim S1x1x1x128 ![] bcast_S_S1x1x1x128 (constant S_ .f32 0x3F800000#32 : FVec Ideal S_ .f32))
    (broadcastInDim S1x1x1x128 ![] bcast_S_S1x1x1x128 (constant S_ .f32 0x00000000#32 : FVec Ideal S_ .f32))

/-- Values, padded to 128 lanes, with the column of ones. -/
abbrev ones (x : FVec Ideal S4x8x8192x64 .f32) : FVec Ideal S4x8x8192x128 .f32 :=
  addf (pad S4x8x8192x128 ![0, 0, 0, 0] ![0, 0, 0, 64] ![0, 0, 0, 0] x
      (sitofp .f32 (constantI S_ 32 0#32) : FVec Ideal S_ .f32) pads_S4x8x8192x64_S4x8x8192x128_000_000_000_0640 h_S_)
    (broadcastInDim S4x8x8192x128 ![0, 1, 2, 3] bcast_S1x1x1x128_S4x8x8192x128_0_1_2_3 column)

/-- The queries the kernel is given. -/
theorem entry4 (c : Dev nD) : V m c main_v4 = wide (m (c, main_arg0) : FVec Ideal S4x8x8192x96 .f32) := by
  rfl

/-- The keys the kernel is given. -/
theorem entry6 (c : Dev nD) : V m c main_v6
    = (truncf .bf16 (wide (m (c, main_arg1) : FVec Ideal S4x8x8192x96 .f32)) bitsLt_bf16_f32 : FVec Ideal S4x8x8192x128 .bf16) := by
  rfl

/-- The values the kernel is given. -/
theorem entry11 (c : Dev nD) : V m c main_v11
    = (truncf .bf16 (ones (m (c, main_arg2) : FVec Ideal S4x8x8192x64 .f32)) bitsLt_bf16_f32 : FVec Ideal S4x8x8192x128 .bf16) := by
  rfl

/-- The padding's value is zero. -/
theorem zero_apply (i : S_.Idx) : (sitofp .f32 (constantI S_ 32 0#32) : FVec Ideal S_ .f32) i = (0 : EReal) := by
  show ((((0#32 : BitVec 32).toInt : ℝ)) : EReal) = 0
  simp

/-- A padded tensor in one of its first 96 lanes. -/
theorem wide_low (x : FVec Ideal S4x8x8192x96 .f32) (b : Fin 4) (h : Fin 8) (i : Fin 8192) (d : Fin 96) :
    wide x (ix4 b h i ⟨d.val, by omega⟩) = x (ix4 b h i d) := by
  refine pad_apply_of_inside _ _ _ _ _ _ _ _ _ fun a => ?_
  fin_cases a <;> simp

/-- A padded tensor in one of the lanes after the first 96. -/
theorem wide_high (x : FVec Ideal S4x8x8192x96 .f32) (b : Fin 4) (h : Fin 8) (i : Fin 8192) (d : Fin 128) (hd : 96 ≤ d.val) :
    wide x (ix4 b h i d) = 0 := by
  refine (pad_apply_of_not_inside _ _ _ _ _ _ _ _ (3 : Fin 4) ?_).trans (zero_apply _)
  simp
  omega

/-- The column at one lane. -/
theorem column_apply (d : Fin 128) : column (ix4 0 0 0 d) = if d.val = 64 then (1 : EReal) else 0 := by
  have h : column (ix4 0 0 0 d)
      = Scalar.select (IntOp.cmpi .eq (BitVec.ofNat 32 d.val) 64#32) (Ideal.ofBits .f32 0x3F800000#32)
          (Ideal.ofBits .f32 0x00000000#32) := by
    pointwise
  rw [h]
  have hc : ∀ d : Fin 128, IntOp.cmpi .eq (BitVec.ofNat 32 d.val) 64#32 = if d.val = 64 then 1#1 else 0#1 := by
    decide +kernel
  rw [hc d]
  split
  · rw [Ideal.ofBits_one_f32]; rfl
  · rw [Ideal.ofBits_zero_f32]; rfl

/-- The padded values in one of their first 64 lanes. -/
theorem ones_low (x : FVec Ideal S4x8x8192x64 .f32) (b : Fin 4) (h : Fin 8) (i : Fin 8192) (d : Fin 64) :
    ones x (ix4 b h i ⟨d.val, by omega⟩) = x (ix4 b h i d) := by
  have hc := column_apply ⟨d.val, by omega⟩
  rw [if_neg (by simp; omega)] at hc
  have hp := pad_apply_of_inside (t := S4x8x8192x128) ![0, 0, 0, 0] ![0, 0, 0, 64] ![0, 0, 0, 0] x
    (sitofp .f32 (constantI S_ 32 0#32) : FVec Ideal S_ .f32) pads_S4x8x8192x64_S4x8x8192x128_000_000_000_0640 h_S_
    (ix4 b h i ⟨d.val, by omega⟩) (ix4 b h i d) (fun a => by fin_cases a <;> simp)
  have hb : broadcastInDim S4x8x8192x128 ![0, 1, 2, 3] bcast_S1x1x1x128_S4x8x8192x128_0_1_2_3 column
      (ix4 b h i ⟨d.val, by omega⟩) = column (ix4 0 0 0 ⟨d.val, by omega⟩) := by
    pointwise
  exact (congrArg₂ (fun u w : EReal => u + w) hp (hb.trans hc)).trans (add_zero _)

/-- The padded values in lane 64. -/
theorem ones_one (x : FVec Ideal S4x8x8192x64 .f32) (b : Fin 4) (h : Fin 8) (i : Fin 8192) :
    ones x (ix4 b h i 64) = 1 := by
  have hc := column_apply 64
  rw [if_pos (by rfl)] at hc
  have hp := (pad_apply_of_not_inside (t := S4x8x8192x128) ![0, 0, 0, 0] ![0, 0, 0, 64] ![0, 0, 0, 0] x
    (sitofp .f32 (constantI S_ 32 0#32) : FVec Ideal S_ .f32) pads_S4x8x8192x64_S4x8x8192x128_000_000_000_0640 h_S_
    (ix4 b h i 64) (3 : Fin 4) (by simp)).trans (zero_apply _)
  have hb : broadcastInDim S4x8x8192x128 ![0, 1, 2, 3] bcast_S1x1x1x128_S4x8x8192x128_0_1_2_3 column
      (ix4 b h i 64) = column (ix4 0 0 0 64) := by
    pointwise
  exact (congrArg₂ (fun u w : EReal => u + w) hp (hb.trans hc)).trans (zero_add _)

/-- The block of queries at one element. -/
theorem blk0 (c : Dev nD) (t : Fin cfg0.N) (h : Fin 2) (r : Fin 512) (d : Fin 128) :
    iblk m c 0 t (ix4 0 h r d) = wide (m (c, main_arg0)) (ix4 (bat t) (hd t h) (row t r) d) := by
  have e : iblk m c 0 t (ix4 0 h r d) = V m c main_v4 (ix4 (bat t) (hd t h) (row t r) d) := by
    blk_point [iblk, V, idx_val t]
  exact e.trans (congrFun (entry4 m c) _)

/-- The block of keys at one element. -/
theorem blk1 (c : Dev nD) (t : Fin cfg0.N) (h : Fin 2) (j : Fin 8192) (d : Fin 128) :
    iblk m c 1 t (ix4 0 h j d) = wide (m (c, main_arg1)) (ix4 (bat t) (hd t h) j d) := by
  have e : iblk m c 1 t (ix4 0 h j d) = V m c main_v6 (ix4 (bat t) (hd t h) j d) := by
    blk_point [iblk, V, idx_val t]
  exact e.trans (congrFun (entry6 m c) _)

/-- The block of values at one element. -/
theorem blk2 (c : Dev nD) (t : Fin cfg0.N) (h : Fin 2) (j : Fin 8192) (d : Fin 128) :
    iblk m c 2 t (ix4 0 h j d) = ones (m (c, main_arg2)) (ix4 (bat t) (hd t h) j d) := by
  have e : iblk m c 2 t (ix4 0 h j d) = V m c main_v11 (ix4 (bat t) (hd t h) j d) := by
    blk_point [iblk, V, idx_val t]
  exact e.trans (congrFun (entry11 m c) _)

end Cert.AttnBlocks

end
-- ==== Proof.AttnPre.lean ====
/- What the attention's precondition says of its arguments: finite queries and keys, and positions that count up. -/
module

public import proofs.«01_k».proof.Pre_finite_and_counting_up
public import Idealize.ShloMosaic.Lib.Pipeline.ValueKit
public import Idealize.ShloMosaic.Lib.StableHlo.Predicate
public import Idealize.ShloMosaic.Lib.WordCmp
public import Idealize.ShloMosaic.Lib.Claim

@[expose] public section

set_option maxRecDepth 16384

noncomputable section

namespace Cert.AttnPre

open Idealize.ShloMosaic Idealize.ShloMosaic.TcCoe Idealize.SL.Sem
open Cert.Pre_finite_and_counting_up

variable [Facts]

/-- Two truth values are both true when their conjunction is. -/
theorem andi_iff : ∀ {a b : BitVec 1}, IntOp.andi a b = 1#1 ↔ a = 1#1 ∧ b = 1#1 := by
  decide

/-- A conjunction over all elements of an array that is true is true of each. -/
theorem all_true {s : Shape} {axes : List (Fin s.rank)} (x : IVec s 1) (init : IVec S_ 1) (h : s.ReducesTo axes S_) (hu : 0 < S_.numel)
    (e : Host.reduce IntOp.andi x init h hu ix0 = 1#1) (i : s.Idx) : x i = 1#1 := by
  unfold Host.reduce at e
  have key : ∀ (l : List (Fin s.numel)) (a : BitVec 1),
      l.foldl (fun r n => IntOp.andi r (x (s.rowMajor.symm n))) a = 1#1 → a = 1#1 ∧ ∀ n ∈ l, x (s.rowMajor.symm n) = 1#1 := by
    intro l
    induction l with
    | nil => intro a ha; exact ⟨ha, by simp⟩
    | cons n l ih =>
      intro a ha
      obtain ⟨h1, h2⟩ := ih _ ha
      have h3 : a = 1#1 ∧ x (s.rowMajor.symm n) = 1#1 := by
        exact andi_iff.mp h1
      exact ⟨h3.1, by simpa using ⟨h3.2, h2⟩⟩
  have := (key _ _ e).2 (s.rowMajor i) (by
    simp
    exact funext fun a => a.elim0)
  simpa using this

/-- An extended real whose absolute value is below the infinite one is a real. -/
theorem real_of_lt {x : EReal}
    (h : Ideal.cmp .olt (max x (-x)) (Ideal.ofBits .f32 0x7F800000#32) = 1#1) : ∃ z : ℝ, x = z := by
  have htop : Ideal.ofBits .f32 0x7F800000#32 = ⊤ := by simp [Ideal.ofBits, Ideal.ieee]
  rw [htop] at h
  induction x with
  | bot => simp [Ideal.cmp] at h
  | top => simp [Ideal.cmp] at h
  | coe z => exact ⟨z, rfl⟩

/-- The precondition, read: every query and key is a real, and the positions count up from a small first one. -/
theorem read (Q K : FVec Ideal S4x8x8192x96 .f32) (V : FVec Ideal S4x8x8192x64 .f32) (P : IVec S4x8192 32)
    (h : fn (F := Ideal) Q K V P = fun _ => 1#1) :
    (∀ i, ∃ z : ℝ, Q i = z) ∧ (∀ i, ∃ z : ℝ, K i = z) ∧
      ∀ b : Fin 4, ∃ p : ℕ, p < 1024 ∧ ∀ j : Fin 8192, P (ix2 b j) = BitVec.ofNat 32 (p + j.val) := by
  have h0 := congrFun h ix0
  unfold fn fn_part1 at h0
  dsimp only at h0
  obtain ⟨h0, hP⟩ := andi_iff.mp h0
  obtain ⟨h0, hlt⟩ := andi_iff.mp h0
  obtain ⟨h0, hge⟩ := andi_iff.mp h0
  obtain ⟨hQ, hK⟩ := andi_iff.mp h0
  refine ⟨fun i => ?_, fun i => ?_, fun b => ?_⟩
  · exact real_of_lt (all_true _ _ _ _ hQ i)
  · exact real_of_lt (all_true _ _ _ _ hK i)
  · have g := all_true _ _ _ _ hge (ix2 b 0)
    have l := all_true _ _ _ _ hlt (ix2 b 0)
    have e : ∀ j : Fin 8192, P (ix2 b j) = P (ix2 b 0) + BitVec.ofNat 32 j.val := by
      intro j
      have := all_true _ _ _ _ hP (ix2 b j)
      have this' : IntOp.cmpi .eq (P (ix2 b j)) (P (ix2 b 0) + BitVec.ofNat 32 j.val) = 1#1 := by
        refine Eq.trans ?_ this
        pointwise
        rfl
      exact StableHlo.Predicate.cmpi_eq_iff.mp this'
    have g' : IntOp.cmpi .sge (P (ix2 b 0)) 0#32 = 1#1 := by
      refine Eq.trans ?_ g
      pointwise
    have l' : IntOp.cmpi .slt (P (ix2 b 0)) 1024#32 = 1#1 := by
      refine Eq.trans ?_ l
      pointwise
    have gl : (P (ix2 b 0)).toNat < 1024 := by
      revert g' l'
      generalize P (ix2 b 0) = y
      intro g' l'
      simp only [IntOp.cmpi, StableHlo.Predicate.ofBool_eq_one_iff, BitVec.sle, BitVec.slt, decide_eq_true_eq] at g' l'
      have e1 : (1024#32 : BitVec 32).toInt = 1024 := by decide
      have e0 : (0#32 : BitVec 32).toInt = 0 := by decide
      rw [e0] at g'
      rw [e1] at l'
      rw [BitVec.toInt_eq_toNat_cond] at g' l'
      split at g' <;> split at l' <;> omega
    refine ⟨(P (ix2 b 0)).toNat, gl, fun j => ?_⟩
    rw [e j]
    apply BitVec.eq_of_toNat_eq
    simp

/-- Of two positions the earlier compares at most the later exactly when it stands first. -/
theorem sle_iff {P : IVec S4x8192 32} {b : Fin 4} {p : ℕ} (hp : p < 1024)
    (hP : ∀ j : Fin 8192, P (ix2 b j) = BitVec.ofNat 32 (p + j.val)) (i j : Fin 8192) :
    IntOp.cmpi .sle (P (ix2 b j)) (P (ix2 b i)) = 1#1 ↔ j.val ≤ i.val := by
  rw [hP, hP, WordCmp.cmpi_sle_ofNat_eq_one_iff (by omega) (by omega)]
  omega

end Cert.AttnPre

end
-- ==== Proof.Softmax.lean ====
/- The mathematics of a softmax taken tile by tile: one row of scores, one column of values, over the extended reals.
   Nothing here mentions a program. -/
module

public import Idealize.ShloMosaic.PureOps.Ideal

@[expose] public section

noncomputable section

namespace Cert.Softmax

open Idealize.ShloMosaic

/-- A nonnegative real factor distributes over a finite sum of extended reals. -/
theorem sum_mul_real {ι : Type} (A : Finset ι) (f : ι → EReal) (r : ℝ) (hr : 0 ≤ r) :
    (∑ j ∈ A, f j) * (r : EReal) = ∑ j ∈ A, f j * (r : EReal) := by
  classical
  induction A using Finset.induction_on with
  | empty => simp
  | insert a A ha ih =>
    rw [Finset.sum_insert ha, Finset.sum_insert ha, ← ih]
    exact EReal.right_distrib_of_nonneg_of_ne_top (by exact_mod_cast hr) (EReal.coe_ne_top r) _ _

/-- Two to the power of a difference of a score and a bound above it is a nonnegative real. -/
theorem exp2_sub_real {x y : EReal} (hxy : x ≤ y) (hy : y ≠ ⊤) : ∃ r : ℝ, 0 ≤ r ∧ Ideal.exp2 (x - y) = (r : EReal) := by
  induction y using EReal.rec with
  | top => exact absurd rfl hy
  | bot =>
    obtain rfl : x = ⊥ := le_bot_iff.mp hxy
    exact ⟨0, le_rfl, by simp⟩
  | coe y =>
    induction x using EReal.rec with
    | top => exact absurd (top_le_iff.mp hxy) (EReal.coe_ne_top y)
    | bot => exact ⟨0, le_rfl, by simp⟩
    | coe x =>
      refine ⟨Real.rpow 2 (x - y), Real.rpow_nonneg (by norm_num) _, ?_⟩
      rw [← EReal.coe_sub, Ideal.exp2_coe]

/-- The weight of a score under a first bound, moved to a second bound above the first. -/
theorem exp2_chain {x y z : EReal} (hxy : x ≤ y) (hyz : y ≤ z) (hz : z ≠ ⊤) :
    Ideal.exp2 (x - y) * Ideal.exp2 (y - z) = Ideal.exp2 (x - z) := by
  induction z using EReal.rec with
  | top => exact absurd rfl hz
  | bot =>
    obtain rfl : y = ⊥ := le_bot_iff.mp hyz
    obtain rfl : x = ⊥ := le_bot_iff.mp hxy
    simp
  | coe z =>
    induction y using EReal.rec with
    | top => exact absurd (top_le_iff.mp hyz) (EReal.coe_ne_top z)
    | bot =>
      obtain rfl : x = ⊥ := le_bot_iff.mp hxy
      simp
    | coe y =>
      induction x using EReal.rec with
      | top => exact absurd (top_le_iff.mp hxy) (EReal.coe_ne_top y)
      | bot => simp
      | coe x =>
        rw [← EReal.coe_sub, ← EReal.coe_sub, ← EReal.coe_sub, Ideal.exp2_coe, Ideal.exp2_coe, Ideal.exp2_coe,
          ← EReal.coe_mul]
        refine congrArg _ ?_
        show (2 : ℝ) ^ (x - y) * (2 : ℝ) ^ (y - z) = (2 : ℝ) ^ (x - z)
        rw [← Real.rpow_add (by norm_num)]
        congr 1; ring

/-- The largest score of tile `b`, 512 scores to a tile. -/
def tileMax (T : ℕ → EReal) (b : ℕ) : EReal := Finset.univ.fold max ⊥ fun k : Fin 512 => T (512 * b + k)

/-- One tile of the running softmax: the largest score so far, and the weighted sum of the values so far, rescaled
    to the new largest score. -/
def step (T w : ℕ → EReal) (b : ℕ) (s : EReal × EReal) : EReal × EReal :=
  (max s.1 (tileMax T b),
    s.2 * Ideal.exp2 (s.1 - max s.1 (tileMax T b))
      + ∑ k : Fin 512, Ideal.exp2 (T (512 * b + k) - max s.1 (tileMax T b)) * w (512 * b + k))

/-- The running softmax before tile `b`. -/
def run (T w : ℕ → EReal) : ℕ → EReal × EReal
  | 0 => (⊥, 0)
  | b + 1 => step T w b (run T w b)

/-- The largest of the first `n` scores. -/
def top (T : ℕ → EReal) (n : ℕ) : EReal := (Finset.range n).sup T

/-- Each of the first scores is at most the largest. -/
theorem le_top (T : ℕ → EReal) {n j : ℕ} (h : j < n) : T j ≤ top T n := Finset.le_sup (f := T) (Finset.mem_range.mpr h)

/-- The largest of scores below +∞ is below +∞. -/
theorem top_ne_top {T : ℕ → EReal} (hT : ∀ j, T j ≠ ⊤) (n : ℕ) : top T n ≠ ⊤ := by
  refine ne_of_lt ((Finset.sup_lt_iff bot_lt_top).mpr fun j _ => lt_top_iff_ne_top.mpr (hT j))

/-- The largest of more scores is no smaller. -/
theorem top_mono (T : ℕ → EReal) {n k : ℕ} (h : n ≤ k) : top T n ≤ top T k :=
  Finset.sup_mono (Finset.range_subset_range.mpr h)

/-- A sum over the first `512 * (b + 1)` keys is the sum over the tiles before `b` and the sum over tile `b`. -/
theorem sum_tile (f : ℕ → EReal) (b : ℕ) :
    ∑ j ∈ Finset.range (512 * (b + 1)), f j = ∑ j ∈ Finset.range (512 * b), f j + ∑ k : Fin 512, f (512 * b + k) := by
  rw [Nat.mul_succ, Finset.sum_range_add, Finset.sum_range fun x => f (512 * b + x)]

/-- The largest score before tile `b + 1` is the larger of the largest before tile `b` and tile `b`'s largest. -/
theorem top_tile (T : ℕ → EReal) (b : ℕ) : top T (512 * (b + 1)) = max (top T (512 * b)) (tileMax T b) := by
  unfold top tileMax
  change _ = max _ (Finset.univ.sup fun k : Fin 512 => T (512 * b + k))
  apply le_antisymm
  · refine Finset.sup_le fun j hj => ?_
    have hj' : j < 512 * b + 512 := by have := Finset.mem_range.mp hj; omega
    rcases Nat.lt_or_ge j (512 * b) with h | h
    · exact le_max_of_le_left (Finset.le_sup (f := T) (Finset.mem_range.mpr h))
    · refine le_max_of_le_right ?_
      have := Finset.le_sup (f := fun k : Fin 512 => T (512 * b + k)) (Finset.mem_univ ⟨j - 512 * b, by omega⟩)
      simpa [Nat.add_sub_cancel' h] using this
  · refine max_le (Finset.sup_mono (Finset.range_subset_range.mpr (by omega))) (Finset.sup_le fun k _ => ?_)
    exact Finset.le_sup (f := T) (Finset.mem_range.mpr (by omega))

/-- Before tile `b` the running softmax holds the largest score of the keys so far and the sum of their values, each
    weighted by two to the power of its score less that largest score. -/
theorem run_eq {T : ℕ → EReal} (hT : ∀ j, T j ≠ ⊤) (w : ℕ → EReal) (b : ℕ) :
    run T w b = (top T (512 * b),
      ∑ j ∈ Finset.range (512 * b), Ideal.exp2 (T j - top T (512 * b)) * w j) := by
  induction b with
  | zero => simp [run, top]
  | succ b ih =>
    have e := top_tile T b
    show step T w b (run T w b) = _
    rw [ih]
    unfold step
    refine Prod.ext ?_ ?_
    · exact e.symm
    · dsimp only
      rw [← e, sum_tile]
      refine congrArg (· + _) ?_
      obtain ⟨r, hr, er⟩ := exp2_sub_real (top_mono T (show 512 * b ≤ 512 * (b + 1) by omega)) (top_ne_top hT (512 * (b + 1)))
      rw [er, sum_mul_real _ _ r hr, ← er]
      refine Finset.sum_congr rfl fun j hj => ?_
      rw [mul_right_comm, exp2_chain (le_top T (Finset.mem_range.mp hj)) (top_mono T (by omega)) (top_ne_top hT _)]

/-! ## The running softmax of a row against the softmax of the row

Row `i` sees the keys up to `i`; `z j` is the score of key `j`, `a` the factor from the natural to the binary exponent. -/

/-- The masked scores of row `i`. -/
def seen (z : ℕ → ℝ) (i j : ℕ) : EReal := if j ≤ i then (z j : EReal) else ⊥

/-- A masked score is below +∞. -/
theorem seen_ne_top (z : ℕ → ℝ) (i j : ℕ) : seen z i j ≠ ⊤ := by
  unfold seen
  split <;> simp

/-- The largest score of a row. -/
theorem exists_top (z : ℕ → ℝ) (i : ℕ) :
    ∃ M : ℝ, (∃ j ≤ i, z j = M) ∧ (∀ j ≤ i, z j ≤ M) := by
  obtain ⟨j, hj, h⟩ := Finset.exists_max_image (Finset.range (i + 1)) z ⟨0, by simp⟩
  refine ⟨z j, ⟨j, by have := Finset.mem_range.mp hj; omega, rfl⟩, fun k hk => h k (by simp; omega)⟩

/-- The largest of the masked scores is the largest of those that are not masked. -/
theorem top_seen {z : ℕ → ℝ} {i : ℕ} {M : ℝ} (h1 : ∃ j ≤ i, z j = M) (h2 : ∀ j ≤ i, z j ≤ M) {n : ℕ} (hn : i < n) :
    top (seen z i) n = (M : EReal) := by
  apply le_antisymm
  · refine Finset.sup_le fun j _ => ?_
    unfold seen
    split
    · next h => exact_mod_cast h2 j h
    · exact bot_le
  · obtain ⟨j, hj, e⟩ := h1
    have := le_top (seen z i) (show j < n by omega)
    rwa [seen, if_pos hj, e] at this

/-- The weight of key `j` before division, as a real number. -/
def weight (z : ℕ → ℝ) (i : ℕ) (M : ℝ) (j : ℕ) : ℝ := if j ≤ i then Real.exp (z j - M) else 0

/-- The weight of a masked score is zero, of another one the exponential of its distance from the bound. -/
theorem exp_seen (z : ℕ → ℝ) (i : ℕ) (M : ℝ) (j : ℕ) :
    Ideal.exp (seen z i j - (M : EReal)) = (weight z i M j : EReal) := by
  unfold seen weight
  split
  · rw [← EReal.coe_sub]
    exact Ideal.exp_coe _
  · simp

/-- In powers of two the weights are the same. -/
theorem exp2_seen (z : ℕ → ℝ) (i : ℕ) (M : ℝ) (j : ℕ) :
    Ideal.exp2 (seen (fun j => z j * (Real.log 2)⁻¹) i j - ((M * (Real.log 2)⁻¹ : ℝ) : EReal)) = (weight z i M j : EReal) := by
  unfold seen weight
  split
  · rw [← EReal.coe_sub, Ideal.exp2_coe]
    congr 1
    have h2 : Real.log 2 ≠ 0 := (Real.log_pos (by norm_num)).ne'
    show (2 : ℝ) ^ (z j * (Real.log 2)⁻¹ - M * (Real.log 2)⁻¹) = _
    rw [Real.rpow_def_of_pos (by norm_num)]
    congr 1
    field_simp
  · simp

/-- A sum over more keys than the row sees is the sum over those it sees. -/
theorem sum_weight (z : ℕ → ℝ) {i n : ℕ} (M : ℝ) (w : ℕ → EReal) (hn : i < n) :
    ∑ j ∈ Finset.range n, (weight z i M j : EReal) * w j = ∑ j ∈ Finset.range (i + 1), (weight z i M j : EReal) * w j := by
  refine (Finset.sum_subset (Finset.range_subset_range.mpr hn) fun j _ hj => ?_).symm
  have hj' : ¬ j ≤ i := fun h => hj (Finset.mem_range.mpr (by omega))
  simp [weight, hj']

/-- The quotient that the running softmax ends with is the sum of the values weighted by the row's softmax. -/
theorem quotient_eq (z : ℕ → ℝ) (w one : ℕ → EReal) (hone : ∀ j, one j = 1) {i b n : ℕ} (hb : i < 512 * b) (hn : i < n) :
    Ideal.div (run (seen (fun j => z j * (Real.log 2)⁻¹) i) w b).2 (run (seen (fun j => z j * (Real.log 2)⁻¹) i) one b).2
      = ∑ j ∈ Finset.range n, Ideal.div (Ideal.exp (seen z i j - top (seen z i) n))
          (∑ k ∈ Finset.range n, Ideal.exp (seen z i k - top (seen z i) n)) * w j := by
  obtain ⟨M, h1, h2⟩ := exists_top z i
  have hlog : 0 < (Real.log 2)⁻¹ := inv_pos.mpr (Real.log_pos (by norm_num))
  have hT : top (seen (fun j => z j * (Real.log 2)⁻¹) i) (512 * b) = ((M * (Real.log 2)⁻¹ : ℝ) : EReal) :=
    top_seen (by obtain ⟨j, hj, e⟩ := h1; exact ⟨j, hj, by rw [e]⟩)
      (fun j hj => mul_le_mul_of_nonneg_right (h2 j hj) hlog.le) hb
  have hS : top (seen z i) n = (M : EReal) := top_seen h1 h2 hn
  rw [run_eq (seen_ne_top _ _), run_eq (seen_ne_top _ _), hT, hS]
  simp only [exp2_seen, exp_seen]
  have hL : ∀ k : ℕ, i < k → ∑ j ∈ Finset.range k, (weight z i M j : EReal)
      = ((∑ j ∈ Finset.range (i + 1), weight z i M j : ℝ) : EReal) := fun k hk => by
    have := sum_weight z M (fun _ => 1) hk
    simp only [mul_one] at this
    rw [this]
    exact (map_sum (⟨⟨fun x : ℝ => (x : EReal), EReal.coe_zero⟩, EReal.coe_add⟩ : ℝ →+ EReal) _ _).symm
  have h0 : ∑ j ∈ Finset.range (i + 1), weight z i M j ≠ 0 := by
    refine (Finset.sum_pos (fun j hj => ?_) ⟨0, by simp⟩).ne'
    have hj' : j ≤ i := by have := Finset.mem_range.mp hj; omega
    rw [weight, if_pos hj']
    exact Real.exp_pos _
  have hpos : 0 ≤ 1 / ∑ j ∈ Finset.range (i + 1), weight z i M j := by
    refine one_div_nonneg.mpr (Finset.sum_nonneg fun j _ => ?_)
    unfold weight
    split
    · exact (Real.exp_pos _).le
    · exact le_rfl
  have hone' : ∑ j ∈ Finset.range (512 * b), (weight z i M j : EReal) * one j
      = ∑ j ∈ Finset.range (512 * b), (weight z i M j : EReal) := by
    simp only [hone, mul_one]
  simp only [hone', hL _ hb, hL _ hn, Ideal.div_coe h0]
  rw [sum_weight z M w hb, sum_mul_real _ _ _ hpos]
  have := sum_weight z M (fun j => ((1 / ∑ j ∈ Finset.range (i + 1), weight z i M j : ℝ) : EReal) * w j) hn
  simp only [← mul_assoc] at this
  rw [this]
  exact Finset.sum_congr rfl fun j _ => mul_right_comm _ _ _

end Cert.Softmax

end
-- ==== Proof.AttnTile.lean ====
/- What the attention's kernel computes from one tile of keys and values, read at one element. -/
module

public import proofs.«01_k».proof.Proof.Gen.AttnIdeal.Skeleton
public import proofs.«01_k».proof.Proof.Softmax
public import Idealize.ShloMosaic.Lib.Pipeline.ValueKit
public import Idealize.ShloMosaic.Lib.WordCmp
public import Idealize.ShloMosaic.Lib.Claim

@[expose] public section

set_option maxRecDepth 16384

noncomputable section

namespace Cert.AttnTile

open Idealize.ShloMosaic Idealize.ShloMosaic.TcCoe Idealize.SL.Sem
open Cert.AttnIdeal Cert.AttnIdeal.Gen

/-- The factor of the queries: `1 / (sqrt 96 * log 2)`. -/
def factor : ℝ := (Real.sqrt 96)⁻¹ * (Real.log 2)⁻¹

/-- The score of key `k` of a tile for row `r` of the queries' block. -/
def score (q : Vec Ideal S1x1x512x128 .f32) (kt : Vec Ideal S1x1x512x128 .bf16) (r k : Fin 512) : EReal :=
  ∑ d : Fin 128, q (ix4 0 0 r d) * (factor : EReal) * kt (ix4 0 0 k d)

/-- The kernel's named constant is that factor. -/
theorem named_factor : (Named.named (F := Ideal) (φ := .f32) κ "query_factor" 0x3E16C740#32 : EReal) = (factor : EReal) := rfl

/-- The word of −∞ is −∞. -/
theorem neg_inf : Ideal.ofBits .f32 0xFF800000#32 = ⊥ := by
  simp [Ideal.ofBits, Ideal.ieee]

/-- The scores of a whole tile at one element. -/
theorem pay5_apply (q : Vec Ideal S1x1x512x128 .f32) (kt : Vec Ideal S1x1x512x128 .bf16) (r k : Fin 512) :
    k0_pay5 q kt (ix2 r k) = score q kt r k := by
  pointwise [k0_pay5, k0_pay2, score]
  rfl

/-- The largest score of a tile for row `r`. -/
def tileTop (q : Vec Ideal S1x1x512x128 .f32) (kt : Vec Ideal S1x1x512x128 .bf16) (r : Fin 512) : EReal :=
  Finset.univ.fold max ⊥ fun k : Fin 512 => score q kt r k

/-- The running maximum after a whole tile. -/
theorem pay6_apply (q : Vec Ideal S1x1x512x128 .f32) (m : FVec Ideal S512x1 .f32) (kt : Vec Ideal S1x1x512x128 .bf16)
    (r : Fin 512) : k0_pay6 q m kt (ix2 r 0) = max (m (ix2 r 0)) (tileTop q kt r) := by
  pointwise [k0_pay6, tileTop, pay5_apply]
  rw [neg_inf]

/-- The running sums after a whole tile: the old ones scaled to the new maximum, and the tile's weighted values. -/
theorem pay7_apply (q : Vec Ideal S1x1x512x128 .f32) (m : FVec Ideal S512x1 .f32) (acc : FVec Ideal S512x128 .f32)
    (kt vt : Vec Ideal S1x1x512x128 .bf16) (r : Fin 512) (d : Fin 128) :
    k0_pay7 q m acc kt vt (ix2 r d)
      = acc (ix2 r d) * Ideal.exp2 (m (ix2 r 0) - max (m (ix2 r 0)) (tileTop q kt r))
        + ∑ k : Fin 512, Ideal.exp2 (score q kt r k - max (m (ix2 r 0)) (tileTop q kt r)) * vt (ix4 0 0 k d) := by
  pointwise [k0_pay7, pay5_apply, pay6_apply]
  rfl

/-- The masked score of the diagonal tile. -/
def diag (q : Vec Ideal S1x1x512x128 .f32) (kt : Vec Ideal S1x1x512x128 .bf16) (r k : Fin 512) : EReal :=
  if k.val ≤ r.val then score q kt r k else ⊥

/-- The largest masked score of the diagonal tile. -/
def diagTop (q : Vec Ideal S1x1x512x128 .f32) (kt : Vec Ideal S1x1x512x128 .bf16) (r : Fin 512) : EReal :=
  Finset.univ.fold max ⊥ fun k : Fin 512 => diag q kt r k

/-- The masked scores of the diagonal tile at one element. -/
theorem pay11_apply (q : Vec Ideal S1x1x512x128 .f32) (kt : Vec Ideal S1x1x512x128 .bf16) (r k : Fin 512) :
    k0_pay11 q kt (ix2 r k) = diag q kt r k := by
  have h : k0_pay11 q kt (ix2 r k)
      = Scalar.select (IntOp.cmpi .sle (BitVec.ofNat 32 k.val) (BitVec.ofNat 32 r.val)) (k0_pay5 q kt (ix2 r k))
          (Ideal.ofBits .f32 0xFF800000#32) := by
    pointwise [k0_pay11, k0_pay5]
  rw [h, pay5_apply, neg_inf, WordCmp.cmpi_sle_ofNat (by omega) (by omega), diag]
  by_cases hk : k.val ≤ r.val <;> simp [hk, Scalar.select]

/-- The weighted sum after the diagonal tile, before division. -/
def last (q : Vec Ideal S1x1x512x128 .f32) (m : EReal) (acc : EReal)
    (kt vt : Vec Ideal S1x1x512x128 .bf16) (r : Fin 512) (d : Fin 128) : EReal :=
  acc * Ideal.exp2 (m - max m (diagTop q kt r))
    + ∑ k : Fin 512, Ideal.exp2 (diag q kt r k - max m (diagTop q kt r)) * vt (ix4 0 0 k d)

/-- The running maximum after the diagonal tile. -/
theorem pay13_apply (q : Vec Ideal S1x1x512x128 .f32) (m : FVec Ideal S512x1 .f32) (kt : Vec Ideal S1x1x512x128 .bf16)
    (r : Fin 512) : k0_pay13 q m kt (ix2 r 0) = max (m (ix2 r 0)) (diagTop q kt r) := by
  pointwise [k0_pay13, diagTop, pay11_apply]
  rw [neg_inf]

/-- A head's result at one element: the weighted sum over the sum of weights, which lane 64 holds. -/
theorem pay16_apply (q : Vec Ideal S1x1x512x128 .f32) (m : FVec Ideal S512x1 .f32) (acc : FVec Ideal S512x128 .f32)
    (kt vt : Vec Ideal S1x1x512x128 .bf16) (r : Fin 512) (d : Fin 64) :
    k0_pay16 acc (k0_pay12 vt) (k0_pay14 q m kt) (k0_pay15 q m kt) (ix2 r d)
      = Ideal.div (last q (m (ix2 r 0)) (acc (ix2 r ⟨d.val, by omega⟩)) kt vt r ⟨d.val, by omega⟩)
          (last q (m (ix2 r 0)) (acc (ix2 r 64)) kt vt r 64) := by
  pointwise [k0_pay16, k0_pay12, k0_pay14, k0_pay15, pay11_apply, pay13_apply, last]
  rfl

/-- The written block at a lane of the first head. -/
theorem pay1_left (q : Vec Ideal S1x1x512x128 .f32) (m : FVec Ideal S512x1 .f32) (acc : FVec Ideal S512x128 .f32)
    (kt vt : Vec Ideal S1x1x512x128 .bf16) (v44 : FVec Ideal S512x64 .f32) (r : Fin 512) (d : Fin 64) :
    k0_pay1 v44 m acc (k0_pay26 q kt) (k0_pay27 vt) (ix3 0 r ⟨d.val, by omega⟩) = v44 (ix2 r d) := by
  pointwise [k0_pay1]

/-- The written block at a lane of the second head. -/
theorem pay1_right (q : Vec Ideal S1x1x512x128 .f32) (m : FVec Ideal S512x1 .f32) (acc : FVec Ideal S512x128 .f32)
    (kt vt : Vec Ideal S1x1x512x128 .bf16) (v44 : FVec Ideal S512x64 .f32) (r : Fin 512) (d : Fin 64) :
    k0_pay1 v44 m acc (k0_pay26 q kt) (k0_pay27 vt) (ix3 0 r ⟨64 + d.val, by omega⟩)
      = k0_pay16 acc (k0_pay12 vt) (k0_pay14 q m kt) (k0_pay15 q m kt) (ix2 r d) := by
  change k0_pay1 v44 m acc (k0_pay11 q kt) (k0_pay12 vt) (ix3 0 r ⟨64 + d.val, by omega⟩) = _
  rw [pay16_apply]
  pointwise [k0_pay1, k0_pay12, pay11_apply, last]
  rw [neg_inf]
  rfl

end Cert.AttnTile

end
-- ==== Proof.AttnRef.lean ====
/- The reference's attention, read at one element: the causal softmax of a row's scores, and its sum of the values. -/
module

public import proofs.«01_k».proof.Proof.Gen.AttnRefIdeal.Run
public import proofs.«01_k».proof.Proof.AttnTile

@[expose] public section

set_option maxRecDepth 16384

noncomputable section

namespace Cert.AttnRef

open Idealize.ShloMosaic Idealize.ShloMosaic.TcCoe Idealize.SL.Sem
open Cert.AttnRefIdeal Cert.AttnRefIdeal.Gen Cert.AttnRefIdeal.Value

/-- The reference's masked scores. -/
def scores (Q K : FVec Ideal S4x8x8192x96 .f32) (P : IVec S4x8192 32) : FVec Ideal S4x8x8192x8192 .f32 :=
  select (broadcastInDim S4x8x8192x8192 ![0, 1, 2, 3] bcast_S4x1x8192x8192_S4x8x8192x8192_0_1_2_3
      (cmpi .sle
        (broadcastInDim S4x1x8192x8192 ![0, 1, 2, 3] bcast_S4x1x1x8192_S4x1x8192x8192_0_1_2_3
          (broadcastInDim S4x1x1x8192 ![0, 3] bcast_S4x8192_S4x1x1x8192_0_3 P))
        (broadcastInDim S4x1x8192x8192 ![0, 1, 2, 3] bcast_S4x1x8192x1_S4x1x8192x8192_0_1_2_3
          (broadcastInDim S4x1x8192x1 ![0, 2] bcast_S4x8192_S4x1x8192x1_0_2 P))))
    (Host.divf (Host.dotGeneral dot_S4x8x8192x96_S4x8x8192x96_S4x8x8192x8192_3_3_2_2_01_01 none Q K)
      (broadcastInDim S4x8x8192x8192 ![] bcast_S_S4x8x8192x8192 (Host.sqrt (constant S_ .f32 0x42C00000#32))))
    (broadcastInDim S4x8x8192x8192 ![] bcast_S_S4x8x8192x8192 (constant S_ .f32 0xFF800000#32))

/-- A masked score at one element. -/
theorem scores_apply (Q K : FVec Ideal S4x8x8192x96 .f32) (P : IVec S4x8192 32) (b : Fin 4) (h : Fin 8) (i j : Fin 8192) :
    scores Q K P (ix4 b h i j)
      = Scalar.select (IntOp.cmpi .sle (P (ix2 b j)) (P (ix2 b i)))
          (Ideal.div (∑ d : Fin 96, Q (ix4 b h i d) * K (ix4 b h j d)) (Ideal.sqrt (Ideal.ofBits .f32 0x42C00000#32)))
          (Ideal.ofBits .f32 0xFF800000#32) := by
  pointwise [scores]

/-- The maximum along the last of four axes, at one element. -/
theorem reduceMax_apply {n0 n1 n2 n3 : ℕ} (s : FVec Ideal ⟨4, ![n0, n1, n2, n3]⟩ .f32) (init : FVec Ideal S_ .f32)
    (red : (⟨4, ![n0, n1, n2, n3]⟩ : Shape).ReducesTo [3] ⟨3, ![n0, n1, n2]⟩) (hu : 0 < S_.numel)
    (b : Fin n0) (h : Fin n1) (i : Fin n2) :
    Host.reduce FloatOps.maximumf s init red hu (ix3 b h i)
      = Finset.univ.fold max (init ix0) fun k : Fin n3 => s (ix4 b h i k) := by
  pointwise
  rw [show Shape.Idx.first hu = ix0 from funext fun a => a.elim0]

/-- The largest score of each row. -/
def tops (s : FVec Ideal S4x8x8192x8192 .f32) : FVec Ideal S4x8x8192 .f32 :=
  maximumf (broadcastInDim S4x8x8192 ![] bcast_S_S4x8x8192 (constant S_ .f32 0xFF800000#32))
    (Host.reduce FloatOps.maximumf s (constant S_ .f32 0xFF800000#32) reducesTo_S4x8x8192x8192_S4x8x8192_d3 h_S_)

/-- The largest score of a row. -/
theorem tops_apply (s : FVec Ideal S4x8x8192x8192 .f32) (b : Fin 4) (h : Fin 8) (i : Fin 8192) :
    tops s (ix3 b h i) = Finset.univ.fold max ⊥ fun k : Fin 8192 => s (ix4 b h i k) := by
  have hmax : ∀ (x y : FVec Ideal S4x8x8192 .f32) (j : S4x8x8192.Idx), maximumf x y j = max (x j) (y j) := fun _ _ _ => rfl
  have hb : (broadcastInDim S4x8x8192 ![] bcast_S_S4x8x8192 (constant (F := Ideal) S_ .f32 0xFF800000#32)) (ix3 b h i) = ⊥ := by
    pointwise
    exact AttnTile.neg_inf
  have hr := reduceMax_apply s (constant S_ .f32 0xFF800000#32) reducesTo_S4x8x8192x8192_S4x8x8192_d3 h_S_ b h i
  have hi : (constant (F := Ideal) S_ .f32 0xFF800000#32) ix0 = ⊥ := AttnTile.neg_inf
  rw [hi] at hr
  unfold tops
  rw [hmax, hb, hr]
  exact max_eq_right bot_le

/-- The exponentials of the scores less a value for each row. -/
def expsOf (s : FVec Ideal S4x8x8192x8192 .f32) (M : FVec Ideal S4x8x8192 .f32) : FVec Ideal S4x8x8192x8192 .f32 :=
  Host.exp (subf s (broadcastInDim S4x8x8192x8192 ![0, 1, 2, 3] bcast_S4x8x8192x1_S4x8x8192x8192_0_1_2_3
    (broadcastInDim S4x8x8192x1 ![0, 1, 2] bcast_S4x8x8192_S4x8x8192x1_0_1_2 M)))

/-- An exponential at one element. -/
theorem expsOf_apply (s : FVec Ideal S4x8x8192x8192 .f32) (M : FVec Ideal S4x8x8192 .f32) (b : Fin 4) (h : Fin 8)
    (i j : Fin 8192) : expsOf s M (ix4 b h i j) = Ideal.exp (s (ix4 b h i j) - M (ix3 b h i)) := by
  pointwise [expsOf]

/-- The exponentials of the scores less their row's maximum. -/
def exps (s : FVec Ideal S4x8x8192x8192 .f32) : FVec Ideal S4x8x8192x8192 .f32 := expsOf s (tops s)

/-- An exponential at one element. -/
theorem exps_apply (s : FVec Ideal S4x8x8192x8192 .f32) (b : Fin 4) (h : Fin 8) (i j : Fin 8192) :
    exps s (ix4 b h i j)
      = Ideal.exp (s (ix4 b h i j) - Finset.univ.fold max ⊥ fun k : Fin 8192 => s (ix4 b h i k)) := by
  rw [exps, expsOf_apply, tops_apply]

/-- The weights' sum of the values, heads side by side. -/
def mixed (e : FVec Ideal S4x8x8192x8192 .f32) (V : FVec Ideal S4x8x8192x64 .f32) : FVec Ideal S4x8192x512 .bf16 :=
  truncf .bf16 (shapeCast _ (transpose S4x8192x8x64 [0, 2, 1, 3]
    (Host.dotGeneral dot_S4x8x8192x8192_S4x8x8192x64_S4x8x8192x64_3_2_2_3_01_01 none
      (Host.divf e (broadcastInDim S4x8x8192x8192 ![0, 1, 2, 3] bcast_S4x8x8192x1_S4x8x8192x8192_0_1_2_3
        (broadcastInDim S4x8x8192x1 ![0, 1, 2] bcast_S4x8x8192_S4x8x8192x1_0_1_2
          (Host.reduceAdd e (constant S_ .f32 0x00000000#32) reducesTo_S4x8x8192x8192_S4x8x8192_d3 h_S_)))) V)
    transposes_S4x8x8192x64_S4x8192x8x64_0_2_1_3) shapeCasts_S4x8192x8x64_S4x8192x512) bitsLt_bf16_f32

/-- That sum at one element. -/
theorem mixed_apply (e : FVec Ideal S4x8x8192x8192 .f32) (V : FVec Ideal S4x8x8192x64 .f32) (b : Fin 4) (i : Fin 8192)
    (h : Fin 8) (d : Fin 64) :
    mixed e V (ix3 b i ⟨64 * h.val + d.val, by omega⟩)
      = ∑ j : Fin 8192, Ideal.div (e (ix4 b h i j)) (∑ k : Fin 8192, e (ix4 b h i k)) * V (ix4 b h j d) := by
  pointwise [mixed]

variable (m : (ℓ : Loc nD τ sig) → Buf (Elt Ideal) ℓ)

/-- The reference's result is that sum over the masked scores' exponentials. -/
theorem res_eq (c : Dev nD) : res_out0 m c
    = mixed (exps (scores (m (c, main_arg0)) (m (c, main_arg1)) (m (c, main_arg3)))) (m (c, main_arg2)) := by
  unfold res_out0 res_main_v24
  rfl

/-- The reference's result at one element. -/
theorem res_apply (c : Dev nD) (b : Fin 4) (i : Fin 8192) (h : Fin 8) (d : Fin 64) (S : Fin 8192 → EReal)
    (hS : ∀ j, scores (m (c, main_arg0)) (m (c, main_arg1)) (m (c, main_arg3)) (ix4 b h i j) = S j) :
    res_out0 m c (ix3 b i ⟨64 * h.val + d.val, by omega⟩)
      = ∑ j : Fin 8192, Ideal.div (Ideal.exp (S j - Finset.univ.fold max ⊥ S))
          (∑ k : Fin 8192, Ideal.exp (S k - Finset.univ.fold max ⊥ S))
          * (m (c, main_arg2) : FVec Ideal S4x8x8192x64 .f32) (ix4 b h j d) := by
  rw [res_eq, mixed_apply]
  simp only [exps_apply, hS]

end Cert.AttnRef

end
-- ==== Proof.AttnLoop.lean ====
/- The attention's loops over the key tiles: what each carries, and what the kernel writes at a grid point. -/
module

public import proofs.«01_k».proof.Proof.Gen.AttnIdeal.Value
public import proofs.«01_k».proof.Proof.AttnTile
public import Idealize.ShloMosaic.Lib.Pipeline.ValueKit
public import Idealize.ShloMosaic.Lib.Pipeline.ReadBack
public import Idealize.ShloMosaic.Lib.Claim

@[expose] public section

set_option maxRecDepth 16384

noncomputable section

namespace Cert.AttnLoop

open Idealize.ShloMosaic Idealize.ShloMosaic.TcCoe Idealize.SL.Sem
open Idealize.ShloMosaic.Pipeline (Dat)
open Cert.AttnIdeal Cert.AttnIdeal.Gen

variable (m : (ℓ : Loc nD τ sig) → Buf (Elt Ideal) ℓ)

/-- Tile `b` of head `h` of a block of keys or values: its 512 rows from row `512 b`. -/
def tile (x : Vec Ideal S1x2x8192x128 .bf16) (h : Fin 2) (b : ℕ) : Vec Ideal S1x1x512x128 .bf16 :=
  fun j => x (ix4 0 h ⟨(512 * b + (j 2).val) % 8192, Nat.mod_lt _ (by norm_num)⟩ (j 3))

/-- Head `h` of a block of queries. -/
def head (x : Vec Ideal S1x2x512x128 .f32) (h : Fin 2) : Vec Ideal S1x1x512x128 .f32 :=
  fun j => x (ix4 0 h (j 2) (j 3))

/-- The running maximum and the running sums after the first `n` tiles. -/
def tiles (q : Vec Ideal S1x1x512x128 .f32) (kt vt : ℕ → Vec Ideal S1x1x512x128 .bf16) :
    ℕ → FVec Ideal S512x1 .f32 × FVec Ideal S512x128 .f32
  | 0 => (k0_pay3, k0_pay4)
  | n + 1 => (k0_pay6 q (tiles q kt vt n).1 (kt n), k0_pay7 q (tiles q kt vt n).1 (tiles q kt vt n).2 (kt n) (vt n))

/-- What one head's part of a grid point comes to: the tiles before the diagonal one, the diagonal one, and the quotient. -/
def headOut (q : Vec Ideal S1x1x512x128 .f32) (kt vt : ℕ → Vec Ideal S1x1x512x128 .bf16) (n : ℕ) : FVec Ideal S512x64 .f32 :=
  k0_pay16 (tiles q kt vt n).2 (k0_pay12 (vt n)) (k0_pay14 q (tiles q kt vt n).1 (kt n)) (k0_pay15 q (tiles q kt vt n).1 (kt n))

/-- The trips of the loop over whole tiles: as many as the queries' block has blocks before it. -/
theorem trips_eq : ∀ n : Fin 16, Scf.trips 0#32
    (Scalar.addi 0#32 (Scalar.muli (Scalar.divsi (Scalar.subi (BitVec.ofNat 32 n.val) 0#32) 1#32) 1#32)) 1#32 = n.val := by
  decide +kernel

/-- The loop over what a step of one leaves makes no trip. -/
theorem rest_eq : ∀ n : Fin 16, Scf.trips
    (Scalar.addi 0#32 (Scalar.muli (Scalar.divsi (Scalar.subi (BitVec.ofNat 32 n.val) 0#32) 1#32) 1#32))
    (Scalar.addi 0#32 (Scalar.subi (BitVec.ofNat 32 n.val) 0#32)) 1#32 = 0 := by
  decide +kernel

/-- The row a trip's tile begins at. -/
theorem iv_eq : ∀ n : Fin 16, (Scalar.indexCast (Scalar.muli (Scf.iv 0#32 1#32 n.val) 512#32)).toNat = 512 * n.val := by
  decide +kernel

/-- The row the diagonal tile begins at. -/
theorem diag_eq : ∀ n : Fin 16, (Scalar.indexCast (Scalar.muli (BitVec.ofNat 32 n.val) 512#32)).toNat = 512 * n.val := by
  decide +kernel

/-- The trips of the first loop at a grid point. -/
theorem trips_lt (i : grid0.Coords) : (k0_t1_loop i).trips = (i 2).val := trips_eq (i 2)

/-- Where the tile loaded begins. -/
theorem off1_eq (i : grid0.Coords) (k : Fin (k0_t1_loop i).trips) : k0_off1 i k = ![0, 0, 512 * k.val, 0] := by
  have hk : k.val < 16 := lt_of_lt_of_le k.isLt (by rw [trips_lt]; exact (i 2).isLt.le)
  have h := iv_eq ⟨k.val, hk⟩
  unfold k0_off1
  exact congrArg (fun a => (![0, 0, a, 0] : Fin 4 → ℕ)) h

/-- Where the tile loaded begins. -/
theorem off4_eq (i : grid0.Coords) (k : Fin (k0_t3_loop i).trips) : k0_off4 i k = ![0, 1, 512 * k.val, 0] := by
  have hk : k.val < 16 := lt_of_lt_of_le k.isLt (by
    rw [show (k0_t3_loop i).trips = (i 2).val from trips_eq (i 2)]; exact (i 2).isLt.le)
  have h := iv_eq ⟨k.val, hk⟩
  unfold k0_off4
  exact congrArg (fun a => (![0, 1, a, 0] : Fin 4 → ℕ)) h

/-- Where the tile loaded begins. -/
theorem off3_eq (i : grid0.Coords) : k0_off3 i = ![0, 0, 512 * (i 2).val, 0] := by
  unfold k0_off3
  exact congrArg (fun a => (![0, 0, a, 0] : Fin 4 → ℕ)) (diag_eq (i 2))

/-- Where the tile loaded begins. -/
theorem off6_eq (i : grid0.Coords) : k0_off6 i = ![0, 1, 512 * (i 2).val, 0] := by
  unfold k0_off6
  exact congrArg (fun a => (![0, 1, a, 0] : Fin 4 → ℕ)) (diag_eq (i 2))

/-- A tile loaded from a block. -/
theorem ld_tile (x : Vec Ideal S1x2x8192x128 .bf16) (h : Fin 2) (b : ℕ) (off : Fin 4 → ℕ)
    (inb : ∀ a, off a + S1x1x512x128.size a ≤ S1x2x8192x128.size a) (ho : off = ![0, h.val, 512 * b, 0]) :
    View.ld x (Rect.unit (s := S1x2x8192x128) off S1x1x512x128.size inb) = tile x h b := by
  subst ho
  have hb : 512 * b + 512 ≤ 8192 := inb 2
  funext j
  unfold tile
  refine congrArg x (funext fun a => Fin.ext ?_)
  have h0 : (j 0).val < 1 := (j 0).isLt
  have h1 : (j 1).val < 1 := (j 1).isLt
  have h2 : (j 2).val < 512 := (j 2).isLt
  fin_cases a
  all_goals simp
  all_goals omega

/-- One head's queries loaded from a block. -/
theorem ld_head (x : Vec Ideal S1x2x512x128 .f32) (h : Fin 2)
    (inb : ∀ a, (![0, h.val, 0, 0] : Fin 4 → ℕ) a + S1x1x512x128.size a ≤ S1x2x512x128.size a) :
    View.ld x (Rect.unit (s := S1x2x512x128) ![0, h.val, 0, 0] S1x1x512x128.size inb) = head x h := by
  funext j
  unfold head
  refine congrArg x (funext fun a => Fin.ext ?_)
  have h0 : (j 0).val < 1 := (j 0).isLt
  have h1 : (j 1).val < 1 := (j 1).isLt
  fin_cases a
  all_goals simp
  all_goals omega

/-- A tile read from a block that a staging buffer holds. -/
theorem readAt_tile (M : Memref sig .tc .vmem S1x2x8192x128 .bf16) (hM : M.IsWhole) (x : Vec Ideal S1x2x8192x128 .bf16)
    (h : Fin 2) (b : ℕ) (off : Fin 4 → ℕ)
    (inb : ∀ a, off a + S1x1x512x128.size a ≤ S1x2x8192x128.size a) (ho : off = ![0, h.val, 512 * b, 0]) :
    View.readAt (Elt Ideal) M.view (Rect.unit (s := S1x2x8192x128) off S1x1x512x128.size inb).toLoadRect (hM.unread x)
      = tile x h b := by
  rw [← ld_tile x h b off inb ho]
  funext j
  exact congrFun (hM.read_unread x) _

/-- One trip of the loop over the whole tiles of head 0. -/
theorem trip1 (𝒱 : Variants) (c : Dev nD) (bd : Option 𝒱.V) (i : grid0.Coords) (arg3 : Memref sig .tc .vmem S1x2x512x128 .f32) (harg3 : arg3.IsWhole) (arg4 : Memref sig .tc .vmem S1x2x8192x128 .bf16) (harg4 : arg4.IsWhole) (arg5 : Memref sig .tc .vmem S1x2x8192x128 .bf16) (harg5 : arg5.IsWhole) (arg6 : Memref sig .tc .vmem S1x512x128 .bf16) (harg6 : arg6.IsWhole) (v0 : Vec Ideal S1x1x512x128 .f32)
    (x4 x5 : Vec Ideal S1x2x8192x128 .bf16) (k : Fin (k0_t1_loop i).trips) (acc : FVec Ideal S512x1 .f32 × FVec Ideal S512x128 .f32) :
    tripR_k0_t1 (F := Ideal) 𝒱 c bd i arg3 harg3 arg4 harg4 arg5 harg5 arg6 harg6 v0 (harg4.unread x4) (harg5.unread x5) k acc
      = (k0_pay6 v0 acc.1 (tile x4 0 k.val), k0_pay7 v0 acc.1 acc.2 (tile x4 0 k.val) (tile x5 0 k.val)) := by
  rw [← readAt_tile arg4 harg4 x4 0 k.val _ (k0_off1_inb i k) (off1_eq i k),
    ← readAt_tile arg5 harg5 x5 0 k.val _ (k0_off1_inb i k) (off1_eq i k)]
  unfold tripR_k0_t1 trip_k0_t1
  rfl

/-- What the loop over the whole tiles of head 0 carries before trip `n`. -/
theorem st1_eq (𝒱 : Variants) (c : Dev nD) (bd : Option 𝒱.V) (i : grid0.Coords) (arg3 : Memref sig .tc .vmem S1x2x512x128 .f32) (harg3 : arg3.IsWhole) (arg4 : Memref sig .tc .vmem S1x2x8192x128 .bf16) (harg4 : arg4.IsWhole) (arg5 : Memref sig .tc .vmem S1x2x8192x128 .bf16) (harg5 : arg5.IsWhole) (arg6 : Memref sig .tc .vmem S1x512x128 .bf16) (harg6 : arg6.IsWhole) (v0 : Vec Ideal S1x1x512x128 .f32)
    (x4 x5 : Vec Ideal S1x2x8192x128 .bf16) (n : ℕ) (hn : n ≤ (k0_t1_loop i).trips) :
    st_k0_t1 (F := Ideal) 𝒱 c bd i arg3 harg3 arg4 harg4 arg5 harg5 arg6 harg6 v0 (harg4.unread x4) (harg5.unread x5) (k0_pay3, k0_pay4) n
      = tiles v0 (tile x4 0) (tile x5 0) n := by
  induction n with
  | zero => rfl
  | succ n ih =>
    have h := st_k0_t1_succ (F := Ideal) 𝒱 c bd i arg3 harg3 arg4 harg4 arg5 harg5 arg6 harg6 v0 (harg4.unread x4) (harg5.unread x5) (k0_pay3, k0_pay4) ⟨n, hn⟩
    refine h.trans ?_
    rw [trip1, ih (Nat.le_of_succ_le hn)]
    rfl

/-- One trip of the loop over the whole tiles of head 1. -/
theorem trip3 (𝒱 : Variants) (c : Dev nD) (bd : Option 𝒱.V) (i : grid0.Coords) (arg3 : Memref sig .tc .vmem S1x2x512x128 .f32) (harg3 : arg3.IsWhole) (arg4 : Memref sig .tc .vmem S1x2x8192x128 .bf16) (harg4 : arg4.IsWhole) (arg5 : Memref sig .tc .vmem S1x2x8192x128 .bf16) (harg5 : arg5.IsWhole) (arg6 : Memref sig .tc .vmem S1x512x128 .bf16) (harg6 : arg6.IsWhole) (arg2 : BitVec 32) (v13_1 : FVec Ideal S512x128 .f32) (v27 : FVec Ideal S512x128 .bf16) (v33 : FVec Ideal S512x512 .f32) (v34 : FVec Ideal S512x1 .f32) (v45 : Vec Ideal S1x1x512x128 .f32)
    (x4 x5 : Vec Ideal S1x2x8192x128 .bf16) (k : Fin (k0_t3_loop i).trips) (acc : FVec Ideal S512x1 .f32 × FVec Ideal S512x128 .f32) :
    tripR_k0_t3 (F := Ideal) 𝒱 c bd i arg3 harg3 arg4 harg4 arg5 harg5 arg6 harg6 arg2 v13_1 v27 v33 v34 v45 (harg4.unread x4) (harg5.unread x5) k acc
      = (k0_pay6 v45 acc.1 (tile x4 1 k.val), k0_pay7 v45 acc.1 acc.2 (tile x4 1 k.val) (tile x5 1 k.val)) := by
  rw [← readAt_tile arg4 harg4 x4 1 k.val _ (k0_off4_inb i k) (off4_eq i k),
    ← readAt_tile arg5 harg5 x5 1 k.val _ (k0_off4_inb i k) (off4_eq i k)]
  unfold tripR_k0_t3 trip_k0_t3
  rfl

/-- What the loop over the whole tiles of head 1 carries before trip `n`. -/
theorem st3_eq (𝒱 : Variants) (c : Dev nD) (bd : Option 𝒱.V) (i : grid0.Coords) (arg3 : Memref sig .tc .vmem S1x2x512x128 .f32) (harg3 : arg3.IsWhole) (arg4 : Memref sig .tc .vmem S1x2x8192x128 .bf16) (harg4 : arg4.IsWhole) (arg5 : Memref sig .tc .vmem S1x2x8192x128 .bf16) (harg5 : arg5.IsWhole) (arg6 : Memref sig .tc .vmem S1x512x128 .bf16) (harg6 : arg6.IsWhole) (arg2 : BitVec 32) (v13_1 : FVec Ideal S512x128 .f32) (v27 : FVec Ideal S512x128 .bf16) (v33 : FVec Ideal S512x512 .f32) (v34 : FVec Ideal S512x1 .f32) (v45 : Vec Ideal S1x1x512x128 .f32)
    (x4 x5 : Vec Ideal S1x2x8192x128 .bf16) (n : ℕ) (hn : n ≤ (k0_t3_loop i).trips) :
    st_k0_t3 (F := Ideal) 𝒱 c bd i arg3 harg3 arg4 harg4 arg5 harg5 arg6 harg6 arg2 v13_1 v27 v33 v34 v45 (harg4.unread x4) (harg5.unread x5) (k0_pay18, k0_pay19) n
      = tiles v45 (tile x4 1) (tile x5 1) n := by
  induction n with
  | zero => rfl
  | succ n ih =>
    have h := st_k0_t3_succ (F := Ideal) 𝒱 c bd i arg3 harg3 arg4 harg4 arg5 harg5 arg6 harg6 arg2 v13_1 v27 v33 v34 v45 (harg4.unread x4) (harg5.unread x5) (k0_pay18, k0_pay19) ⟨n, hn⟩
    refine h.trans ?_
    rw [trip3, ih (Nat.le_of_succ_le hn)]
    rfl

/-- What the kernel writes at a grid point: the quotients of the two heads, side by side. -/
theorem outs_eq (c : Dev nD) (t : Fin cfg0.N) :
    outsAt0 m c t
      = k0_pay1 (headOut (head (iblk m c 0 t) 0) (tile (iblk m c 1 t) 0) (tile (iblk m c 2 t) 0) (grid0.coords t 2).val)
          (tiles (head (iblk m c 0 t) 1) (tile (iblk m c 1 t) 1) (tile (iblk m c 2 t) 1) (grid0.coords t 2).val).1
          (tiles (head (iblk m c 0 t) 1) (tile (iblk m c 1 t) 1) (tile (iblk m c 2 t) 1) (grid0.coords t 2).val).2
          (k0_pay26 (head (iblk m c 0 t) 1) (tile (iblk m c 1 t) 1 (grid0.coords t 2).val))
          (k0_pay27 (tile (iblk m c 2 t) 1 (grid0.coords t 2).val)) := by
  conv_lhs => unfold outsAt0
  frame_out
  have r1 : (k0_t1_loop (grid0.coords t)).trips = (grid0.coords t 2).val := trips_eq _
  have e2 : Scf.trips (Scalar.addi 0#32 (Scalar.muli (Scalar.divsi (Scalar.subi
      (BitVec.ofNat 32 (grid0.coords t 2).val) 0#32) 1#32) 1#32))
      (Scalar.addi 0#32 (Scalar.subi (BitVec.ofNat 32 (grid0.coords t 2).val) 0#32)) 1#32 = 0 := rest_eq _
  have L0 := ld_head (iblk m c 0 t) 0 (by decide)
  have L1 := ld_head (iblk m c 0 t) 1 (by decide)
  rw [← L0, ← L1]
  unfold headOut
  rw [← ld_tile (iblk m c 1 t) 0 (grid0.coords t 2).val _ (k0_off3_inb _) (off3_eq _),
    ← ld_tile (iblk m c 2 t) 0 (grid0.coords t 2).val _ (k0_off3_inb _) (off3_eq _),
    ← ld_tile (iblk m c 1 t) 1 (grid0.coords t 2).val _ (k0_off6_inb _) (off6_eq _),
    ← ld_tile (iblk m c 2 t) 1 (grid0.coords t 2).val _ (k0_off6_inb _) (off6_eq _)]
  rw [st1_eq _ _ _ _ _ _ _ _ _ _ _ _ _ _ _ _ le_rfl, st3_eq _ _ _ _ _ _ _ _ _ _ _ _ _ _ _ _ _ _ _ _ _ le_rfl]
  rw [e2, r1]
  simp only [st_k0_t2_zero, st_k0_t4_zero]
  rfl

/-- What the kernel writes at a grid point, at an element: the quotient of the element's head. -/
theorem outs_apply (c : Dev nD) (t : Fin cfg0.N) (h : Fin 2) (r : Fin 512) (d : Fin 64) :
    outsAt0 m c t (ix3 0 r ⟨64 * h.val + d.val, by omega⟩)
      = headOut (head (iblk m c 0 t) h) (tile (iblk m c 1 t) h) (tile (iblk m c 2 t) h) (grid0.coords t 2).val (ix2 r d) := by
  rw [outs_eq]
  fin_cases h
  · refine Eq.trans (congrArg _ (congrArg (ix3 0 r) (Fin.ext ?_))) (AttnTile.pay1_left _ _ _ _ _ _ r d)
    simp
  · exact AttnTile.pay1_right _ _ _ _ _ _ r d

end Cert.AttnLoop

end
-- ==== Proof.AttnRow.lean ====
/- One row of the attention's kernel: the tiles' running maximum and sums are the running softmax over that row's scores. -/
module

public import proofs.«01_k».proof.Proof.AttnLoop

@[expose] public section

set_option maxRecDepth 16384

noncomputable section

namespace Cert.AttnRow

open Idealize.ShloMosaic Idealize.ShloMosaic.TcCoe Idealize.SL.Sem
open Cert.AttnIdeal Cert.AttnIdeal.Gen Cert.AttnTile Cert.AttnLoop Cert.Softmax

/-- The loop's first maximum is −∞. -/
theorem pay3_apply (r : Fin 512) : (k0_pay3 (F := Ideal)) (ix2 r 0) = ⊥ := by
  pointwise [k0_pay3]
  exact neg_inf

/-- The loop's first sums are zero. -/
theorem pay4_apply (r : Fin 512) (d : Fin 128) : (k0_pay4 (F := Ideal)) (ix2 r d) = 0 := by
  pointwise [k0_pay4]

variable {q : Vec Ideal S1x1x512x128 .f32} {kt vt : ℕ → Vec Ideal S1x1x512x128 .bf16} {r : Fin 512} {n : ℕ}
  {T : ℕ → EReal} {w : Fin 128 → ℕ → EReal}

/-- The maximum and the sums after `b` whole tiles, in row `r`. -/
theorem tiles_apply (hT : ∀ b, b < n → ∀ k : Fin 512, score q (kt b) r k = T (512 * b + k))
    (hw : ∀ b, b ≤ n → ∀ (k : Fin 512) (d : Fin 128), vt b (ix4 0 0 k d) = w d (512 * b + k)) (b : ℕ) (hb : b ≤ n)
    (d : Fin 128) :
    (tiles q kt vt b).1 (ix2 r 0) = (run T (w d) b).1 ∧ (tiles q kt vt b).2 (ix2 r d) = (run T (w d) b).2 := by
  induction b with
  | zero => exact ⟨pay3_apply r, pay4_apply r d⟩
  | succ b ih =>
    obtain ⟨i1, i2⟩ := ih (Nat.le_of_succ_le hb)
    have ht : tileTop q (kt b) r = tileMax T b := by
      unfold tileTop tileMax
      exact congrArg (fun f => Finset.univ.fold max ⊥ f) (funext fun k => hT b hb k)
    constructor
    · show k0_pay6 q (tiles q kt vt b).1 (kt b) (ix2 r 0) = max (run T (w d) b).1 (tileMax T b)
      rw [pay6_apply, i1, ht]
    · show k0_pay7 q (tiles q kt vt b).1 (tiles q kt vt b).2 (kt b) (vt b) (ix2 r d) = (step T (w d) b (run T (w d) b)).2
      rw [pay7_apply, i1, i2, ht, step]
      congr 1
      refine Finset.sum_congr rfl fun k _ => ?_
      rw [hT b hb k, hw b (Nat.le_of_succ_le hb) k d]

/-- The sums after the diagonal tile, in row `r`. -/
theorem last_apply (hT : ∀ b, b < n → ∀ k : Fin 512, score q (kt b) r k = T (512 * b + k))
    (hD : ∀ k : Fin 512, diag q (kt n) r k = T (512 * n + k))
    (hw : ∀ b, b ≤ n → ∀ (k : Fin 512) (d : Fin 128), vt b (ix4 0 0 k d) = w d (512 * b + k)) (d : Fin 128) :
    last q ((tiles q kt vt n).1 (ix2 r 0)) ((tiles q kt vt n).2 (ix2 r d)) (kt n) (vt n) r d = (run T (w d) (n + 1)).2 := by
  obtain ⟨i1, i2⟩ := tiles_apply hT hw n le_rfl d
  have ht : diagTop q (kt n) r = tileMax T n := by
    unfold diagTop tileMax
    exact congrArg (fun f => Finset.univ.fold max ⊥ f) (funext fun k => hD k)
  show _ = (step T (w d) n (run T (w d) n)).2
  rw [last, i1, i2, ht, step]
  congr 1
  refine Finset.sum_congr rfl fun k _ => ?_
  rw [hD k, hw n le_rfl k d]

/-- A head's quotient in row `r`: the running softmax's weighted sum over its sum of weights. -/
theorem headOut_apply (hT : ∀ b, b < n → ∀ k : Fin 512, score q (kt b) r k = T (512 * b + k))
    (hD : ∀ k : Fin 512, diag q (kt n) r k = T (512 * n + k))
    (hw : ∀ b, b ≤ n → ∀ (k : Fin 512) (d : Fin 128), vt b (ix4 0 0 k d) = w d (512 * b + k)) (d : Fin 64) :
    headOut q kt vt n (ix2 r d)
      = Ideal.div (run T (w ⟨d.val, by omega⟩) (n + 1)).2 (run T (w 64) (n + 1)).2 := by
  unfold headOut
  rw [pay16_apply, last_apply hT hD hw, last_apply hT hD hw]

end Cert.AttnRow

end
-- ==== Proof.AttnScore.lean ====
/- One query's scores as reals: what the kernel's tiles and the reference's masked scores come to when queries and keys are finite. -/
module

public import proofs.«01_k».proof.Proof.AttnBlocks
public import proofs.«01_k».proof.Proof.AttnPre
public import proofs.«01_k».proof.Proof.AttnRef
public import proofs.«01_k».proof.Proof.AttnRow

@[expose] public section

set_option maxRecDepth 16384

noncomputable section

namespace Cert.AttnScore

open Idealize.ShloMosaic Idealize.ShloMosaic.TcCoe Idealize.SL.Sem
open Cert.AttnIdeal Cert.AttnIdeal.Gen Cert.AttnBlocks Cert.Softmax

/-- The place of key `j` in its sequence. -/
abbrev key (j : ℕ) : Fin 8192 := ⟨j % 8192, Nat.mod_lt _ (by norm_num)⟩

/-- The product of query `i` and key `j` of head `h` over the square root of 96, as a real. -/
def z (Q K : FVec Ideal S4x8x8192x96 .f32) (b : Fin 4) (h : Fin 8) (i : Fin 8192) (j : ℕ) : ℝ :=
  (∑ d : Fin 96, (Q (ix4 b h i d)).toReal * (K (ix4 b h (key j) d)).toReal) * (Real.sqrt 96)⁻¹

/-- A finite value is its real. -/
theorem coe_real {x : EReal} (h : ∃ r : ℝ, x = r) : x = (x.toReal : EReal) := by
  obtain ⟨r, rfl⟩ := h
  rw [EReal.toReal_coe]

/-- A finite sum of reals, read as a value, is the sum of its terms read so. -/
theorem coe_fsum {ι : Type} (A : Finset ι) (f : ι → ℝ) : ((∑ i ∈ A, f i : ℝ) : EReal) = ∑ i ∈ A, (f i : EReal) := by
  classical
  induction A using Finset.induction_on with
  | empty => simp
  | insert a s ha ih => rw [Finset.sum_insert ha, Finset.sum_insert ha, EReal.coe_add, ih]

variable {Q K : FVec Ideal S4x8x8192x96 .f32} (hQ : ∀ i, ∃ r : ℝ, Q i = r) (hK : ∀ i, ∃ r : ℝ, K i = r)

include hQ hK

/-- The kernel's sum over 128 lanes with the factor on the queries is the real score over the logarithm of two. -/
theorem lanes_eq (b : Fin 4) (h : Fin 8) (i : Fin 8192) (j : ℕ) :
    ∑ d : Fin 128, wide Q (ix4 b h i d) * (AttnTile.factor : EReal) * wide K (ix4 b h (key j) d)
      = ((z Q K b h i j * (Real.log 2)⁻¹ : ℝ) : EReal) := by
  have hs := Fin.sum_univ_add (a := 96) (b := 32)
    (fun d : Fin (96 + 32) => wide Q (ix4 b h i d) * (AttnTile.factor : EReal) * wide K (ix4 b h (key j) d))
  refine hs.trans ?_
  have h2 : ∀ e : Fin 32, wide Q (ix4 b h i (Fin.natAdd 96 e)) * (AttnTile.factor : EReal)
      * wide K (ix4 b h (key j) (Fin.natAdd 96 e)) = 0 := fun e => by
    rw [wide_high Q b h i _ (by simp), zero_mul, zero_mul]
  have h1 : ∀ e : Fin 96, wide Q (ix4 b h i (Fin.castAdd 32 e)) * (AttnTile.factor : EReal)
      * wide K (ix4 b h (key j) (Fin.castAdd 32 e))
      = (((Q (ix4 b h i e)).toReal * AttnTile.factor * (K (ix4 b h (key j) e)).toReal : ℝ) : EReal) := fun e => by
    have eq : wide Q (ix4 b h i (Fin.castAdd 32 e)) = Q (ix4 b h i e) := wide_low Q b h i e
    have ek : wide K (ix4 b h (key j) (Fin.castAdd 32 e)) = K (ix4 b h (key j) e) := wide_low K b h (key j) e
    rw [eq, ek, EReal.coe_mul, EReal.coe_mul, ← coe_real (hQ _), ← coe_real (hK _)]
  simp only [h1, h2, Finset.sum_const_zero, add_zero]
  rw [← coe_fsum, z, Finset.sum_mul, Finset.sum_mul]
  congr 1
  refine Finset.sum_congr rfl fun e _ => ?_
  rw [AttnTile.factor]
  ring

/-- The reference's masked score of query `i` against key `j`. -/
theorem scores_eq [Cert.Pre_finite_and_counting_up.Facts] {P : IVec S4x8192 32} {b : Fin 4} {p : ℕ} (hp : p < 1024)
    (hP : ∀ j : Fin 8192, P (ix2 b j) = BitVec.ofNat 32 (p + j.val)) (h : Fin 8) (i j : Fin 8192) :
    AttnRef.scores Q K P (ix4 b h i j) = seen (z Q K b h i) i.val j.val := by
  rw [AttnRef.scores_apply]
  have hsum : ∑ d : Fin 96, Q (ix4 b h i d) * K (ix4 b h j d)
      = ((∑ d : Fin 96, (Q (ix4 b h i d)).toReal * (K (ix4 b h j d)).toReal : ℝ) : EReal) := by
    rw [coe_fsum]
    refine Finset.sum_congr rfl fun d _ => ?_
    rw [EReal.coe_mul, ← coe_real (hQ _), ← coe_real (hK _)]
  have h96 : Ideal.ofBits .f32 0x42C00000#32 = ((96 : ℝ) : EReal) := by
    simp [Ideal.ofBits, Ideal.ieee]
    rw [← EReal.coe_mul]
    norm_num
  have hroot : Ideal.sqrt (Ideal.ofBits .f32 0x42C00000#32) = ((Real.sqrt 96 : ℝ) : EReal) := by
    rw [h96, Ideal.sqrt_coe, if_neg (by norm_num)]
  have hne : Real.sqrt 96 ≠ 0 := (Real.sqrt_pos.mpr (by norm_num)).ne'
  have hj : key j.val = j := Fin.ext (Nat.mod_eq_of_lt j.isLt)
  rw [hroot, Ideal.div_coe hne, hsum, ← EReal.coe_mul, AttnTile.neg_inf, seen]
  by_cases hle : j.val ≤ i.val
  · rw [(AttnPre.sle_iff hp hP i j).mpr hle, if_pos hle, z, hj, one_div]
    rfl
  · rw [if_neg hle]
    exact if_neg fun e => hle ((AttnPre.sle_iff hp hP i j).mp e)

end Cert.AttnScore

end
-- ==== Proof.AttnValue.lean ====
/- The array the attention's kernel leaves, read at one element, against the reference's result. -/
module

public import proofs.«01_k».proof.Proof.AttnScore
public import Idealize.ShloMosaic.Lib.Pipeline.ReadBack

@[expose] public section

set_option maxRecDepth 16384

noncomputable section

namespace Cert.AttnValue

open Idealize.ShloMosaic Idealize.ShloMosaic.TcCoe Idealize.SL.Sem
open Idealize.ShloMosaic.Pipeline (Dat)
open Cert.AttnIdeal Cert.AttnIdeal.Gen Cert.AttnBlocks Cert.AttnLoop Cert.AttnScore Cert.Softmax

/-- The softmax of row `i`'s scores, and its sum of the values, at one lane. -/
def value (Q K : FVec Ideal S4x8x8192x96 .f32) (W : FVec Ideal S4x8x8192x64 .f32) (b : Fin 4) (h : Fin 8) (i : Fin 8192)
    (d : Fin 64) : EReal :=
  ∑ j ∈ Finset.range 8192, Ideal.div (Ideal.exp (seen (z Q K b h i) i.val j - top (seen (z Q K b h i) i.val) 8192))
    (∑ k ∈ Finset.range 8192, Ideal.exp (seen (z Q K b h i) i.val k - top (seen (z Q K b h i) i.val) 8192))
    * W (ix4 b h (key j) d)

/-- The greatest of a row's scores, taken over the keys of a sequence. -/
theorem top_fin (T : ℕ → EReal) (n : ℕ) : Finset.univ.fold max ⊥ (fun j : Fin n => T j.val) = top T n := by
  refine le_antisymm (Finset.sup_le (f := fun j : Fin n => T j.val) fun j _ => le_top T j.isLt) (Finset.sup_le fun j hj => ?_)
  exact Finset.le_sup (f := fun j : Fin n => T j.val) (Finset.mem_univ (⟨j, Finset.mem_range.mp hj⟩ : Fin n))

/-- The softmax's value as sums over the keys of a sequence. -/
theorem value_eq (Q K : FVec Ideal S4x8x8192x96 .f32) (W : FVec Ideal S4x8x8192x64 .f32) (b : Fin 4) (h : Fin 8)
    (i : Fin 8192) (d : Fin 64) (S : Fin 8192 → EReal) (hS : ∀ j, S j = seen (z Q K b h i) i.val j.val) :
    ∑ j : Fin 8192, Ideal.div (Ideal.exp (S j - Finset.univ.fold max ⊥ S))
        (∑ k : Fin 8192, Ideal.exp (S k - Finset.univ.fold max ⊥ S)) * W (ix4 b h j d) = value Q K W b h i d := by
  obtain rfl : S = fun j => seen (z Q K b h i) i.val j.val := funext hS
  unfold value
  rw [top_fin, Finset.sum_range, Finset.sum_range]
  refine Finset.sum_congr rfl fun j _ => ?_
  rw [show key j.val = j from Fin.ext (Nat.mod_eq_of_lt j.isLt)]

variable (m : (ℓ : Loc nD τ sig) → Buf (Elt Ideal) ℓ)

/-- The queries of a device. -/
abbrev argQ (c : Dev nD) : FVec Ideal S4x8x8192x96 .f32 := m (c, main_arg0)
/-- The keys of a device. -/
abbrev argK (c : Dev nD) : FVec Ideal S4x8x8192x96 .f32 := m (c, main_arg1)
/-- The values of a device. -/
abbrev argV (c : Dev nD) : FVec Ideal S4x8x8192x64 .f32 := m (c, main_arg2)

/-- A tile's score of a row is the real score over the logarithm of two. -/
theorem score_eq (c : Dev nD) (hQ : ∀ i, ∃ x : ℝ, argQ m c i = x) (hK : ∀ i, ∃ x : ℝ, argK m c i = x) (t : Fin cfg0.N)
    (h : Fin 2) (r : Fin 512) (b : ℕ) (k : Fin 512) :
    AttnTile.score (head (iblk m c 0 t) h) (tile (iblk m c 1 t) h b) r k
      = ((z (argQ m c) (argK m c) (bat t) (hd t h) (row t r) (512 * b + k.val) * (Real.log 2)⁻¹ : ℝ) : EReal) := by
  refine Eq.trans ?_ (lanes_eq hQ hK (bat t) (hd t h) (row t r) (512 * b + k.val))
  unfold AttnTile.score
  refine Finset.sum_congr rfl fun d _ => ?_
  rw [← blk0 m c t h r d, ← blk1 m c t h (key (512 * b + k.val)) d]
  rfl

/-- What a point writes at one element is the reference's value. -/
theorem out_apply (c : Dev nD) (hQ : ∀ i, ∃ x : ℝ, argQ m c i = x) (hK : ∀ i, ∃ x : ℝ, argK m c i = x) (t : Fin cfg0.N)
    (h : Fin 2) (r : Fin 512) (d : Fin 64) :
    outsAt0 m c t (ix3 0 r ⟨64 * h.val + d.val, by omega⟩)
      = value (argQ m c) (argK m c) (argV m c) (bat t) (hd t h) (row t r) d := by
  rw [outs_apply m c t h r d, coord_val t]
  have hrow : (row t r).val = 512 * (t.val % 16) + r.val := rfl
  have hT : ∀ b, b < t.val % 16 → ∀ k : Fin 512, AttnTile.score (head (iblk m c 0 t) h) (tile (iblk m c 1 t) h b) r k
      = seen (fun j => z (argQ m c) (argK m c) (bat t) (hd t h) (row t r) j * (Real.log 2)⁻¹) (row t r).val
          (512 * b + k.val) := fun b hb k => by
    rw [score_eq m c hQ hK, seen, if_pos (by omega)]
  have hD : ∀ k : Fin 512, AttnTile.diag (head (iblk m c 0 t) h) (tile (iblk m c 1 t) h (t.val % 16)) r k
      = seen (fun j => z (argQ m c) (argK m c) (bat t) (hd t h) (row t r) j * (Real.log 2)⁻¹) (row t r).val
          (512 * (t.val % 16) + k.val) := fun k => by
    rw [AttnTile.diag, score_eq m c hQ hK, seen]
    by_cases hk : k.val ≤ r.val
    · rw [if_pos hk, if_pos (by omega)]
    · rw [if_neg hk, if_neg (by omega)]
  have hw : ∀ b, b ≤ t.val % 16 → ∀ (k : Fin 512) (e : Fin 128), tile (iblk m c 2 t) h b (ix4 0 0 k e)
      = (fun (e : Fin 128) (j : ℕ) => ones (argV m c) (ix4 (bat t) (hd t h) (key j) e)) e (512 * b + k.val) :=
    fun b _ k e => blk2 m c t h (key (512 * b + k.val)) e
  rw [AttnRow.headOut_apply (w := fun (e : Fin 128) (j : ℕ) => ones (argV m c) (ix4 (bat t) (hd t h) (key j) e)) hT hD hw,
    quotient_eq _ _ _ (fun j => ones_one _ _ _ _) (n := 8192) (by omega) (row t r).isLt]
  unfold value
  refine Finset.sum_congr rfl fun j _ => ?_
  rw [ones_low]

/-- The array the kernel leaves is any tensor whose elements are the reference's. -/
theorem arr_eq (c : Dev nD) (hQ : ∀ i, ∃ x : ℝ, argQ m c i = x) (hK : ∀ i, ∃ x : ℝ, argK m c i = x)
    (X : FVec Ideal S4x8192x512 .bf16)
    (hX : ∀ b i (h : Fin 8) (d : Fin 64), X (ix3 b i ⟨64 * h.val + d.val, by omega⟩)
      = value (argQ m c) (argK m c) (argV m c) b h i d) :
    (dats m 0 c).arrAt 3 cfg0.N = X := by
  refine (dats m 0 c).arrAt_eq_of_covers 3 _ (by decide +kernel) fun t hf y => ?_
  have hN : t.val < 256 := lt_of_lt_of_eq t.isLt (show cfg0.N = 256 from N_0)
  blk_simp
  rw [after0_3]
  obtain ⟨r, e, rfl⟩ : ∃ (r : Fin 512) (e : Fin 128), y = ix3 0 r e := ⟨y 1, y 2, by
    rw [eq_ix3 y]; congr 1; exact Fin.ext (by have := (y 0).isLt; simp at this ⊢)⟩
  obtain ⟨h, d, rfl⟩ : ∃ (h : Fin 2) (d : Fin 64), e = ⟨64 * h.val + d.val, by omega⟩ :=
    ⟨⟨e.val / 64, by omega⟩, ⟨e.val % 64, by omega⟩, Fin.ext (by simp; omega)⟩
  have hX' : X ((win0_3.blk t).view.emb (ix3 0 r ⟨64 * h.val + d.val, by omega⟩))
      = X (ix3 (bat t) (row t r) ⟨64 * (hd t h).val + d.val, by omega⟩) := by
    blk_point [idx_val t]
  exact (out_apply m c hQ hK t h r d).trans (hX'.trans (hX _ _ _ _)).symm

end Cert.AttnValue

end
-- ==== Proof.MoeTile.lean ====
/- What one step of the experts' kernel computes, at one element: the hidden units of one group of experts, what they
   add to the accumulator, and the gated residual with its norm. -/
module

public import proofs.«01_k».proof.Proof.Gen.MoeIdeal.Skeleton
public import Idealize.ShloMosaic.Lib.Pipeline.ValueKit

@[expose] public section

set_option maxRecDepth 16384

noncomputable section

namespace Cert.MoeTile

open Idealize.ShloMosaic Idealize.SL.Sem
open Cert.MoeIdeal Cert.MoeIdeal.Gen

/-- Column `e * 128 + f` of the 1024 hidden units of a group: unit `f` of expert `e`. -/
abbrev unit (e : Fin 8) (f : Fin 128) : Fin 1024 := ⟨e.val * 128 + f.val, by omega⟩

/-- The gated unit from its two products and the expert's weight. -/
def gated (a u c : EReal) : EReal := a * Ideal.logistic a * u * c

/-- The hidden units of one step. -/
abbrev hid (v3 : Vec Ideal S512x1024 .bf16) (v5 v8 : Vec Ideal S1x1024x1024 .bf16) (v11 : Vec Ideal S512x128 .f32) :
    FVec Ideal S512x1024 .bf16 :=
  k0_pay11 (k0_pay5 v3 v5) (k0_pay6 v3 v8) (k0_pay7 v11) (k0_pay8 v3 v5 v8 v11) (k0_pay9 v3 v5 v8 v11)
    (k0_pay10 v3 v5 v8 v11)

/-- The first product at one element. -/
theorem pay5_apply (v3 : Vec Ideal S512x1024 .bf16) (v5 : Vec Ideal S1x1024x1024 .bf16) (r : Fin 512) (k : Fin 1024) :
    k0_pay5 v3 v5 (ix2 r k) = ∑ d : Fin 1024, v3 (ix2 r d) * v5 (ix3 0 d k) := by
  pointwise [k0_pay5, k0_pay4]

/-- The second product at one element. -/
theorem pay6_apply (v3 : Vec Ideal S512x1024 .bf16) (v8 : Vec Ideal S1x1024x1024 .bf16) (r : Fin 512) (k : Fin 1024) :
    k0_pay6 v3 v8 (ix2 r k) = ∑ d : Fin 1024, v3 (ix2 r d) * v8 (ix3 0 d k) := by
  pointwise [k0_pay6, k0_pay4]

set_option maxHeartbeats 2000000 in
/-- The hidden units at one element. -/
theorem hid_apply (v3 : Vec Ideal S512x1024 .bf16) (v5 v8 : Vec Ideal S1x1024x1024 .bf16)
    (v11 : Vec Ideal S512x128 .f32) (r : Fin 512) (e : Fin 8) (f : Fin 128) :
    hid v3 v5 v8 v11 (ix2 r (unit e f))
      = gated (k0_pay5 v3 v5 (ix2 r (unit e f))) (k0_pay6 v3 v8 (ix2 r (unit e f))) (v11 (ix2 r ⟨e.val, by omega⟩)) := by
  have hf := f.isLt
  unfold hid
  fin_cases e <;> pointwise [k0_pay11, k0_pay7, k0_pay8, k0_pay9, k0_pay10, gated] <;>
    (repeat (first | rw [dif_pos (by omega)] | rw [dif_neg (by omega)])) <;>
    reads_congr <;> refine congrArg _ (congrArg (ix2 r) (Fin.ext ?_)) <;> simp [unit] <;> omega

/-- One step adds to the accumulator the products of the hidden units with the third weights. -/
theorem pay1_apply (h : FVec Ideal S512x1024 .bf16) (acc : Vec Ideal S512x1024 .f32)
    (v95 : Vec Ideal S1x1024x1024 .bf16) (r : Fin 512) (d : Fin 1024) :
    k0_pay1 h acc (k0_pay12 v95) (constant S512x1024 .f32 0x00000000#32) (ix2 r d)
      = acc (ix2 r d) + ∑ e : Fin 8, ∑ f : Fin 128, h (ix2 r (unit e f)) * v95 (ix3 0 (unit e f) d) := by
  pointwise [k0_pay1, k0_pay12]
  congr 1
  exact Fin.sum_univ_tiles 8 128 rfl _

/-- The accumulator starts at zero. -/
theorem pay3_apply (j : S512x1024.Idx) : (k0_pay3 (F := Ideal)) j = 0 := by
  idx_vars j
  pointwise [k0_pay3]

/-- The gated residual at one element. -/
def resid (g x a : EReal) : EReal := x + g * a

/-- The norm of a row at column `d`. -/
def normed (row : Fin 1024 → EReal) (gf : EReal) (d : Fin 1024) : EReal :=
  row d * Ideal.rsqrt (Ideal.div (∑ k : Fin 1024, row k * row k) (Ideal.ofBits .f32 0x44800000#32)
    + Ideal.ofBits .f32 0x358637BD#32) * gf

/-- What the last step writes, at one element. -/
theorem pay2_apply (v105 : Vec Ideal S1x1x1024 .f32) (v107 v109 : Vec Ideal S512x1024 .f32)
    (v113 : Vec Ideal S1x1024 .f32) (r : Fin 512) (d : Fin 1024) :
    k0_pay2 v105 v107 v109 v113 (ix2 r d)
      = normed (fun k => resid (v105 (ix3 0 0 k)) (v107 (ix2 r k)) (v109 (ix2 r k))) (v113 (ix2 0 d)) d := by
  pointwise [k0_pay2, normed, resid]

end Cert.MoeTile

end
-- ==== Proof.MoeBlocks.lean ====
/- The blocks that the experts' kernel reads at a grid point, as entries of the arguments. -/
module

public import proofs.«01_k».proof.Proof.Gen.MoeIdeal.Value
public import proofs.«01_k».proof.Proof.MoeTile
public import Idealize.ShloMosaic.Lib.Pipeline.ValueKit
public import Idealize.ShloMosaic.Lib.Claim

@[expose] public section

set_option maxRecDepth 16384

noncomputable section

namespace Cert.MoeBlocks

open Idealize.ShloMosaic Idealize.ShloMosaic.TcCoe Idealize.SL.Sem
open Idealize.ShloMosaic.Pipeline (Dat)
open Cert.MoeIdeal Cert.MoeIdeal.Gen Cert.MoeTile

variable (m : (ℓ : Loc nD τ sig) → Buf (Elt Ideal) ℓ)

/-- The blocks of the grid's point `t`. -/
theorem idx_val : ∀ t : Fin cfg0.N,
    win0_0.index t = ![t.val / 4, 0] ∧ win0_1.index t = ![t.val / 4, t.val % 4] ∧ win0_2.index t = ![t.val / 4, 0] ∧
    win0_3.index t = ![t.val / 64, 0, 0] ∧ win0_4.index t = ![t.val % 4, 0, 0] ∧ win0_5.index t = ![t.val % 4, 0, 0] ∧
    win0_6.index t = ![t.val % 4, 0, 0] ∧ win0_7.index t = ![0, 0] ∧ win0_8.index t = ![t.val / 4, 0] :=
  (by decide +kernel : ∀ t : Fin grid0.N, _)

/-- Row `r` of the rows that point `t` works on. -/
abbrev row (t : Fin cfg0.N) (r : Fin 512) : Fin 32768 :=
  ⟨t.val / 4 * 512 + r.val, by have := lt_of_lt_of_eq t.isLt (show cfg0.N = 256 from N_0); omega⟩

/-- The group of point `t`. -/
abbrev grp (t : Fin cfg0.N) : Fin 4 := ⟨t.val % 4, by omega⟩

/-- The rows the kernel multiplies: the layer's input, laid out in rows. -/
theorem entry11 (c : Dev nD) : V m c main_v11
    = (truncf .bf16 (shapeCast S32768x1024 (m (c, main_arg0) : FVec Ideal S4x8192x1024 .f32)
        shapeCasts_S4x8192x1024_S32768x1024) bitsLt_bf16_f32 : FVec Ideal S32768x1024 .bf16) := by
  rfl

/-- The residual the kernel adds to, laid out in rows. -/
theorem entry12 (c : Dev nD) : V m c main_v12
    = (shapeCast S32768x1024 (m (c, main_arg2) : FVec Ideal S4x8192x1024 .f32)
        shapeCasts_S4x8192x1024_S32768x1024 : FVec Ideal S32768x1024 .f32) := by
  rfl

/-- The six modulation vectors of each batch entry. -/
theorem entry13 (c : Dev nD) : V m c main_v13
    = (shapeCast S4x6x1024 (m (c, main_arg3) : FVec Ideal S4x6144 .f32) shapeCasts_S4x6144_S4x6x1024 :
        FVec Ideal S4x6x1024 .f32) := by
  rfl

/-- The gate's weights, a group's experts side by side. -/
theorem entry4 (c : Dev nD) : V m c main_v4
    = (truncf .bf16 (shapeCast S4x1024x1024 (transpose S4x1024x8x128 [0, 2, 1, 3]
        (m (c, main_arg4) : FVec Ideal S4x8x1024x128 .f32) transposes_S4x8x1024x128_S4x1024x8x128_0_2_1_3)
        shapeCasts_S4x1024x8x128_S4x1024x1024) bitsLt_bf16_f32 : FVec Ideal S4x1024x1024 .bf16) := by
  rfl

/-- The up projection's weights, a group's experts side by side. -/
theorem entry7 (c : Dev nD) : V m c main_v7
    = (truncf .bf16 (shapeCast S4x1024x1024 (transpose S4x1024x8x128 [0, 2, 1, 3]
        (m (c, main_arg5) : FVec Ideal S4x8x1024x128 .f32) transposes_S4x8x1024x128_S4x1024x8x128_0_2_1_3)
        shapeCasts_S4x1024x8x128_S4x1024x1024) bitsLt_bf16_f32 : FVec Ideal S4x1024x1024 .bf16) := by
  rfl

/-- The down projection's weights, a group's experts one below the other. -/
theorem entry9 (c : Dev nD) : V m c main_v9
    = (truncf .bf16 (shapeCast S4x1024x1024 (m (c, main_arg6) : FVec Ideal S4x8x128x1024 .f32)
        shapeCasts_S4x8x128x1024_S4x1024x1024) bitsLt_bf16_f32 : FVec Ideal S4x1024x1024 .bf16) := by
  rfl

/-- The last norm's weights. -/
theorem entry14 (c : Dev nD) : V m c main_v14
    = (shapeCast S1x1024 (m (c, main_arg7) : FVec Ideal S1024 .f32) shapeCasts_S1024_S1x1024 : FVec Ideal S1x1024 .f32) := by
  rfl

/-- The combine weights, each group's eight lanes padded to 128. -/
theorem entry1 (c : Dev nD) : V m c main_v1
    = (shapeCast S32768x512 (pad S32768x4x128 ![0, 0, 0] ![0, 0, 120] ![0, 0, 0]
        (m (c, main_arg1) : FVec Ideal S32768x4x8 .f32) (sitofp .f32 (constantI S_ 32 0#32) : FVec Ideal S_ .f32)
        pads_S32768x4x8_S32768x4x128_000_000_01200 h_S_) shapeCasts_S32768x4x128_S32768x512 : FVec Ideal S32768x512 .f32) := by
  rfl

/-- The tokens of every batch entry laid out in rows, at one element. -/
theorem rows_apply (x : FVec Ideal S4x8192x1024 .f32) (i : Fin 32768) (d : Fin 1024) :
    shapeCast S32768x1024 x shapeCasts_S4x8192x1024_S32768x1024 (ix2 i d)
      = x (ix3 ⟨i.val / 8192, by omega⟩ ⟨i.val % 8192, by omega⟩ d) := by
  pointwise

/-- The experts of each group stacked, at one element. -/
theorem stack_apply (x : FVec Ideal S4x8x128x1024 .f32) (g : Fin 4) (e : Fin 8) (f : Fin 128) (d : Fin 1024) :
    shapeCast S4x1024x1024 x shapeCasts_S4x8x128x1024_S4x1024x1024 (ix3 g (MoeTile.unit e f) d) = x (ix4 g e f d) := by
  pointwise [MoeTile.unit]

/-- The rows at one element. -/
theorem entry11_apply (c : Dev nD) (i : Fin 32768) (d : Fin 1024) :
    V m c main_v11 (ix2 i d) = m (c, main_arg0) (ix3 ⟨i.val / 8192, by omega⟩ ⟨i.val % 8192, by omega⟩ d) := by
  rw [entry11]
  exact rows_apply _ i d

/-- The residual at one element. -/
theorem entry12_apply (c : Dev nD) (i : Fin 32768) (d : Fin 1024) :
    V m c main_v12 (ix2 i d) = m (c, main_arg2) (ix3 ⟨i.val / 8192, by omega⟩ ⟨i.val % 8192, by omega⟩ d) := by
  rw [entry12]
  exact rows_apply _ i d

/-- The last modulation vector at one element. -/
theorem entry13_apply (c : Dev nD) (b : Fin 4) (d : Fin 1024) :
    V m c main_v13 (ix3 b 5 d) = m (c, main_arg3) (ix2 b ⟨5120 + d.val, by omega⟩) := by
  rw [entry13]
  pointwise

/-- The gate's weights at one element. -/
theorem entry4_apply (c : Dev nD) (g : Fin 4) (k : Fin 1024) (e : Fin 8) (f : Fin 128) :
    V m c main_v4 (ix3 g k (MoeTile.unit e f)) = m (c, main_arg4) (ix4 g e k f) := by
  rw [entry4]
  pointwise [MoeTile.unit]

/-- The up projection's weights at one element. -/
theorem entry7_apply (c : Dev nD) (g : Fin 4) (k : Fin 1024) (e : Fin 8) (f : Fin 128) :
    V m c main_v7 (ix3 g k (MoeTile.unit e f)) = m (c, main_arg5) (ix4 g e k f) := by
  rw [entry7]
  pointwise [MoeTile.unit]

/-- The down projection's weights at one element. -/
theorem entry9_apply (c : Dev nD) (g : Fin 4) (e : Fin 8) (f : Fin 128) (d : Fin 1024) :
    V m c main_v9 (ix3 g (MoeTile.unit e f) d) = m (c, main_arg6) (ix4 g e f d) := by
  rw [entry9]
  exact stack_apply _ g e f d

/-- The last norm's weights at one element. -/
theorem entry14_apply (c : Dev nD) (d : Fin 1024) : V m c main_v14 (ix2 0 d) = m (c, main_arg7) (ix1 d) := by
  rw [entry14]
  pointwise

/-- The combine weights at one element. -/
theorem entry1_apply (c : Dev nD) (i : Fin 32768) (g : Fin 4) (e : Fin 8) :
    V m c main_v1 (ix2 i ⟨128 * g.val + e.val, by omega⟩) = m (c, main_arg1) (ix3 i g e) := by
  rw [entry1]
  pointwise
  rw [dif_pos (by intro a; fin_cases a <;> simp <;> omega)]
  exact congrArg _ (congrArg (ix3 i g) (Fin.ext (by simp; omega)))

/-- The block of rows at one element. -/
theorem blk0 (c : Dev nD) (t : Fin cfg0.N) (r : Fin 512) (d : Fin 1024) :
    iblk m c 0 t (ix2 r d)
      = m (c, main_arg0) (ix3 ⟨(row t r).val / 8192, by omega⟩ ⟨(row t r).val % 8192, by omega⟩ d) := by
  have h : iblk m c 0 t (ix2 r d) = V m c main_v11 (ix2 (row t r) d) := by
    blk_point [iblk, V, idx_val t]
  exact h.trans (entry11_apply m c _ d)

/-- The block of combine weights at one of its first eight lanes. -/
theorem blk1 (c : Dev nD) (t : Fin cfg0.N) (r : Fin 512) (e : Fin 8) :
    iblk m c 1 t (ix2 r ⟨e.val, by omega⟩)
      = m (c, main_arg1) (ix3 (row t r) (grp t) e) := by
  have h : iblk m c 1 t (ix2 r ⟨e.val, by omega⟩) = V m c main_v1 (ix2 (row t r) ⟨128 * (grp t).val + e.val, by omega⟩) := by
    blk_point [iblk, V, idx_val t]
  exact h.trans (entry1_apply m c _ _ e)

/-- The block of the residual at one element. -/
theorem blk2 (c : Dev nD) (t : Fin cfg0.N) (r : Fin 512) (d : Fin 1024) :
    iblk m c 2 t (ix2 r d)
      = m (c, main_arg2) (ix3 ⟨(row t r).val / 8192, by omega⟩ ⟨(row t r).val % 8192, by omega⟩ d) := by
  have h : iblk m c 2 t (ix2 r d) = V m c main_v12 (ix2 (row t r) d) := by
    blk_point [iblk, V, idx_val t]
  exact h.trans (entry12_apply m c _ d)

/-- The last modulation vector of the point's batch entry, at one element. -/
theorem blk3 (c : Dev nD) (t : Fin cfg0.N) (r : Fin 512) (d : Fin 1024) :
    iblk m c 3 t (ix3 0 5 d)
      = m (c, main_arg3) (ix2 ⟨(row t r).val / 8192, by omega⟩ ⟨5120 + d.val, by omega⟩) := by
  have h : iblk m c 3 t (ix3 0 5 d) = V m c main_v13 (ix3 ⟨(row t r).val / 8192, by omega⟩ 5 d) := by
    blk_point [iblk, V, idx_val t]
  exact h.trans (entry13_apply m c _ d)

/-- The block of the gate's weights at one element. -/
theorem blk4 (c : Dev nD) (t : Fin cfg0.N) (k : Fin 1024) (e : Fin 8) (f : Fin 128) :
    iblk m c 4 t (ix3 0 k (MoeTile.unit e f))
      = m (c, main_arg4) (ix4 (grp t) e k f) := by
  have h : iblk m c 4 t (ix3 0 k (MoeTile.unit e f)) = V m c main_v4 (ix3 (grp t) k (MoeTile.unit e f)) := by
    blk_point [iblk, V, idx_val t]
  exact h.trans (entry4_apply m c _ k e f)

/-- The block of the up projection's weights at one element. -/
theorem blk5 (c : Dev nD) (t : Fin cfg0.N) (k : Fin 1024) (e : Fin 8) (f : Fin 128) :
    iblk m c 5 t (ix3 0 k (MoeTile.unit e f))
      = m (c, main_arg5) (ix4 (grp t) e k f) := by
  have h : iblk m c 5 t (ix3 0 k (MoeTile.unit e f)) = V m c main_v7 (ix3 (grp t) k (MoeTile.unit e f)) := by
    blk_point [iblk, V, idx_val t]
  exact h.trans (entry7_apply m c _ k e f)

/-- The block of the down projection's weights at one element. -/
theorem blk6 (c : Dev nD) (t : Fin cfg0.N) (e : Fin 8) (f : Fin 128) (d : Fin 1024) :
    iblk m c 6 t (ix3 0 (MoeTile.unit e f) d)
      = m (c, main_arg6) (ix4 (grp t) e f d) := by
  have h : iblk m c 6 t (ix3 0 (MoeTile.unit e f) d) = V m c main_v9 (ix3 (grp t) (MoeTile.unit e f) d) := by
    blk_point [iblk, V, idx_val t]
  exact h.trans (entry9_apply m c _ e f d)

/-- The last norm's weights at one element. -/
theorem blk7 (c : Dev nD) (t : Fin cfg0.N) (d : Fin 1024) :
    iblk m c 7 t (ix2 0 d)
      = m (c, main_arg7) (ix1 d) := by
  have h : iblk m c 7 t (ix2 0 d) = V m c main_v14 (ix2 0 d) := by
    blk_point [iblk, V, idx_val t]
  exact h.trans (entry14_apply m c d)

end Cert.MoeBlocks

end
-- ==== Proof.MoeRef.lean ====
/- The reference of the experts, read at one element: the sum of the four groups' products, then the gated residual and
   its norm. -/
module

public import proofs.«01_k».proof.Proof.Gen.MoeRefIdeal.Run
public import proofs.«01_k».proof.Proof.MoeTile

@[expose] public section

set_option maxRecDepth 16384

noncomputable section

namespace Cert.MoeRef

open Idealize.ShloMosaic Idealize.ShloMosaic.TcCoe Idealize.SL.Sem
open Cert.MoeRefIdeal Cert.MoeRefIdeal.Gen Cert.MoeRefIdeal.Value
open Cert.MoeTile (gated resid normed)

/-- What group `g` adds to row `i` of the result, at column `d`. -/
def term (h : S4x8192x1024.Idx → EReal) (cb : S32768x4x8.Idx → EReal) (wg wu : S4x8x1024x128.Idx → EReal)
    (wd : S4x8x128x1024.Idx → EReal) (g : Fin 4) (i : Fin 32768) (d : Fin 1024) : EReal :=
  ∑ e : Fin 8, ∑ f : Fin 128,
    gated (∑ k : Fin 1024, h (ix3 ⟨i.val / 8192, by omega⟩ ⟨i.val % 8192, by omega⟩ k) * wg (ix4 g e k f))
      (∑ k : Fin 1024, h (ix3 ⟨i.val / 8192, by omega⟩ ⟨i.val % 8192, by omega⟩ k) * wu (ix4 g e k f))
      (cb (ix3 i g e)) * wd (ix4 g e f d)

/-- The whole layer's end at one element. -/
def value (h : S4x8192x1024.Idx → EReal) (cb : S32768x4x8.Idx → EReal) (x : S4x8192x1024.Idx → EReal)
    (ada : S4x6144.Idx → EReal) (wg wu : S4x8x1024x128.Idx → EReal) (wd : S4x8x128x1024.Idx → EReal)
    (gf : S1024.Idx → EReal) (i : Fin 32768) (d : Fin 1024) : EReal :=
  normed (fun k => resid (ada (ix2 ⟨i.val / 8192, by omega⟩ ⟨5120 + k.val, by omega⟩))
      (x (ix3 ⟨i.val / 8192, by omega⟩ ⟨i.val % 8192, by omega⟩ k)) (∑ g : Fin 4, term h cb wg wu wd g i k))
    (gf (ix1 d)) d

/-- The reference's contribution of one group, from its weights. -/
def group (x : FVec Ideal S32768x1024 .f32) (wg wu : FVec Ideal S8x1024x128 .f32) (cb : FVec Ideal S32768x8 .f32)
    (wd : FVec Ideal S8x128x1024 .f32) : FVec Ideal S32768x1024 .f32 :=
  let a := Host.dotGeneral dot_S32768x1024_S8x1024x128_S32768x8x128_1_1_0_02_n_n none x wg
  let one : FVec Ideal S32768x8x128 .f32 := broadcastInDim S32768x8x128 ![] bcast_S_S32768x8x128 (constant S_ .f32 0x3F800000#32)
  Host.dotGeneral dot_S32768x8x128_S8x128x1024_S32768x1024_12_01_0_2_n_n none
    (mulf (mulf (mulf a (Host.divf one (addf one (Host.exp (Host.negf a)))))
        (Host.dotGeneral dot_S32768x1024_S8x1024x128_S32768x8x128_1_1_0_02_n_n none x wu))
      (broadcastInDim S32768x8x128 ![0, 1, 2] bcast_S32768x8x1_S32768x8x128_0_1_2
        (broadcastInDim S32768x8x1 ![0, 1] bcast_S32768x8_S32768x8x1_0_1 cb))) wd

/-- The contribution of one group at one element. -/
theorem group_apply (x : FVec Ideal S32768x1024 .f32) (wg wu : FVec Ideal S8x1024x128 .f32) (cb : FVec Ideal S32768x8 .f32)
    (wd : FVec Ideal S8x128x1024 .f32) (i : Fin 32768) (d : Fin 1024) :
    group x wg wu cb wd (ix2 i d) = ∑ e : Fin 8, ∑ f : Fin 128,
      gated (∑ k : Fin 1024, x (ix2 i k) * wg (ix3 e k f)) (∑ k : Fin 1024, x (ix2 i k) * wu (ix3 e k f)) (cb (ix2 i e))
        * wd (ix3 e f d) := by
  pointwise [group, gated, Ideal.logistic]

/-- The gated residual of the reference. -/
def mixed (x : FVec Ideal S4x8192x1024 .f32) (ada : FVec Ideal S4x6144 .f32) (out : FVec Ideal S32768x1024 .f32) :
    FVec Ideal S4x8192x1024 .f32 :=
  addf x (mulf (broadcastInDim S4x8192x1024 ![0, 1, 2] bcast_S4x1x1024_S4x8192x1024_0_1_2
    (broadcastInDim S4x1x1024 ![0, 2] bcast_S4x1024_S4x1x1024_0_2
      (extractStridedSlice S4x1024 ![0, 5120] ada slices_S4x6144_S4x1024_0_5120)))
    (shapeCast _ out shapeCasts_S32768x1024_S4x8192x1024))

/-- The reference's norm, its result laid out in rows. -/
def rooted (x : FVec Ideal S4x8192x1024 .f32) (gf : FVec Ideal S1024 .f32) : FVec Ideal S32768x1024 .f32 :=
  shapeCast _ (mulf (mulf x (broadcastInDim S4x8192x1024 ![0, 1, 2] bcast_S4x8192x1_S4x8192x1024_0_1_2
    (Host.rsqrt (addf (Host.divf (broadcastInDim S4x8192x1 ![0, 1] bcast_S4x8192_S4x8192x1_0_1
        (Host.reduceAdd (mulf x x) (constant S_ .f32 0x00000000#32) reducesTo_S4x8192x1024_S4x8192_d2 h_S_))
        (broadcastInDim S4x8192x1 ![] bcast_S_S4x8192x1 (constant S_ .f32 0x44800000#32)))
      (broadcastInDim S4x8192x1 ![] bcast_S_S4x8192x1 (constant S_ .f32 0x358637BD#32))))))
    (broadcastInDim S4x8192x1024 ![0, 1, 2] bcast_S1x1x1024_S4x8192x1024_0_1_2
      (broadcastInDim S1x1x1024 ![2] bcast_S1024_S1x1x1024_2 gf))) shapeCasts_S4x8192x1024_S32768x1024

/-- The residual and its norm at one element. -/
theorem rooted_mixed_apply (x : FVec Ideal S4x8192x1024 .f32) (ada : FVec Ideal S4x6144 .f32)
    (out : FVec Ideal S32768x1024 .f32) (gf : FVec Ideal S1024 .f32) (i : Fin 32768) (d : Fin 1024) :
    rooted (mixed x ada out) gf (ix2 i d)
      = normed (fun k => resid (ada (ix2 ⟨i.val / 8192, by omega⟩ ⟨5120 + k.val, by omega⟩))
          (x (ix3 ⟨i.val / 8192, by omega⟩ ⟨i.val % 8192, by omega⟩ k)) (out (ix2 i k))) (gf (ix1 d)) d := by
  pointwise [rooted, mixed, normed, resid]

/-- The reference's contribution of the group whose weights start at `g`. -/
def groupAt (X0 : FVec Ideal S4x8192x1024 .f32) (X1 : FVec Ideal S32768x4x8 .f32) (X4 X5 : FVec Ideal S4x8x1024x128 .f32)
    (X6 : FVec Ideal S4x8x128x1024 .f32) (g : ℕ) (hw : S4x8x1024x128.Slices ![g, 0, 0, 0] S1x8x1024x128)
    (hc : S32768x4x8.Slices ![0, g, 0] S32768x1x8) (hd : S4x8x128x1024.Slices ![g, 0, 0, 0] S1x8x128x1024) :
    FVec Ideal S32768x1024 .f32 :=
  group (shapeCast _ X0 shapeCasts_S4x8192x1024_S32768x1024)
    (shapeCast _ (extractStridedSlice S1x8x1024x128 ![g, 0, 0, 0] X4 hw) shapeCasts_S1x8x1024x128_S8x1024x128)
    (shapeCast _ (extractStridedSlice S1x8x1024x128 ![g, 0, 0, 0] X5 hw) shapeCasts_S1x8x1024x128_S8x1024x128)
    (shapeCast _ (extractStridedSlice S32768x1x8 ![0, g, 0] X1 hc) shapeCasts_S32768x1x8_S32768x8)
    (shapeCast _ (extractStridedSlice S1x8x128x1024 ![g, 0, 0, 0] X6 hd) shapeCasts_S1x8x128x1024_S8x128x1024)

/-- That contribution at one element. -/
theorem groupAt_apply (X0 : FVec Ideal S4x8192x1024 .f32) (X1 : FVec Ideal S32768x4x8 .f32)
    (X4 X5 : FVec Ideal S4x8x1024x128 .f32) (X6 : FVec Ideal S4x8x128x1024 .f32) (g : Fin 4)
    (hw : S4x8x1024x128.Slices ![g.val, 0, 0, 0] S1x8x1024x128)
    (hc : S32768x4x8.Slices ![0, g.val, 0] S32768x1x8) (hd : S4x8x128x1024.Slices ![g.val, 0, 0, 0] S1x8x128x1024)
    (i : Fin 32768) (d : Fin 1024) :
    groupAt X0 X1 X4 X5 X6 g.val hw hc hd (ix2 i d) = term X0 X1 X4 X5 X6 g i d := by
  unfold groupAt term
  rw [group_apply]
  pointwise

variable (m : (ℓ : Loc nD τ sig) → Buf (Elt Ideal) ℓ)

/-- The reference's result is the norm of the residual of the four contributions. -/
theorem res_eq (c : Dev nD) : res_out0 m c = rooted (mixed (m (c, main_arg2)) (m (c, main_arg3))
    (addf (addf (addf (addf (broadcastInDim S32768x1024 ![] bcast_S_S32768x1024 (constant S_ .f32 0x00000000#32))
      (groupAt (m (c, main_arg0)) (m (c, main_arg1)) (m (c, main_arg4)) (m (c, main_arg5)) (m (c, main_arg6)) 0
        slices_S4x8x1024x128_S1x8x1024x128_0_0_0_0 slices_S32768x4x8_S32768x1x8_0_0_0 slices_S4x8x128x1024_S1x8x128x1024_0_0_0_0))
      (groupAt (m (c, main_arg0)) (m (c, main_arg1)) (m (c, main_arg4)) (m (c, main_arg5)) (m (c, main_arg6)) 1
        slices_S4x8x1024x128_S1x8x1024x128_1_0_0_0 slices_S32768x4x8_S32768x1x8_0_1_0 slices_S4x8x128x1024_S1x8x128x1024_1_0_0_0))
      (groupAt (m (c, main_arg0)) (m (c, main_arg1)) (m (c, main_arg4)) (m (c, main_arg5)) (m (c, main_arg6)) 2
        slices_S4x8x1024x128_S1x8x1024x128_2_0_0_0 slices_S32768x4x8_S32768x1x8_0_2_0 slices_S4x8x128x1024_S1x8x128x1024_2_0_0_0))
      (groupAt (m (c, main_arg0)) (m (c, main_arg1)) (m (c, main_arg4)) (m (c, main_arg5)) (m (c, main_arg6)) 3
        slices_S4x8x1024x128_S1x8x1024x128_3_0_0_0 slices_S32768x4x8_S32768x1x8_0_3_0 slices_S4x8x128x1024_S1x8x128x1024_3_0_0_0)))
    (m (c, main_arg7)) := by
  unfold res_out0 res_main_v94
  rfl

/-- The reference's result at one element. -/
theorem res_apply (c : Dev nD) (i : Fin 32768) (d : Fin 1024) :
    res_out0 m c (ix2 i d) = value (m (c, main_arg0)) (m (c, main_arg1)) (m (c, main_arg2)) (m (c, main_arg3))
      (m (c, main_arg4)) (m (c, main_arg5)) (m (c, main_arg6)) (m (c, main_arg7)) i d := by
  rw [res_eq, rooted_mixed_apply, value]
  congr 1
  funext k
  congr 1
  simp only [Fin.sum_univ_four, ← groupAt_apply _ _ _ _ _ (0 : Fin 4) slices_S4x8x1024x128_S1x8x1024x128_0_0_0_0 slices_S32768x4x8_S32768x1x8_0_0_0 slices_S4x8x128x1024_S1x8x128x1024_0_0_0_0,
    ← groupAt_apply _ _ _ _ _ (1 : Fin 4) slices_S4x8x1024x128_S1x8x1024x128_1_0_0_0 slices_S32768x4x8_S32768x1x8_0_1_0 slices_S4x8x128x1024_S1x8x128x1024_1_0_0_0,
    ← groupAt_apply _ _ _ _ _ (2 : Fin 4) slices_S4x8x1024x128_S1x8x1024x128_2_0_0_0 slices_S32768x4x8_S32768x1x8_0_2_0 slices_S4x8x128x1024_S1x8x128x1024_2_0_0_0,
    ← groupAt_apply _ _ _ _ _ (3 : Fin 4) slices_S4x8x1024x128_S1x8x1024x128_3_0_0_0 slices_S32768x4x8_S32768x1x8_0_3_0 slices_S4x8x128x1024_S1x8x128x1024_3_0_0_0]
  pointwise

end Cert.MoeRef

end
-- ==== Proof.MoeValue.lean ====
/- The array the experts' kernel leaves, read at one element, against the reference's result. -/
module

public import proofs.«01_k».proof.Proof.Gen.MoeIdeal.Value
public import proofs.«01_k».proof.Proof.MoeBlocks
public import proofs.«01_k».proof.Proof.MoeRef
public import Idealize.ShloMosaic.Lib.Pipeline.ValueKit
public import Idealize.ShloMosaic.Lib.Pipeline.ReadBack
public import Idealize.ShloMosaic.Lib.Claim

@[expose] public section

set_option maxRecDepth 16384

noncomputable section

namespace Cert.MoeValue

open Idealize.ShloMosaic Idealize.ShloMosaic.TcCoe Idealize.SL.Sem
open Idealize.ShloMosaic.Pipeline (Dat)
open Cert.MoeIdeal Cert.MoeIdeal.Gen Cert.MoeTile Cert.MoeBlocks

variable (m : (ℓ : Loc nD τ sig) → Buf (Elt Ideal) ℓ)

/-- What the point `t` adds to the accumulator at one element. -/
def part (c : Dev nD) (t : Fin cfg0.N) (j : S512x1024.Idx) : EReal :=
  ∑ e : Fin 8, ∑ f : Fin 128, hid (iblk m c 0 t) (iblk m c 4 t) (iblk m c 5 t) (iblk m c 1 t) (ix2 (j 0) (unit e f))
    * iblk m c 6 t (ix3 0 (unit e f) (j 1))

/-- The accumulator after the first point of a run. -/
theorem acc_first (c : Dev nD) (t : Fin cfg0.N) (h : t.val % 4 = 0) (j : S512x1024.Idx) :
    (outsAt0 m c t.val t.isLt).2 j = 0 + part m c t j := by
  rw [outsAt0_A m c t h (by omega)]
  frame_out
  idx_vars j
  rw [pay1_apply, pay3_apply]
  rfl

/-- The accumulator after a later point, as the step's vector expression. -/
theorem acc_later (c : Dev nD) (t : Fin cfg0.N) (h : ¬ t.val % 4 = 0) :
    (outsAt0 m c t.val t.isLt).2
      = k0_pay1 (hid (iblk m c 0 t) (iblk m c 4 t) (iblk m c 5 t) (iblk m c 1 t))
          (outsAt0 m c (t.val - 1) (Nat.lt_of_le_of_lt (Nat.sub_le _ _) t.isLt)).2 (k0_pay12 (iblk m c 6 t))
          (constant S512x1024 .f32 0x00000000#32) := by
  by_cases h3 : t.val % 4 = 3
  · rw [outsAt0_C m c t h h3]
    frame_out
    rw [read_unread_whole]
  · rw [outsAt0_B m c t h h3]
    frame_out
    rw [read_unread_whole]

/-- The accumulator after the last point of a run is the sum of what the run's four points add. -/
theorem acc_eq (c : Dev nD) (t : Fin cfg0.N) (ht : t.val % 4 = 4 - 1) (j : S512x1024.Idx) :
    (outsAt0 m c t.val t.isLt).2 j
      = ∑ s : Fin 4, part m c ⟨4 * (t.val / 4) + s.val, Pipeline.run_point_lt_of_flush t ht s⟩ j := by
  rw [Pipeline.eq_sum_fin_of_reset_step_apply_of_flush (fun n h => (outsAt0 m c n h).2) 4 (fun _ => 0) (part m c)
    (fun t h j => acc_first m c t h j)
    (fun t h j => by
      rw [acc_later m c t h]
      idx_vars j
      rw [pay1_apply]
      rfl) t ht j, zero_add]

/-- What the last point of a run writes, as the step's vector expression over the accumulator. -/
theorem out_last (c : Dev nD) (t : Fin cfg0.N) (h : t.val % 4 = 3) :
    (outsAt0 m c t.val t.isLt).1
      = k0_pay2 (View.ld (iblk m c 3 t) (Rect.unit ![0, 5, 0] ![1, 1, 1024] inb_S1x6x1024_S1x1x1024_0_5_0)) (iblk m c 2 t)
          (outsAt0 m c t.val t.isLt).2 (iblk m c 7 t) := by
  rw [acc_later m c t (by omega), outsAt0_C m c t (by omega) h]
  frame_out
  rw [read_unread_whole]
  rfl

/-- What a point adds is the reference's term of its group. -/
theorem part_apply (c : Dev nD) (t : Fin cfg0.N) (r : Fin 512) (d : Fin 1024) :
    part m c t (ix2 r d) = MoeRef.term (m (c, main_arg0)) (m (c, main_arg1)) (m (c, main_arg4)) (m (c, main_arg5))
      (m (c, main_arg6)) (grp t) (row t r) d := by
  unfold part MoeRef.term
  refine Finset.sum_congr rfl fun e _ => Finset.sum_congr rfl fun f _ => ?_
  change hid _ _ _ _ (ix2 r (unit e f)) * iblk m c 6 t (ix3 0 (unit e f) d) = _
  rw [hid_apply, pay5_apply, pay6_apply, blk1, blk6]
  simp only [blk0, blk4, blk5]

/-- The array the kernel leaves is any tensor whose elements are the reference's. -/
theorem arr_eq (c : Dev nD) (X : FVec Ideal S32768x1024 .f32)
    (hX : ∀ i d, X (ix2 i d) = MoeRef.value (m (c, main_arg0)) (m (c, main_arg1)) (m (c, main_arg2)) (m (c, main_arg3))
      (m (c, main_arg4)) (m (c, main_arg5)) (m (c, main_arg6)) (m (c, main_arg7)) i d) :
    (dats m 0 c).arrAt 8 cfg0.N = X := by
  refine (dats m 0 c).arrAt_eq_of_covers 8 _ (by decide +kernel) fun t hf y => ?_
  have h3 : t.val % 4 = 3 := (flush0_8 t).mp hf
  have hN : t.val < 256 := lt_of_lt_of_eq t.isLt (show cfg0.N = 256 from N_0)
  blk_simp
  rw [after0_8, out_last m c t h3]
  obtain ⟨r, d, rfl⟩ : ∃ (r : Fin 512) (d : Fin 1024), y = ix2 r d := ⟨y 0, y 1, eq_ix2 y⟩
  rw [pay2_apply]
  have hX' : X ((win0_8.blk t).view.emb (ix2 r d)) = X (ix2 (row t r) d) := by
    blk_point [idx_val t]
  refine Eq.trans ?_ (hX'.trans (hX _ _)).symm
  have hld : ∀ k : Fin 1024, View.ld (iblk m c 3 t) (Rect.unit ![0, 5, 0] ![1, 1, 1024] inb_S1x6x1024_S1x1x1024_0_5_0) (ix3 0 0 k)
      = iblk m c 3 t (ix3 0 5 k) := fun k => by
    pointwise
  have hrow : ∀ (s : Fin 4) (k : Fin 1024), part m c ⟨4 * (t.val / 4) + s.val, Pipeline.run_point_lt_of_flush t h3 s⟩ (ix2 r k)
      = MoeRef.term (m (c, main_arg0)) (m (c, main_arg1)) (m (c, main_arg4)) (m (c, main_arg5)) (m (c, main_arg6)) s
          (row t r) k := fun s k => by
    rw [part_apply]
    congr 1
    · exact Fin.ext (by show (4 * (t.val / 4) + s.val) % 4 = s.val; omega)
    · exact Fin.ext (by show (4 * (t.val / 4) + s.val) / 4 * 512 + r.val = t.val / 4 * 512 + r.val; omega)
  unfold MoeRef.value
  congr 1
  · funext k
    rw [acc_eq m c t h3, hld, blk3 m c t r, blk2]
    simp only [hrow]
  · exact blk7 m c t d

end Cert.MoeValue

end
-- ==== Proof.InTile.lean ====
/- What one point of the input projection's kernel computes, at one element: the normed and modulated row, its product
   with the first weights, the two latent rows with their norms and products, and the rotary embedding by rotated lanes. -/
module

public import proofs.«01_k».proof.Proof.Gen.InIdeal.Skeleton
public import Idealize.ShloMosaic.Lib.Pipeline.ValueKit

@[expose] public section

set_option maxRecDepth 16384

noncomputable section

namespace Cert.InTile

open Idealize.ShloMosaic Idealize.SL.Sem
open Cert.InIdeal Cert.InIdeal.Gen

/-- The norm of a row of `n` numbers at place `d`, the count given by its bits, times the weight `g`. -/
def rms {n : ℕ} (count : BitVec 32) (row : Fin n → EReal) (g : EReal) (d : Fin n) : EReal :=
  row d * Ideal.rsqrt (Ideal.div (∑ k : Fin n, row k * row k) (Ideal.ofBits .f32 count)
    + Ideal.ofBits .f32 0x358637BD#32) * g

/-- The row of the layer's input after its norm and modulation. -/
def hrow (x g sc sh : Fin 1024 → EReal) (k : Fin 1024) : EReal :=
  rms 0x44800000#32 x (g k) k * (Ideal.ofBits .f32 0x3F800000#32 + sc k) + sh k

/-- The rotary embedding by lanes: a lane times its first factor, plus the lane 16 before it and the lane 16 after it
    (around the end), each times its factor. -/
def turn (f : Fin 128 → EReal) (c s1 s2 : Fin 128 → EReal) (l : Fin 128) : EReal :=
  f l * c l + f ⟨(l.val + 128 - 16) % 128, by omega⟩ * s1 l + f ⟨(l.val + 128 - 112) % 128, by omega⟩ * s2 l

/-- The first product at one element. -/
theorem pay2_apply (v0 : Vec Ideal S512x1024 .f32) (v2 v4 : Vec Ideal S1x1x1024 .f32) (v6 : Vec Ideal S1x1024 .f32)
    (v27 : Vec Ideal S1024x3840 .bf16) (r : Fin 512) (j : Fin 3840) :
    k0_pay2 v0 v2 v4 v6 v27 (ix2 r j)
      = ∑ k : Fin 1024, hrow (fun k => v0 (ix2 r k)) (fun k => v6 (ix2 0 k)) (fun k => v4 (ix3 0 0 k))
          (fun k => v2 (ix3 0 0 k)) k * v27 (ix2 k j) := by
  pointwise [k0_pay2, hrow, rms]

/-- The latent row of keys and values after its norm. -/
theorem pay6_apply (z : FVec Ideal S512x3840 .f32) (g : Vec Ideal S1x256 .f32) (r : Fin 512) (j : Fin 256) :
    k0_pay6 z g (ix2 r j)
      = rms 0x43800000#32 (fun k : Fin 256 => z (ix2 r ⟨384 + k.val, by omega⟩)) (g (ix2 0 j)) j := by
  pointwise [k0_pay6, rms]

/-- The keys' product. -/
theorem pay8_apply (z : FVec Ideal S512x3840 .f32) (g : Vec Ideal S1x256 .f32) (w : Vec Ideal S256x1024 .bf16)
    (r : Fin 512) (j : Fin 1024) :
    k0_pay8 z g w (ix2 r j) = ∑ k : Fin 256, k0_pay6 z g (ix2 r k) * w (ix2 k j) := by
  pointwise [k0_pay8]

/-- The values' product. -/
theorem pay9_apply (z : FVec Ideal S512x3840 .f32) (g : Vec Ideal S1x256 .f32) (w : Vec Ideal S256x1024 .bf16)
    (r : Fin 512) (j : Fin 1024) :
    k0_pay9 z g w (ix2 r j) = ∑ k : Fin 256, k0_pay6 z g (ix2 r k) * w (ix2 k j) := by
  pointwise [k0_pay9]

/-- The queries' product over the latent row after its norm. -/
theorem pay7_apply (v0 : Vec Ideal S512x1024 .f32) (v2 v4 : Vec Ideal S1x1x1024 .f32) (v6 : Vec Ideal S1x1024 .f32)
    (v27 : Vec Ideal S1024x3840 .bf16) (g : Vec Ideal S1x384 .f32) (w : Vec Ideal S384x1024 .bf16)
    (r : Fin 512) (j : Fin 1024) :
    k0_pay7 (k0_pay3 v0 v2 v4 v6 v27) (k0_pay4 g) (k0_pay5 v0 v2 v4 v6 v27) w (ix2 r j)
      = ∑ k : Fin 384, rms 0x43C00000#32 (fun k : Fin 384 => k0_pay2 v0 v2 v4 v6 v27 (ix2 r ⟨k.val, by omega⟩))
          (g (ix2 0 k)) k * w (ix2 k j) := by
  unfold k0_pay5 k0_pay3
  generalize k0_pay2 v0 v2 v4 v6 v27 = z
  pointwise [k0_pay7, k0_pay4, rms]

/-- The rotated lanes that all heads' keys share. -/
theorem pay13_apply (z : FVec Ideal S512x3840 .f32) (c s1 s2 : FVec Ideal S512x128 .f32) (r : Fin 512) (l : Fin 128) :
    k0_pay13 z c s1 s2 (ix2 r l)
      = turn (fun l => z (ix2 r ⟨640 + l.val, by omega⟩)) (fun l => c (ix2 r l)) (fun l => s1 (ix2 r l))
          (fun l => s2 (ix2 r l)) l := by
  pointwise [k0_pay13, turn]

/-- The queries of the head whose lanes start at column `o`, as the kernel writes them. -/
def qhead (o : ℕ) (h : S512x1024.Slices ![0, o] S512x128) (q : FVec Ideal S512x1024 .f32)
    (c s1 s2 : FVec Ideal S512x128 .f32) : FVec Ideal S1x1x512x128 .bf16 :=
  let f := extractStridedSlice S512x128 ![0, o] q h
  shapeCast S1x1x512x128 (truncf .bf16 (addf (addf (mulf f c) (mulf (dynamicRotate 1 16#32 none f rotates_S512x128_d1) s1))
    (mulf (dynamicRotate 1 112#32 none f rotates_S512x128_d1) s2)) bitsLt_bf16_f32) shapeCasts_S512x128_S1x1x512x128

/-- Those queries at one element. -/
theorem qhead_apply (o : Fin 897) (h : S512x1024.Slices ![0, o.val] S512x128) (q : FVec Ideal S512x1024 .f32)
    (c s1 s2 : FVec Ideal S512x128 .f32) (a b : Fin 1) (r : Fin 512) (l : Fin 128) :
    qhead o.val h q c s1 s2 (ix4 a b r l)
      = turn (fun l => q (ix2 r ⟨o.val + l.val, by omega⟩)) (fun l => c (ix2 r l)) (fun l => s1 (ix2 r l))
          (fun l => s2 (ix2 r l)) l := by
  pointwise [qhead, turn]

end Cert.InTile

end
-- ==== Proof.InHost.lean ====
/- The tensors that the input projection's kernel is given, read at one element: the first weights laid out in lanes, the
   second weights padded to 128 lanes a head, and the rotary tables. -/
module

public import proofs.«01_k».proof.Proof.InTile
public import Idealize.ShloMosaic.Lib.KernelVsHost
public import Idealize.ShloMosaic.Lib.IdealHost

@[expose] public section

set_option maxRecDepth 16384

noncomputable section

namespace Cert.InHost

open Idealize.ShloMosaic Idealize.ShloMosaic.TcCoe Idealize.SL.Sem
open Cert.InIdeal Cert.InIdeal.Gen
open Cert.InTile (turn)

/-- The number zero that the padding writes. -/
theorem sitofp_zero_apply : (FloatOps.sitofp FTy.f32 0#32 : Ideal .f32) = 0 := by
  simp [FloatOps.sitofp]

/-- The first weights with the shared key's columns moved to the rotated lanes. -/
def laid (w : FVec Ideal S1024x3744 .f32) : FVec Ideal S1024x3840 .bf16 :=
  truncf .bf16 (concatenate S1024x3840 1
    [⟨S1024x640, extractStridedSlice S1024x640 ![0, 0] w slices_S1024x3744_S1024x640_0_0⟩,
     ⟨S1024x64, broadcastInDim S1024x64 ![] bcast_S_S1024x64 (constant S_ .f32 0x00000000#32 : FVec Ideal S_ .f32)⟩,
     ⟨S1024x32, extractStridedSlice S1024x32 ![0, 640] w slices_S1024x3744_S1024x32_0_640⟩,
     ⟨S1024x32, broadcastInDim S1024x32 ![] bcast_S_S1024x32 (constant S_ .f32 0x00000000#32 : FVec Ideal S_ .f32)⟩,
     ⟨S1024x3072, extractStridedSlice S1024x3072 ![0, 672] w slices_S1024x3744_S1024x3072_0_672⟩]
    concatenates_S1024x640_S1024x64_S1024x32_S1024x32_S1024x3072_S1024x3840_d1) bitsLt_bf16_f32

/-- The columns before the shared key's stay where they are. -/
theorem laid_low (w : FVec Ideal S1024x3744 .f32) (k : Fin 1024) (j : Fin 640) :
    laid w (ix2 k ⟨j.val, by omega⟩) = w (ix2 k ⟨j.val, by omega⟩) := by
  pointwise [laid]

/-- The shared key's first 64 lanes are zero. -/
theorem laid_zero (w : FVec Ideal S1024x3744 .f32) (k : Fin 1024) (j : Fin 64) :
    laid w (ix2 k ⟨640 + j.val, by omega⟩) = 0 := by
  pointwise [laid]

/-- The shared key's columns. -/
theorem laid_key (w : FVec Ideal S1024x3744 .f32) (k : Fin 1024) (j : Fin 32) :
    laid w (ix2 k ⟨704 + j.val, by omega⟩) = w (ix2 k ⟨640 + j.val, by omega⟩) := by
  pointwise [laid]
  rw [dif_neg (by omega), dif_neg (by omega), dif_pos (by omega)]
  exact congrArg w (congrArg (ix2 k) (Fin.ext (by simp; omega)))

/-- The columns after the shared key's. -/
theorem laid_high (w : FVec Ideal S1024x3744 .f32) (k : Fin 1024) (j : Fin 3072) :
    laid w (ix2 k ⟨768 + j.val, by omega⟩) = w (ix2 k ⟨672 + j.val, by omega⟩) := by
  pointwise [laid]
  rw [dif_neg (by omega), dif_neg (by omega), dif_neg (by omega), dif_neg (by omega)]
  exact congrArg w (congrArg (ix2 k) (Fin.ext (by simp; omega)))

/-- The queries' weights, padded to 128 lanes a head. -/
def wideQ (w : FVec Ideal S384x768 .f32) : FVec Ideal S384x1024 .bf16 :=
  truncf .bf16 (shapeCast S384x1024 (pad S384x8x128 ![0, 0, 0] ![0, 0, 32] ![0, 0, 0]
    (shapeCast S384x8x96 w shapeCasts_S384x768_S384x8x96) (sitofp .f32 (constantI S_ 32 0#32) : FVec Ideal S_ .f32)
    pads_S384x8x96_S384x8x128_000_000_0320 h_S_) shapeCasts_S384x8x128_S384x1024) bitsLt_bf16_f32

/-- The queries' weights in a head's first 96 lanes. -/
theorem wideQ_low (w : FVec Ideal S384x768 .f32) (k : Fin 384) (h : Fin 8) (l : Fin 96) :
    wideQ w (ix2 k ⟨h.val * 128 + l.val, by omega⟩) = w (ix2 k ⟨h.val * 96 + l.val, by omega⟩) := by
  have hm : (h.val * 128 + l.val) % 128 = l.val := by omega
  pointwise [wideQ]
  rw [dif_pos (by omega)]
  exact congrArg w (congrArg (ix2 k) (Fin.ext (by simp [hm])))

/-- Half of the last weights, padded to 128 lanes a head. -/
def wideH (o : ℕ) (hs : S256x8x128.Slices ![0, 0, o] S256x8x64) (w : FVec Ideal S256x1024 .f32) : FVec Ideal S256x1024 .bf16 :=
  truncf .bf16 (shapeCast S256x1024 (pad S256x8x128 ![0, 0, 0] ![0, 0, 64] ![0, 0, 0]
    (shapeCast S256x8x64 (shapeCast S256x512 (extractStridedSlice S256x8x64 ![0, 0, o]
      (shapeCast S256x8x128 w shapeCasts_S256x1024_S256x8x128) hs) shapeCasts_S256x8x64_S256x512) shapeCasts_S256x512_S256x8x64)
    (sitofp .f32 (constantI S_ 32 0#32) : FVec Ideal S_ .f32)
    pads_S256x8x64_S256x8x128_000_000_0640 h_S_) shapeCasts_S256x8x128_S256x1024) bitsLt_bf16_f32

/-- That half in a head's first 64 lanes. -/
theorem wideH_low (o : Fin 65) (hs : S256x8x128.Slices ![0, 0, o.val] S256x8x64) (w : FVec Ideal S256x1024 .f32)
    (k : Fin 256) (h : Fin 8) (l : Fin 64) :
    wideH o.val hs w (ix2 k ⟨h.val * 128 + l.val, by omega⟩) = w (ix2 k ⟨h.val * 128 + (o.val + l.val), by omega⟩) := by
  have hm : (h.val * 128 + l.val) % 128 = l.val := by omega
  pointwise [wideH]
  rw [dif_pos (by omega)]
  exact congrArg w (congrArg (ix2 k) (Fin.ext (by simp [hm])))

/-- That half in a head's other lanes. -/
theorem wideH_high (o : Fin 65) (hs : S256x8x128.Slices ![0, 0, o.val] S256x8x64) (w : FVec Ideal S256x1024 .f32)
    (k : Fin 256) (h : Fin 8) (l : Fin 128) (hl : 64 ≤ l.val) :
    wideH o.val hs w (ix2 k ⟨h.val * 128 + l.val, by omega⟩) = 0 := by
  have hm : (h.val * 128 + l.val) % 128 = l.val := by omega
  pointwise [wideH]
  rw [dif_neg (by omega)]
  exact sitofp_zero_apply

/-- The factors of a lane itself. -/
def tabC (x : FVec Ideal S4x8192x16 .f32) : FVec Ideal S32768x128 .f32 :=
  concatenate S32768x128 1
    [⟨S32768x64, broadcastInDim S32768x64 ![] bcast_S_S32768x64 (constant S_ .f32 0x3F800000#32 : FVec Ideal S_ .f32)⟩,
     ⟨S32768x16, shapeCast S32768x16 x shapeCasts_S4x8192x16_S32768x16⟩,
     ⟨S32768x16, shapeCast S32768x16 x shapeCasts_S4x8192x16_S32768x16⟩,
     ⟨S32768x32, broadcastInDim S32768x32 ![] bcast_S_S32768x32 (constant S_ .f32 0x00000000#32 : FVec Ideal S_ .f32)⟩]
    concatenates_S32768x64_S32768x16_S32768x16_S32768x32_S32768x128_d1

/-- The factors of the lane 16 before. -/
def tabL (x : FVec Ideal S4x8192x16 .f32) : FVec Ideal S32768x128 .f32 :=
  concatenate S32768x128 1
    [⟨S32768x80, broadcastInDim S32768x80 ![] bcast_S_S32768x80 (constant S_ .f32 0x00000000#32 : FVec Ideal S_ .f32)⟩,
     ⟨S32768x16, shapeCast S32768x16 x shapeCasts_S4x8192x16_S32768x16⟩,
     ⟨S32768x32, broadcastInDim S32768x32 ![] bcast_S_S32768x32 (constant S_ .f32 0x00000000#32 : FVec Ideal S_ .f32)⟩]
    concatenates_S32768x80_S32768x16_S32768x32_S32768x128_d1

/-- The factors of the lane 16 after. -/
def tabR (x : FVec Ideal S4x8192x16 .f32) : FVec Ideal S32768x128 .f32 :=
  concatenate S32768x128 1
    [⟨S32768x64, broadcastInDim S32768x64 ![] bcast_S_S32768x64 (constant S_ .f32 0x00000000#32 : FVec Ideal S_ .f32)⟩,
     ⟨S32768x16, Host.negf (shapeCast S32768x16 x shapeCasts_S4x8192x16_S32768x16)⟩,
     ⟨S32768x48, broadcastInDim S32768x48 ![] bcast_S_S32768x48 (constant S_ .f32 0x00000000#32 : FVec Ideal S_ .f32)⟩]
    concatenates_S32768x64_S32768x16_S32768x48_S32768x128_d1

/-- The tables' rows: row `r` of batch entry `b`. -/
abbrev flat (b : Fin 4) (s : Fin 8192) : Fin 32768 := ⟨b.val * 8192 + s.val, by omega⟩

/-- The first table at one element. -/
theorem tabC_apply (x : FVec Ideal S4x8192x16 .f32) (b : Fin 4) (s : Fin 8192) (l : Fin 128) :
    tabC x (ix2 (flat b s) l) = if l.val < 64 then 1 else if l.val < 80 then x (ix3 b s ⟨l.val % 16, by omega⟩)
      else if l.val < 96 then x (ix3 b s ⟨l.val % 16, by omega⟩) else 0 := by
  pointwise [tabC]
  have e : ∀ u v : Fin 16, u.val = v.val → x (ix3 b s u) = x (ix3 b s v) := fun u v h => by rw [Fin.ext h]
  repeat' split
  all_goals first | rfl | omega | exact e _ _ (by simp; omega) | exact congrArg (fun y : EReal => -y) (e _ _ (by simp; omega))

/-- The second table at one element. -/
theorem tabL_apply (x : FVec Ideal S4x8192x16 .f32) (b : Fin 4) (s : Fin 8192) (l : Fin 128) :
    tabL x (ix2 (flat b s) l) = if l.val < 80 then 0
      else if l.val < 96 then x (ix3 b s ⟨l.val % 16, by omega⟩) else 0 := by
  pointwise [tabL]
  have e : ∀ u v : Fin 16, u.val = v.val → x (ix3 b s u) = x (ix3 b s v) := fun u v h => by rw [Fin.ext h]
  repeat' split
  all_goals first | rfl | omega | exact e _ _ (by simp; omega) | exact congrArg (fun y : EReal => -y) (e _ _ (by simp; omega))

/-- The third table at one element. -/
theorem tabR_apply (x : FVec Ideal S4x8192x16 .f32) (b : Fin 4) (s : Fin 8192) (l : Fin 128) :
    tabR x (ix2 (flat b s) l) = if l.val < 64 then 0
      else if l.val < 80 then -x (ix3 b s ⟨l.val % 16, by omega⟩) else 0 := by
  pointwise [tabR]
  have e : ∀ u v : Fin 16, u.val = v.val → x (ix3 b s u) = x (ix3 b s v) := fun u v h => by rw [Fin.ext h]
  repeat' split
  all_goals first | rfl | omega | exact e _ _ (by simp; omega) | exact congrArg (fun y : EReal => -y) (e _ _ (by simp; omega))

/-- The embedding by these tables leaves a head's first 64 lanes as they are. -/
theorem turn_low (f : Fin 128 → EReal) (x y : FVec Ideal S4x8192x16 .f32) (b : Fin 4) (s : Fin 8192) (l : Fin 64) :
    turn f (fun l => tabC x (ix2 (flat b s) l)) (fun l => tabL y (ix2 (flat b s) l)) (fun l => tabR y (ix2 (flat b s) l))
      ⟨l.val, by omega⟩ = f ⟨l.val, by omega⟩ := by
  unfold turn
  dsimp only
  rw [tabC_apply, tabL_apply, tabR_apply, if_pos (by simp), if_pos (by simp; omega), if_pos (by simp)]
  rw [mul_one, mul_zero, mul_zero, add_zero, add_zero]

/-- The embedding of the first half of the rotated lanes. -/
theorem turn_fst (f : Fin 128 → EReal) (x y : FVec Ideal S4x8192x16 .f32) (b : Fin 4) (s : Fin 8192) (j : Fin 16) :
    turn f (fun l => tabC x (ix2 (flat b s) l)) (fun l => tabL y (ix2 (flat b s) l)) (fun l => tabR y (ix2 (flat b s) l))
      ⟨64 + j.val, by omega⟩
      = f ⟨64 + j.val, by omega⟩ * x (ix3 b s j) - f ⟨80 + j.val, by omega⟩ * y (ix3 b s j) := by
  have hj : (⟨(64 + j.val) % 16, by omega⟩ : Fin 16) = j := Fin.ext (by simp; omega)
  have hf : (⟨(64 + j.val + 128 - 112) % 128, by omega⟩ : Fin 128) = ⟨80 + j.val, by omega⟩ := Fin.ext (by simp; omega)
  unfold turn
  dsimp only
  rw [tabC_apply, tabL_apply, tabR_apply, if_neg (by simp), if_pos (by simp; omega), if_pos (by simp; omega),
    if_neg (by simp), if_pos (by simp; omega)]
  simp only [hj, hf]
  rw [mul_zero, add_zero, mul_neg, ← sub_eq_add_neg]

/-- The embedding of the second half of the rotated lanes. -/
theorem turn_snd (f : Fin 128 → EReal) (x y : FVec Ideal S4x8192x16 .f32) (b : Fin 4) (s : Fin 8192) (j : Fin 16) :
    turn f (fun l => tabC x (ix2 (flat b s) l)) (fun l => tabL y (ix2 (flat b s) l)) (fun l => tabR y (ix2 (flat b s) l))
      ⟨80 + j.val, by omega⟩
      = f ⟨80 + j.val, by omega⟩ * x (ix3 b s j) + f ⟨64 + j.val, by omega⟩ * y (ix3 b s j) := by
  have hj : (⟨(80 + j.val) % 16, by omega⟩ : Fin 16) = j := Fin.ext (by simp; omega)
  have hf : (⟨(80 + j.val + 128 - 16) % 128, by omega⟩ : Fin 128) = ⟨64 + j.val, by omega⟩ := Fin.ext (by simp; omega)
  unfold turn
  dsimp only
  rw [tabC_apply, tabL_apply, tabR_apply, if_neg (by simp; omega), if_neg (by simp), if_pos (by simp; omega),
    if_neg (by simp), if_pos (by simp; omega), if_neg (by simp; omega), if_neg (by simp)]
  simp only [hj, hf]
  rw [mul_zero, add_zero]

end Cert.InHost

end
-- ==== Proof.InBlocks.lean ====
/- The blocks that the input projection's kernel reads at a grid point, as entries of the arguments and of what the host
   lays out from them. -/
module

public import proofs.«01_k».proof.Proof.Gen.InIdeal.Value
public import proofs.«01_k».proof.Proof.InHost
public import Idealize.ShloMosaic.Lib.Pipeline.ValueKit
public import Idealize.ShloMosaic.Lib.Claim

@[expose] public section

set_option maxRecDepth 16384

noncomputable section

namespace Cert.InBlocks

open Idealize.ShloMosaic Idealize.ShloMosaic.TcCoe Idealize.SL.Sem
open Idealize.ShloMosaic.Pipeline (Dat)
open Cert.InIdeal Cert.InIdeal.Gen Cert.InHost

variable (m : (ℓ : Loc nD τ sig) → Buf (Elt Ideal) ℓ)

/-- The blocks of the grid's point `t`. -/
theorem idx_val : ∀ t : Fin cfg0.N,
    win0_0.index t = ![t.val, 0] ∧ win0_1.index t = ![t.val / 16, 0, 0] ∧ win0_2.index t = ![0, 0] ∧
    win0_3.index t = ![0, 0] ∧ win0_4.index t = ![0, 0] ∧ win0_5.index t = ![0, 0] ∧ win0_6.index t = ![0, 0] ∧
    win0_7.index t = ![0, 0] ∧ win0_8.index t = ![0, 0] ∧ win0_9.index t = ![t.val, 0] ∧ win0_10.index t = ![t.val, 0] ∧
    win0_11.index t = ![t.val, 0] ∧ win0_12.index t = ![t.val / 16, 0, t.val % 16, 0] ∧
    win0_13.index t = ![t.val / 16, 0, t.val % 16, 0] ∧ win0_14.index t = ![t.val / 16, 0, t.val % 16, 0] ∧
    win0_15.index t = ![t.val, 0] ∧ win0_16.index t = ![t.val, 0] :=
  (by decide +kernel : ∀ t : Fin grid0.N, _)

/-- The batch entry of point `t`. -/
abbrev bat (t : Fin cfg0.N) : Fin 4 :=
  ⟨t.val / 16, by have := lt_of_lt_of_eq t.isLt (show cfg0.N = 64 from N_0); omega⟩

/-- The position of row `r` of point `t`. -/
abbrev pos (t : Fin cfg0.N) (r : Fin 512) : Fin 8192 := ⟨t.val % 16 * 512 + r.val, by omega⟩

/-- Row `r` of point `t` among all rows. -/
theorem flat_val (t : Fin cfg0.N) (r : Fin 512) : (flat (bat t) (pos t r)).val = t.val * 512 + r.val := by
  show t.val / 16 * 8192 + (t.val % 16 * 512 + r.val) = _
  omega

/-- The layer's input laid out in rows. -/
theorem entry36 (c : Dev nD) : V m c main_v36
    = (shapeCast S32768x1024 (m (c, main_arg0) : FVec Ideal S4x8192x1024 .f32)
        shapeCasts_S4x8192x1024_S32768x1024 : FVec Ideal S32768x1024 .f32) := by
  rfl

/-- The six modulation vectors of each batch entry. -/
theorem entry37 (c : Dev nD) : V m c main_v37
    = (shapeCast S4x6x1024 (m (c, main_arg1) : FVec Ideal S4x6144 .f32) shapeCasts_S4x6144_S4x6x1024 :
        FVec Ideal S4x6x1024 .f32) := by
  rfl

/-- The first norm's weights. -/
theorem entry38 (c : Dev nD) : V m c main_v38
    = (shapeCast S1x1024 (m (c, main_arg4) : FVec Ideal S1024 .f32) shapeCasts_S1024_S1x1024 : FVec Ideal S1x1024 .f32) := by
  rfl

/-- The queries' norm's weights. -/
theorem entry39 (c : Dev nD) : V m c main_v39
    = (shapeCast S1x384 (m (c, main_arg6) : FVec Ideal S384 .f32) shapeCasts_S384_S1x384 : FVec Ideal S1x384 .f32) := by
  rfl

/-- The norm's weights of keys and values. -/
theorem entry40 (c : Dev nD) : V m c main_v40
    = (shapeCast S1x256 (m (c, main_arg8) : FVec Ideal S256 .f32) shapeCasts_S256_S1x256 : FVec Ideal S1x256 .f32) := by
  rfl

/-- The first weights. -/
theorem entry18 (c : Dev nD) : V m c main_v18 = laid (m (c, main_arg5)) := by
  rfl

/-- The queries' weights. -/
theorem entry22 (c : Dev nD) : V m c main_v22 = wideQ (m (c, main_arg7)) := by
  rfl

/-- The keys' weights. -/
theorem entry29 (c : Dev nD) : V m c main_v29 = wideH 0 slices_S256x8x128_S256x8x64_0_0_0 (m (c, main_arg9)) := by
  rfl

/-- The values' weights. -/
theorem entry35 (c : Dev nD) : V m c main_v35 = wideH 64 slices_S256x8x128_S256x8x64_0_0_64 (m (c, main_arg9)) := by
  rfl

/-- The rotary embedding's first factors. -/
theorem entry4 (c : Dev nD) : V m c main_v4 = tabC (m (c, main_arg2)) := by
  rfl

/-- The factors of the lanes before. -/
theorem entry7 (c : Dev nD) : V m c main_v7 = tabL (m (c, main_arg3)) := by
  rfl

/-- The factors of the lanes after. -/
theorem entry11 (c : Dev nD) : V m c main_v11 = tabR (m (c, main_arg3)) := by
  rfl

/-- The tokens of every batch entry laid out in rows, at one element. -/
theorem rows_apply (x : FVec Ideal S4x8192x1024 .f32) (b : Fin 4) (s : Fin 8192) (k : Fin 1024) :
    shapeCast S32768x1024 x shapeCasts_S4x8192x1024_S32768x1024 (ix2 (flat b s) k) = x (ix3 b s k) := by
  pointwise [flat]

/-- The rows at one element. -/
theorem entry36_apply (c : Dev nD) (b : Fin 4) (s : Fin 8192) (k : Fin 1024) :
    V m c main_v36 (ix2 (flat b s) k) = m (c, main_arg0) (ix3 b s k) := by
  rw [entry36]
  exact rows_apply _ b s k

/-- The first modulation vector at one element. -/
theorem entry37_fst (c : Dev nD) (b : Fin 4) (k : Fin 1024) :
    V m c main_v37 (ix3 b 0 k) = m (c, main_arg1) (ix2 b ⟨k.val, by omega⟩) := by
  rw [entry37]
  pointwise

/-- The second modulation vector at one element. -/
theorem entry37_snd (c : Dev nD) (b : Fin 4) (k : Fin 1024) :
    V m c main_v37 (ix3 b 1 k) = m (c, main_arg1) (ix2 b ⟨1024 + k.val, by omega⟩) := by
  rw [entry37]
  pointwise

/-- The first norm's weights at one element. -/
theorem entry38_apply (c : Dev nD) (k : Fin 1024) : V m c main_v38 (ix2 0 k) = m (c, main_arg4) (ix1 k) := by
  rw [entry38]
  pointwise

/-- The queries' norm's weights at one element. -/
theorem entry39_apply (c : Dev nD) (k : Fin 384) : V m c main_v39 (ix2 0 k) = m (c, main_arg6) (ix1 k) := by
  rw [entry39]
  pointwise

/-- The norm's weights of keys and values at one element. -/
theorem entry40_apply (c : Dev nD) (k : Fin 256) : V m c main_v40 (ix2 0 k) = m (c, main_arg8) (ix1 k) := by
  rw [entry40]
  pointwise

/-- The block of rows at one element. -/
theorem blk0 (c : Dev nD) (t : Fin cfg0.N) (r : Fin 512) (k : Fin 1024) :
    iblk m c 0 t (ix2 r k) = m (c, main_arg0) (ix3 (bat t) (pos t r) k) := by
  have hv := flat_val t r
  have h : iblk m c 0 t (ix2 r k) = V m c main_v36 (ix2 (flat (bat t) (pos t r)) k) := by
    blk_point [iblk, V, idx_val t]
  exact h.trans (entry36_apply m c _ _ k)

/-- The first modulation vector of the point's batch entry. -/
theorem blk1_fst (c : Dev nD) (t : Fin cfg0.N) (k : Fin 1024) :
    iblk m c 1 t (ix3 0 0 k) = m (c, main_arg1) (ix2 (bat t) ⟨k.val, by omega⟩) := by
  have h : iblk m c 1 t (ix3 0 0 k) = V m c main_v37 (ix3 (bat t) 0 k) := by
    blk_point [iblk, V, idx_val t]
  exact h.trans (entry37_fst m c _ k)

/-- The second modulation vector of the point's batch entry. -/
theorem blk1_snd (c : Dev nD) (t : Fin cfg0.N) (k : Fin 1024) :
    iblk m c 1 t (ix3 0 1 k) = m (c, main_arg1) (ix2 (bat t) ⟨1024 + k.val, by omega⟩) := by
  have h : iblk m c 1 t (ix3 0 1 k) = V m c main_v37 (ix3 (bat t) 1 k) := by
    blk_point [iblk, V, idx_val t]
  exact h.trans (entry37_snd m c _ k)

/-- The block of the first norm's weights. -/
theorem blk2 (c : Dev nD) (t : Fin cfg0.N) (k : Fin 1024) : iblk m c 2 t (ix2 0 k) = m (c, main_arg4) (ix1 k) := by
  have h : iblk m c 2 t (ix2 0 k) = V m c main_v38 (ix2 0 k) := by
    blk_point [iblk, V, idx_val t]
  exact h.trans (entry38_apply m c k)

/-- The block of the first weights. -/
theorem blk3 (c : Dev nD) (t : Fin cfg0.N) (k : Fin 1024) (j : Fin 3840) :
    iblk m c 3 t (ix2 k j) = laid (m (c, main_arg5)) (ix2 k j) := by
  have h : iblk m c 3 t (ix2 k j) = V m c main_v18 (ix2 k j) := by
    blk_point [iblk, V, idx_val t]
  exact h.trans (congrFun (entry18 m c) _)

/-- The block of the queries' norm's weights. -/
theorem blk4 (c : Dev nD) (t : Fin cfg0.N) (k : Fin 384) : iblk m c 4 t (ix2 0 k) = m (c, main_arg6) (ix1 k) := by
  have h : iblk m c 4 t (ix2 0 k) = V m c main_v39 (ix2 0 k) := by
    blk_point [iblk, V, idx_val t]
  exact h.trans (entry39_apply m c k)

/-- The block of the queries' weights. -/
theorem blk5 (c : Dev nD) (t : Fin cfg0.N) (k : Fin 384) (j : Fin 1024) :
    iblk m c 5 t (ix2 k j) = wideQ (m (c, main_arg7)) (ix2 k j) := by
  have h : iblk m c 5 t (ix2 k j) = V m c main_v22 (ix2 k j) := by
    blk_point [iblk, V, idx_val t]
  exact h.trans (congrFun (entry22 m c) _)

/-- The block of the norm's weights of keys and values. -/
theorem blk6 (c : Dev nD) (t : Fin cfg0.N) (k : Fin 256) : iblk m c 6 t (ix2 0 k) = m (c, main_arg8) (ix1 k) := by
  have h : iblk m c 6 t (ix2 0 k) = V m c main_v40 (ix2 0 k) := by
    blk_point [iblk, V, idx_val t]
  exact h.trans (entry40_apply m c k)

/-- The block of the keys' weights. -/
theorem blk7 (c : Dev nD) (t : Fin cfg0.N) (k : Fin 256) (j : Fin 1024) :
    iblk m c 7 t (ix2 k j) = wideH 0 slices_S256x8x128_S256x8x64_0_0_0 (m (c, main_arg9)) (ix2 k j) := by
  have h : iblk m c 7 t (ix2 k j) = V m c main_v29 (ix2 k j) := by
    blk_point [iblk, V, idx_val t]
  exact h.trans (congrFun (entry29 m c) _)

/-- The block of the values' weights. -/
theorem blk8 (c : Dev nD) (t : Fin cfg0.N) (k : Fin 256) (j : Fin 1024) :
    iblk m c 8 t (ix2 k j) = wideH 64 slices_S256x8x128_S256x8x64_0_0_64 (m (c, main_arg9)) (ix2 k j) := by
  have h : iblk m c 8 t (ix2 k j) = V m c main_v35 (ix2 k j) := by
    blk_point [iblk, V, idx_val t]
  exact h.trans (congrFun (entry35 m c) _)

/-- The block of the rotary embedding's first factors. -/
theorem blk9 (c : Dev nD) (t : Fin cfg0.N) (r : Fin 512) (l : Fin 128) :
    iblk m c 9 t (ix2 r l) = tabC (m (c, main_arg2)) (ix2 (flat (bat t) (pos t r)) l) := by
  have hv := flat_val t r
  have h : iblk m c 9 t (ix2 r l) = V m c main_v4 (ix2 (flat (bat t) (pos t r)) l) := by
    blk_point [iblk, V, idx_val t]
  exact h.trans (congrFun (entry4 m c) _)

/-- The block of the factors of the lanes before. -/
theorem blk10 (c : Dev nD) (t : Fin cfg0.N) (r : Fin 512) (l : Fin 128) :
    iblk m c 10 t (ix2 r l) = tabL (m (c, main_arg3)) (ix2 (flat (bat t) (pos t r)) l) := by
  have hv := flat_val t r
  have h : iblk m c 10 t (ix2 r l) = V m c main_v7 (ix2 (flat (bat t) (pos t r)) l) := by
    blk_point [iblk, V, idx_val t]
  exact h.trans (congrFun (entry7 m c) _)

/-- The block of the factors of the lanes after. -/
theorem blk11 (c : Dev nD) (t : Fin cfg0.N) (r : Fin 512) (l : Fin 128) :
    iblk m c 11 t (ix2 r l) = tabR (m (c, main_arg3)) (ix2 (flat (bat t) (pos t r)) l) := by
  have hv := flat_val t r
  have h : iblk m c 11 t (ix2 r l) = V m c main_v11 (ix2 (flat (bat t) (pos t r)) l) := by
    blk_point [iblk, V, idx_val t]
  exact h.trans (congrFun (entry11 m c) _)

end Cert.InBlocks

end
-- ==== Proof.InSpec.lean ====
/- What the input projection's kernel leaves at every element of its five results, as plain formulas over the arguments. -/
module

public import proofs.«01_k».proof.Proof.InHost

@[expose] public section

set_option maxRecDepth 16384

noncomputable section

namespace Cert.InSpec

open Idealize.ShloMosaic Idealize.SL.Sem
open Cert.InIdeal Cert.InIdeal.Gen Cert.InTile Cert.InHost

variable (X0 : FVec Ideal S4x8192x1024 .f32) (X1 : FVec Ideal S4x6144 .f32) (X2 X3 : FVec Ideal S4x8192x16 .f32)
  (X4 : FVec Ideal S1024 .f32) (X5 : FVec Ideal S1024x3744 .f32) (X6 : FVec Ideal S384 .f32)
  (X7 : FVec Ideal S384x768 .f32) (X8 : FVec Ideal S256 .f32) (X9 : FVec Ideal S256x1024 .f32)

/-- The first product in the kernel's column `j`. -/
def zk (b : Fin 4) (s : Fin 8192) (j : Fin 3840) : EReal :=
  ∑ k : Fin 1024, hrow (fun k => X0 (ix3 b s k)) (fun k => X4 (ix1 k)) (fun k => X1 (ix2 b ⟨1024 + k.val, by omega⟩))
    (fun k => X1 (ix2 b ⟨k.val, by omega⟩)) k * laid X5 (ix2 k j)

/-- The queries' product in the kernel's column `j`. -/
def qk (b : Fin 4) (s : Fin 8192) (j : Fin 1024) : EReal :=
  ∑ k : Fin 384, rms 0x43C00000#32 (fun k : Fin 384 => zk X0 X1 X4 X5 b s ⟨k.val, by omega⟩) (X6 (ix1 k)) k
    * wideQ X7 (ix2 k j)

/-- The keys' product (`o = 0`) or the values' (`o = 64`) in the kernel's column `j`. -/
def hk (o : ℕ) (hs : S256x8x128.Slices ![0, 0, o] S256x8x64) (b : Fin 4) (s : Fin 8192) (j : Fin 1024) : EReal :=
  ∑ k : Fin 256, rms 0x43800000#32 (fun k : Fin 256 => zk X0 X1 X4 X5 b s ⟨384 + k.val, by omega⟩) (X8 (ix1 k)) k
    * wideH o hs X9 (ix2 k j)

/-- The queries at one element. -/
def qv (b : Fin 4) (h : Fin 8) (s : Fin 8192) (l : Fin 128) : EReal :=
  turn (fun l => qk X0 X1 X4 X5 X6 X7 b s ⟨h.val * 128 + l.val, by omega⟩) (fun l => tabC X2 (ix2 (flat b s) l))
    (fun l => tabL X3 (ix2 (flat b s) l)) (fun l => tabR X3 (ix2 (flat b s) l)) l

/-- The keys at one element. -/
def kv (b : Fin 4) (h : Fin 8) (s : Fin 8192) (l : Fin 128) : EReal :=
  hk X0 X1 X4 X5 X8 X9 0 slices_S256x8x128_S256x8x64_0_0_0 b s ⟨h.val * 128 + l.val, by omega⟩
    + turn (fun l => zk X0 X1 X4 X5 b s ⟨640 + l.val, by omega⟩) (fun l => tabC X2 (ix2 (flat b s) l))
        (fun l => tabL X3 (ix2 (flat b s) l)) (fun l => tabR X3 (ix2 (flat b s) l)) l

/-- The values at one element, a one added in lane 64. -/
def vv (b : Fin 4) (h : Fin 8) (s : Fin 8192) (l : Fin 128) : EReal :=
  hk X0 X1 X4 X5 X8 X9 64 slices_S256x8x128_S256x8x64_0_0_64 b s ⟨h.val * 128 + l.val, by omega⟩
    + k0_pay14 (F := Ideal) (ix2 0 l)

/-- The input of the convolution at one element. -/
def uv (b : Fin 4) (s : Fin 8192) (j : Fin 512) : EReal :=
  zk X0 X1 X4 X5 b s ⟨768 + j.val, by omega⟩ * Ideal.logistic (zk X0 X1 X4 X5 b s ⟨1280 + j.val, by omega⟩)

/-- The gates at one element. -/
def gv (b : Fin 4) (s : Fin 8192) (j : Fin 2048) : EReal :=
  Ideal.logistic (zk X0 X1 X4 X5 b s ⟨1792 + j.val, by omega⟩)

end Cert.InSpec

end
-- ==== Proof.InPoint.lean ====
/- What one point of the input projection's kernel writes, at one element of each of its five blocks. -/
module

public import proofs.«01_k».proof.Proof.InBlocks
public import proofs.«01_k».proof.Proof.InSpec

@[expose] public section

set_option maxRecDepth 16384

noncomputable section

namespace Cert.InPoint

open Idealize.ShloMosaic Idealize.ShloMosaic.TcCoe Idealize.SL.Sem
open Idealize.ShloMosaic.Pipeline (Dat)
open Cert.InIdeal Cert.InIdeal.Gen Cert.InTile Cert.InHost Cert.InBlocks Cert.InSpec

variable (m : (ℓ : Loc nD τ sig) → Buf (Elt Ideal) ℓ)

/-- The rows as they are loaded. -/
theorem ld0 (x : Vec Ideal S512x1024 .f32) (r : Fin 512) (k : Fin 1024) : View.ld x r0_0 (ix2 r k) = x (ix2 r k) := by
  pointwise

/-- The first modulation vector as it is loaded. -/
theorem ld1 (x : Vec Ideal S1x6x1024 .f32) (k : Fin 1024) : View.ld x r0_1 (ix3 0 0 k) = x (ix3 0 0 k) := by
  pointwise

/-- The second modulation vector as it is loaded. -/
theorem ld2 (x : Vec Ideal S1x6x1024 .f32) (k : Fin 1024) : View.ld x r0_2 (ix3 0 0 k) = x (ix3 0 1 k) := by
  pointwise

/-- The first norm's weights as they are loaded. -/
theorem ld3 (x : Vec Ideal S1x1024 .f32) (k : Fin 1024) : View.ld x r0_3 (ix2 0 k) = x (ix2 0 k) := by
  pointwise

/-- The first weights as they are loaded. -/
theorem ld4 (x : Vec Ideal S1024x3840 .bf16) (k : Fin 1024) (j : Fin 3840) : View.ld x r0_4 (ix2 k j) = x (ix2 k j) := by
  pointwise

/-- The queries' norm's weights as they are loaded. -/
theorem ld5 (x : Vec Ideal S1x384 .f32) (k : Fin 384) : View.ld x r0_5 (ix2 0 k) = x (ix2 0 k) := by
  pointwise

/-- The norm's weights of keys and values as they are loaded. -/
theorem ld6 (x : Vec Ideal S1x256 .f32) (k : Fin 256) : View.ld x r0_6 (ix2 0 k) = x (ix2 0 k) := by
  pointwise

/-- The queries' weights as they are loaded. -/
theorem ld7 (x : Vec Ideal S384x1024 .bf16) (k : Fin 384) (j : Fin 1024) : View.ld x r0_7 (ix2 k j) = x (ix2 k j) := by
  pointwise

/-- The keys' or the values' weights as they are loaded. -/
theorem ld8 (x : Vec Ideal S256x1024 .bf16) (k : Fin 256) (j : Fin 1024) : View.ld x r0_8 (ix2 k j) = x (ix2 k j) := by
  pointwise

/-- A table of the rotary embedding as it is loaded. -/
theorem ld9 (x : Vec Ideal S512x128 .f32) (r : Fin 512) (l : Fin 128) :
    shapeCast S512x128 (View.ld x r0_9) shapeCasts_S512x128_S512x128 (ix2 r l) = x (ix2 r l) := by
  pointwise

/-- The loaded rows as entries of the arguments. -/
theorem in0 (c : Dev nD) (t : Fin cfg0.N) (r : Fin 512) (k : Fin 1024) :
    View.ld (iblk m c 0 t) r0_0 (ix2 r k) = m (c, main_arg0) (ix3 (bat t) (pos t r) k) :=
  (ld0 _ r k).trans (blk0 m c t r k)

/-- The loaded first modulation vector as entries of the arguments. -/
theorem in1 (c : Dev nD) (t : Fin cfg0.N) (k : Fin 1024) :
    View.ld (iblk m c 1 t) r0_1 (ix3 0 0 k) = m (c, main_arg1) (ix2 (bat t) ⟨k.val, by omega⟩) :=
  (ld1 _ k).trans (blk1_fst m c t k)

/-- The loaded second modulation vector as entries of the arguments. -/
theorem in2 (c : Dev nD) (t : Fin cfg0.N) (k : Fin 1024) :
    View.ld (iblk m c 1 t) r0_2 (ix3 0 0 k) = m (c, main_arg1) (ix2 (bat t) ⟨1024 + k.val, by omega⟩) :=
  (ld2 _ k).trans (blk1_snd m c t k)

/-- The loaded first norm's weights as entries of the arguments. -/
theorem in3 (c : Dev nD) (t : Fin cfg0.N) (k : Fin 1024) :
    View.ld (iblk m c 2 t) r0_3 (ix2 0 k) = m (c, main_arg4) (ix1 k) :=
  (ld3 _ k).trans (blk2 m c t k)

/-- The loaded first weights as entries of what the host lays out. -/
theorem in4 (c : Dev nD) (t : Fin cfg0.N) (k : Fin 1024) (j : Fin 3840) :
    View.ld (iblk m c 3 t) r0_4 (ix2 k j) = laid (m (c, main_arg5)) (ix2 k j) :=
  (ld4 _ k j).trans (blk3 m c t k j)

/-- The loaded weights of the queries' norm as entries of the arguments. -/
theorem in5 (c : Dev nD) (t : Fin cfg0.N) (k : Fin 384) :
    View.ld (iblk m c 4 t) r0_5 (ix2 0 k) = m (c, main_arg6) (ix1 k) :=
  (ld5 _ k).trans (blk4 m c t k)

/-- The loaded queries' weights as entries of what the host lays out. -/
theorem in6 (c : Dev nD) (t : Fin cfg0.N) (k : Fin 384) (j : Fin 1024) :
    View.ld (iblk m c 5 t) r0_7 (ix2 k j) = wideQ (m (c, main_arg7)) (ix2 k j) :=
  (ld7 _ k j).trans (blk5 m c t k j)

/-- The loaded norm's weights of keys and values as entries of the arguments. -/
theorem in7 (c : Dev nD) (t : Fin cfg0.N) (k : Fin 256) :
    View.ld (iblk m c 6 t) r0_6 (ix2 0 k) = m (c, main_arg8) (ix1 k) :=
  (ld6 _ k).trans (blk6 m c t k)

/-- The loaded keys' weights as entries of what the host lays out. -/
theorem in8 (c : Dev nD) (t : Fin cfg0.N) (k : Fin 256) (j : Fin 1024) :
    View.ld (iblk m c 7 t) r0_8 (ix2 k j) = wideH 0 slices_S256x8x128_S256x8x64_0_0_0 (m (c, main_arg9)) (ix2 k j) :=
  (ld8 _ k j).trans (blk7 m c t k j)

/-- The loaded values' weights as entries of what the host lays out. -/
theorem in9 (c : Dev nD) (t : Fin cfg0.N) (k : Fin 256) (j : Fin 1024) :
    View.ld (iblk m c 8 t) r0_8 (ix2 k j) = wideH 64 slices_S256x8x128_S256x8x64_0_0_64 (m (c, main_arg9)) (ix2 k j) :=
  (ld8 _ k j).trans (blk8 m c t k j)

/-- The first product of the point `t`. -/
abbrev zp (c : Dev nD) (t : Fin cfg0.N) : FVec Ideal S512x3840 .f32 :=
  k0_pay2 (View.ld (iblk m c 0 t) r0_0) (View.ld (iblk m c 1 t) r0_1) (View.ld (iblk m c 1 t) r0_2)
    (View.ld (iblk m c 2 t) r0_3) (View.ld (iblk m c 3 t) r0_4)

/-- The first product at one element. -/
theorem zp_apply (c : Dev nD) (t : Fin cfg0.N) (r : Fin 512) (j : Fin 3840) :
    zp m c t (ix2 r j) = zk (m (c, main_arg0)) (m (c, main_arg1)) (m (c, main_arg4)) (m (c, main_arg5)) (bat t) (pos t r) j := by
  refine (pay2_apply _ _ _ _ _ r j).trans ?_
  unfold zk
  simp only [in0, in1, in2, in3, in4]

/-- The queries' product of the point `t`. -/
abbrev qp (c : Dev nD) (t : Fin cfg0.N) : FVec Ideal S512x1024 .f32 :=
  k0_pay7 (k0_pay3 (View.ld (iblk m c 0 t) r0_0) (View.ld (iblk m c 1 t) r0_1) (View.ld (iblk m c 1 t) r0_2)
      (View.ld (iblk m c 2 t) r0_3) (View.ld (iblk m c 3 t) r0_4)) (k0_pay4 (View.ld (iblk m c 4 t) r0_5))
    (k0_pay5 (View.ld (iblk m c 0 t) r0_0) (View.ld (iblk m c 1 t) r0_1) (View.ld (iblk m c 1 t) r0_2)
      (View.ld (iblk m c 2 t) r0_3) (View.ld (iblk m c 3 t) r0_4)) (View.ld (iblk m c 5 t) r0_7)

/-- The queries' product at one element. -/
theorem qp_apply (c : Dev nD) (t : Fin cfg0.N) (r : Fin 512) (j : Fin 1024) :
    qp m c t (ix2 r j) = qk (m (c, main_arg0)) (m (c, main_arg1)) (m (c, main_arg4)) (m (c, main_arg5)) (m (c, main_arg6))
      (m (c, main_arg7)) (bat t) (pos t r) j := by
  refine (pay7_apply _ _ _ _ _ _ _ r j).trans ?_
  have hz : ∀ j, k0_pay2 (View.ld (iblk m c 0 t) r0_0) (View.ld (iblk m c 1 t) r0_1) (View.ld (iblk m c 1 t) r0_2)
      (View.ld (iblk m c 2 t) r0_3) (View.ld (iblk m c 3 t) r0_4) (ix2 r j)
      = zk (m (c, main_arg0)) (m (c, main_arg1)) (m (c, main_arg4)) (m (c, main_arg5)) (bat t) (pos t r) j := zp_apply m c t r
  unfold qk
  simp only [in5, in6, hz]

/-- The keys' product at one element. -/
theorem kp_apply (c : Dev nD) (t : Fin cfg0.N) (r : Fin 512) (j : Fin 1024) :
    k0_pay8 (zp m c t) (View.ld (iblk m c 6 t) r0_6) (View.ld (iblk m c 7 t) r0_8) (ix2 r j)
      = hk (m (c, main_arg0)) (m (c, main_arg1)) (m (c, main_arg4)) (m (c, main_arg5)) (m (c, main_arg8))
          (m (c, main_arg9)) 0 slices_S256x8x128_S256x8x64_0_0_0 (bat t) (pos t r) j := by
  refine (pay8_apply _ _ _ r j).trans ?_
  unfold hk
  simp only [pay6_apply, in7, in8, zp_apply]

/-- The values' product at one element. -/
theorem vp_apply (c : Dev nD) (t : Fin cfg0.N) (r : Fin 512) (j : Fin 1024) :
    k0_pay9 (zp m c t) (View.ld (iblk m c 6 t) r0_6) (View.ld (iblk m c 8 t) r0_8) (ix2 r j)
      = hk (m (c, main_arg0)) (m (c, main_arg1)) (m (c, main_arg4)) (m (c, main_arg5)) (m (c, main_arg8))
          (m (c, main_arg9)) 64 slices_S256x8x128_S256x8x64_0_0_64 (bat t) (pos t r) j := by
  refine (pay9_apply _ _ _ r j).trans ?_
  unfold hk
  simp only [pay6_apply, in7, in9, zp_apply]

/-- The block of queries that the eight heads' stores leave, at one index. -/
def qE (q : FVec Ideal S512x1024 .f32) (c s1 s2 : FVec Ideal S512x128 .f32) : Vec Ideal S1x8x512x128 .bf16 := fun y =>
  turn (fun l => q (ix2 (y 2) ⟨(y 1).val * 128 + l.val, by have h : (y 1).val < 8 := (y 1).isLt; omega⟩))
    (fun l => c (ix2 (y 2) l)) (fun l => s1 (ix2 (y 2) l)) (fun l => s2 (ix2 (y 2) l)) (y 3)

/-- One head's store is its part of that block. -/
theorem qpiece (o : Fin 897) (h : Fin 8) (e : o.val = h.val * 128) (hs : S512x1024.Slices ![0, o.val] S512x128)
    (hb : ∀ a, (![0, h.val, 0, 0] : Fin 4 → Nat) a + S1x1x512x128.size a ≤ S1x8x512x128.size a) (q : FVec Ideal S512x1024 .f32)
    (c s1 s2 : FVec Ideal S512x128 .f32) (x : S1x1x512x128.Idx) :
    qhead o.val hs q c s1 s2 x
      = qE q c s1 s2 ((Rect.unit (s := S1x8x512x128) ![0, h.val, 0, 0] S1x1x512x128.size hb).emb x) := by
  obtain ⟨a, b, r, l, rfl⟩ : ∃ (a b : Fin 1) (r : Fin 512) (l : Fin 128), x = ix4 a b r l := ⟨x 0, x 1, x 2, x 3, eq_ix4 x⟩
  have hy : (Rect.unit (s := S1x8x512x128) ![0, h.val, 0, 0] S1x1x512x128.size hb).emb (ix4 a b r l) = ix4 0 h r l := by
    funext d
    refine Fin.ext ?_
    match d with
    | ⟨0, _⟩ => show 0 + 1 * a.val = 0; omega
    | ⟨1, _⟩ => show h.val + 1 * b.val = h.val; omega
    | ⟨2, _⟩ => show 0 + 1 * r.val = r.val; omega
    | ⟨3, _⟩ => show 0 + 1 * l.val = l.val; omega
  rw [hy]
  refine (qhead_apply o hs q c s1 s2 a b r l).trans ?_
  unfold qE
  simp only [e]
  rfl

/-- The block of queries at one index. -/
theorem out12_eq (x0 : Vec Ideal S512x1024 .f32) (x1 : Vec Ideal S1x6x1024 .f32) (x2 : Vec Ideal S1x1024 .f32)
    (x3 : Vec Ideal S1024x3840 .bf16) (x4 : Vec Ideal S1x384 .f32) (x5 : Vec Ideal S384x1024 .bf16) (x6 : Vec Ideal S1x256 .f32)
    (x7 x8 : Vec Ideal S256x1024 .bf16) (x9 x10 x11 : Vec Ideal S512x128 .f32) (y : S1x8x512x128.Idx) :
    out0_12 x0 x1 x2 x3 x4 x5 x6 x7 x8 x9 x10 x11 y
      = qE (k0_pay44 x0 x1 x2 x3 x4 x5 x6 x7 x8 x9 x10 x11) (k0_pay47 x0 x1 x2 x3 x4 x5 x6 x7 x8 x9 x10 x11)
          (k0_pay48 x0 x1 x2 x3 x4 x5 x6 x7 x8 x9 x10 x11) (k0_pay49 x0 x1 x2 x3 x4 x5 x6 x7 x8 x9 x10 x11) y := by
  unfold out0_12
  generalize k0_pay44 x0 x1 x2 x3 x4 x5 x6 x7 x8 x9 x10 x11 = q
  generalize k0_pay47 x0 x1 x2 x3 x4 x5 x6 x7 x8 x9 x10 x11 = c
  generalize k0_pay48 x0 x1 x2 x3 x4 x5 x6 x7 x8 x9 x10 x11 = s1
  generalize k0_pay49 x0 x1 x2 x3 x4 x5 x6 x7 x8 x9 x10 x11 = s2
  refine View.canon_apply_of_pieces (qE q c s1 s2) _ ?_ y (cover0_12 _ _ _ _ _ _ _ _ y)
  intro pc hpc
  rcases List.mem_cons.mp hpc with rfl | hpc
  · exact qpiece 896 7 rfl slices_S512x1024_o0_896_S512x128 inb_S1x8x512x128_S1x1x512x128_0_7_0_0 q c s1 s2
  rcases List.mem_cons.mp hpc with rfl | hpc
  · exact qpiece 768 6 rfl slices_S512x1024_o0_768_S512x128 inb_S1x8x512x128_S1x1x512x128_0_6_0_0 q c s1 s2
  rcases List.mem_cons.mp hpc with rfl | hpc
  · exact qpiece 640 5 rfl slices_S512x1024_o0_640_S512x128 inb_S1x8x512x128_S1x1x512x128_0_5_0_0 q c s1 s2
  rcases List.mem_cons.mp hpc with rfl | hpc
  · exact qpiece 512 4 rfl slices_S512x1024_o0_512_S512x128 inb_S1x8x512x128_S1x1x512x128_0_4_0_0 q c s1 s2
  rcases List.mem_cons.mp hpc with rfl | hpc
  · exact qpiece 384 3 rfl slices_S512x1024_o0_384_S512x128 inb_S1x8x512x128_S1x1x512x128_0_3_0_0 q c s1 s2
  rcases List.mem_cons.mp hpc with rfl | hpc
  · exact qpiece 256 2 rfl slices_S512x1024_o0_256_S512x128 inb_S1x8x512x128_S1x1x512x128_0_2_0_0 q c s1 s2
  rcases List.mem_cons.mp hpc with rfl | hpc
  · exact qpiece 128 1 rfl slices_S512x1024_o0_128_S512x128 inb_S1x8x512x128_S1x1x512x128_0_1_0_0 q c s1 s2
  rcases List.mem_cons.mp hpc with rfl | hpc
  · exact qpiece 0 0 rfl slices_S512x1024_o0_0_S512x128 inb_S1x8x512x128_S1x1x512x128_0_0_0_0 q c s1 s2
  nomatch hpc

end Cert.InPoint

end
-- ==== Proof.InValue.lean ====
/- The five arrays that the input projection's kernel leaves, element by element. -/
module

public import proofs.«01_k».proof.Proof.InPoint

@[expose] public section

set_option maxRecDepth 16384

noncomputable section

namespace Cert.InValue

open Idealize.ShloMosaic Idealize.ShloMosaic.TcCoe Idealize.SL.Sem
open Idealize.ShloMosaic.Pipeline (Dat)
open Cert.InIdeal Cert.InIdeal.Gen Cert.InIdeal.Value Cert.InTile Cert.InHost Cert.InBlocks Cert.InSpec Cert.InPoint

variable (m : (ℓ : Loc nD τ sig) → Buf (Elt Ideal) ℓ)

/-- The loaded first factors. -/
theorem tab0 (c : Dev nD) (t : Fin cfg0.N) (r : Fin 512) (l : Fin 128) :
    shapeCast S512x128 (View.ld (iblk m c 9 t) r0_9) shapeCasts_S512x128_S512x128 (ix2 r l)
      = tabC (m (c, main_arg2)) (ix2 (flat (bat t) (pos t r)) l) :=
  (ld9 _ r l).trans (blk9 m c t r l)

/-- The loaded factors of the lanes before. -/
theorem tab1 (c : Dev nD) (t : Fin cfg0.N) (r : Fin 512) (l : Fin 128) :
    shapeCast S512x128 (View.ld (iblk m c 10 t) r0_9) shapeCasts_S512x128_S512x128 (ix2 r l)
      = tabL (m (c, main_arg3)) (ix2 (flat (bat t) (pos t r)) l) :=
  (ld9 _ r l).trans (blk10 m c t r l)

/-- The loaded factors of the lanes after. -/
theorem tab2 (c : Dev nD) (t : Fin cfg0.N) (r : Fin 512) (l : Fin 128) :
    shapeCast S512x128 (View.ld (iblk m c 11 t) r0_9) shapeCasts_S512x128_S512x128 (ix2 r l)
      = tabR (m (c, main_arg3)) (ix2 (flat (bat t) (pos t r)) l) :=
  (ld9 _ r l).trans (blk11 m c t r l)

/-- Equal lanes and equal tables turn alike. -/
theorem turn_congr {f f' c c' s1 s1' s2 s2' : Fin 128 → EReal} (hf : ∀ l, f l = f' l) (hc : ∀ l, c l = c' l)
    (h1 : ∀ l, s1 l = s1' l) (h2 : ∀ l, s2 l = s2' l) (l : Fin 128) : turn f c s1 s2 l = turn f' c' s1' s2' l := by
  rw [funext hf, funext hc, funext h1, funext h2]

/-- The queries that point `t` writes. -/
theorem out12_apply (c : Dev nD) (t : Fin cfg0.N) (a : Fin 1) (h : Fin 8) (r : Fin 512) (l : Fin 128) :
    out0_12 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (ix4 a h r l)
      = qv (m (c, main_arg0)) (m (c, main_arg1)) (m (c, main_arg2)) (m (c, main_arg3)) (m (c, main_arg4))
          (m (c, main_arg5)) (m (c, main_arg6)) (m (c, main_arg7)) (bat t) h (pos t r) l := by
  refine (out12_eq _ _ _ _ _ _ _ _ _ _ _ _ _).trans ?_
  exact turn_congr (fun l => qp_apply m c t r _) (tab0 m c t r) (tab1 m c t r) (tab2 m c t r) l

/-- The keys that point `t` writes. -/
theorem out13_apply (c : Dev nD) (t : Fin cfg0.N) (a : Fin 1) (h : Fin 8) (r : Fin 512) (l : Fin 128) :
    out0_13 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (ix4 a h r l)
      = kv (m (c, main_arg0)) (m (c, main_arg1)) (m (c, main_arg2)) (m (c, main_arg3)) (m (c, main_arg4))
          (m (c, main_arg5)) (m (c, main_arg8)) (m (c, main_arg9)) (bat t) h (pos t r) l := by
  unfold_out out0_13
  refine (canon13_eq _ _ _ _ _ _ _ _ _ _ _).trans ?_
  have e0 : ix13_0 (ix4 a h r l) = ix2 r ⟨h.val * 128 + l.val, by omega⟩ := eq_ix2 _
  have e1 : ix13_1 (ix4 a h r l) = ix2 r l := eq_ix2 _
  exact congr (congrArg (fun (u v : EReal) => u + v) ((congrArg _ e0).trans (kp_apply m c t r _)))
    ((congrArg _ e1).trans ((pay13_apply _ _ _ _ r l).trans
      (turn_congr (fun l => zp_apply m c t r _) (tab0 m c t r) (tab1 m c t r) (tab2 m c t r) l)))

/-- The values that point `t` writes. -/
theorem out14_apply (c : Dev nD) (t : Fin cfg0.N) (a : Fin 1) (h : Fin 8) (r : Fin 512) (l : Fin 128) :
    out0_14 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (ix4 a h r l)
      = vv (m (c, main_arg0)) (m (c, main_arg1)) (m (c, main_arg4)) (m (c, main_arg5)) (m (c, main_arg8))
          (m (c, main_arg9)) (bat t) h (pos t r) l := by
  unfold_out out0_14
  refine (canon14_eq _ _ _ _ _ _ _ _).trans ?_
  have e0 : ix14_0 (ix4 a h r l) = ix2 r ⟨h.val * 128 + l.val, by omega⟩ := eq_ix2 _
  have e1 : ix14_1 (ix4 a h r l) = ix2 0 l := eq_ix2 _
  exact congr (congrArg (fun (u v : EReal) => u + v) ((congrArg _ e0).trans (vp_apply m c t r _))) (congrArg _ e1)

/-- The input of the convolution that point `t` writes. -/
theorem out15_apply (c : Dev nD) (t : Fin cfg0.N) (r : Fin 512) (j : Fin 512) :
    out0_15 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (ix2 r j)
      = uv (m (c, main_arg0)) (m (c, main_arg1)) (m (c, main_arg4)) (m (c, main_arg5)) (bat t) (pos t r) j := by
  unfold_out out0_15
  refine (canon15_eq _ _ _ _ _ _).trans ?_
  have e0 : ix15_0 (ix2 r j) = ix2 r ⟨768 + j.val, by omega⟩ :=
    (eq_ix2 _).trans (congrArg (ix2 r) (Fin.ext (Nat.add_comm _ _)))
  have e1 : ix15_1 (ix2 r j) = ix2 r ⟨1280 + j.val, by omega⟩ :=
    (eq_ix2 _).trans (congrArg (ix2 r) (Fin.ext (Nat.add_comm _ _)))
  exact congr (congrArg (fun (u v : EReal) => u * Ideal.logistic v) ((congrArg _ e0).trans (zp_apply m c t r _)))
    ((congrArg _ e1).trans (zp_apply m c t r _))

/-- The gates that point `t` writes. -/
theorem out16_apply (c : Dev nD) (t : Fin cfg0.N) (r : Fin 512) (j : Fin 2048) :
    out0_16 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (ix2 r j)
      = gv (m (c, main_arg0)) (m (c, main_arg1)) (m (c, main_arg4)) (m (c, main_arg5)) (bat t) (pos t r) j := by
  unfold_out out0_16
  refine (canon16_eq _ _ _ _ _ _).trans ?_
  have e0 : ix16_0 (ix2 r j) = ix2 r ⟨1792 + j.val, by omega⟩ :=
    (eq_ix2 _).trans (congrArg (ix2 r) (Fin.ext (Nat.add_comm _ _)))
  exact congrArg Ideal.logistic ((congrArg _ e0).trans (zp_apply m c t r _))

/-- The array of queries. -/
theorem arr12 (c : Dev nD) (X : FVec Ideal S4x8x8192x128 .bf16)
    (hX : ∀ b h s l, X (ix4 b h s l) = qv (m (c, main_arg0)) (m (c, main_arg1)) (m (c, main_arg2)) (m (c, main_arg3))
      (m (c, main_arg4)) (m (c, main_arg5)) (m (c, main_arg6)) (m (c, main_arg7)) b h s l) :
    (dats m 0 c).arrAt 12 cfg0.N = X := by
  refine (dats m 0 c).arrAt_eq_of_covers 12 _ (by decide +kernel) fun t hf y => ?_
  have hN : t.val < 64 := lt_of_lt_of_eq t.isLt (show cfg0.N = 64 from N_0)
  blk_simp
  rw [after0_12]
  obtain ⟨a, h, r, l, rfl⟩ : ∃ (a : Fin 1) (h : Fin 8) (r : Fin 512) (l : Fin 128), y = ix4 a h r l :=
    ⟨y 0, y 1, y 2, y 3, eq_ix4 y⟩
  have hX' : X ((win0_12.blk t).view.emb (ix4 a h r l)) = X (ix4 (bat t) h (pos t r) l) := by
    blk_point [idx_val t]
  exact (out12_apply m c t a h r l).trans (hX'.trans (hX _ _ _ _)).symm

/-- The array of keys. -/
theorem arr13 (c : Dev nD) (X : FVec Ideal S4x8x8192x128 .bf16)
    (hX : ∀ b h s l, X (ix4 b h s l) = kv (m (c, main_arg0)) (m (c, main_arg1)) (m (c, main_arg2)) (m (c, main_arg3))
      (m (c, main_arg4)) (m (c, main_arg5)) (m (c, main_arg8)) (m (c, main_arg9)) b h s l) :
    (dats m 0 c).arrAt 13 cfg0.N = X := by
  refine (dats m 0 c).arrAt_eq_of_covers 13 _ (by decide +kernel) fun t hf y => ?_
  have hN : t.val < 64 := lt_of_lt_of_eq t.isLt (show cfg0.N = 64 from N_0)
  blk_simp
  rw [after0_13]
  obtain ⟨a, h, r, l, rfl⟩ : ∃ (a : Fin 1) (h : Fin 8) (r : Fin 512) (l : Fin 128), y = ix4 a h r l :=
    ⟨y 0, y 1, y 2, y 3, eq_ix4 y⟩
  have hX' : X ((win0_13.blk t).view.emb (ix4 a h r l)) = X (ix4 (bat t) h (pos t r) l) := by
    blk_point [idx_val t]
  exact (out13_apply m c t a h r l).trans (hX'.trans (hX _ _ _ _)).symm

/-- The array of values. -/
theorem arr14 (c : Dev nD) (X : FVec Ideal S4x8x8192x128 .bf16)
    (hX : ∀ b h s l, X (ix4 b h s l) = vv (m (c, main_arg0)) (m (c, main_arg1)) (m (c, main_arg4)) (m (c, main_arg5))
      (m (c, main_arg8)) (m (c, main_arg9)) b h s l) :
    (dats m 0 c).arrAt 14 cfg0.N = X := by
  refine (dats m 0 c).arrAt_eq_of_covers 14 _ (by decide +kernel) fun t hf y => ?_
  have hN : t.val < 64 := lt_of_lt_of_eq t.isLt (show cfg0.N = 64 from N_0)
  blk_simp
  rw [after0_14]
  obtain ⟨a, h, r, l, rfl⟩ : ∃ (a : Fin 1) (h : Fin 8) (r : Fin 512) (l : Fin 128), y = ix4 a h r l :=
    ⟨y 0, y 1, y 2, y 3, eq_ix4 y⟩
  have hX' : X ((win0_14.blk t).view.emb (ix4 a h r l)) = X (ix4 (bat t) h (pos t r) l) := by
    blk_point [idx_val t]
  exact (out14_apply m c t a h r l).trans (hX'.trans (hX _ _ _ _)).symm

/-- The array of the convolution's inputs. -/
theorem arr15 (c : Dev nD) (X : FVec Ideal S32768x512 .bf16)
    (hX : ∀ b s j, X (ix2 (flat b s) j) = uv (m (c, main_arg0)) (m (c, main_arg1)) (m (c, main_arg4)) (m (c, main_arg5))
      b s j) :
    (dats m 0 c).arrAt 15 cfg0.N = X := by
  refine (dats m 0 c).arrAt_eq_of_covers 15 _ (by decide +kernel) fun t hf y => ?_
  have hN : t.val < 64 := lt_of_lt_of_eq t.isLt (show cfg0.N = 64 from N_0)
  blk_simp
  rw [after0_15]
  obtain ⟨r, j, rfl⟩ : ∃ (r : Fin 512) (j : Fin 512), y = ix2 r j := ⟨y 0, y 1, eq_ix2 y⟩
  have hv := flat_val t r
  have hX' : X ((win0_15.blk t).view.emb (ix2 r j)) = X (ix2 (flat (bat t) (pos t r)) j) := by
    blk_point [idx_val t]
  exact (out15_apply m c t r j).trans (hX'.trans (hX _ _ _)).symm

/-- The array of gates. -/
theorem arr16 (c : Dev nD) (X : FVec Ideal S32768x2048 .bf16)
    (hX : ∀ b s j, X (ix2 (flat b s) j) = gv (m (c, main_arg0)) (m (c, main_arg1)) (m (c, main_arg4)) (m (c, main_arg5))
      b s j) :
    (dats m 0 c).arrAt 16 cfg0.N = X := by
  refine (dats m 0 c).arrAt_eq_of_covers 16 _ (by decide +kernel) fun t hf y => ?_
  have hN : t.val < 64 := lt_of_lt_of_eq t.isLt (show cfg0.N = 64 from N_0)
  blk_simp
  rw [after0_16]
  obtain ⟨r, j, rfl⟩ : ∃ (r : Fin 512) (j : Fin 2048), y = ix2 r j := ⟨y 0, y 1, eq_ix2 y⟩
  have hv := flat_val t r
  have hX' : X ((win0_16.blk t).view.emb (ix2 r j)) = X (ix2 (flat (bat t) (pos t r)) j) := by
    blk_point [idx_val t]
  exact (out16_apply m c t r j).trans (hX'.trans (hX _ _ _)).symm

end Cert.InValue

end
-- ==== Proof.InRef.lean ====
/- The reference of the input projection, read at one element of each of its five results. -/
module

public import proofs.«01_k».proof.Proof.Gen.InRefIdeal.Run
public import proofs.«01_k».proof.Proof.InTile
public import Idealize.ShloMosaic.Lib.KernelVsHost
public import Idealize.ShloMosaic.Lib.IdealHost

@[expose] public section

set_option maxRecDepth 16384

noncomputable section

namespace Cert.InRef

open Idealize.ShloMosaic Idealize.ShloMosaic.TcCoe Idealize.SL.Sem
open Cert.InRefIdeal Cert.InRefIdeal.Gen Cert.InRefIdeal.Value
open Cert.InTile (rms hrow)

/-- The reference's first product. -/
def zAll (X0 : FVec Ideal S4x8192x1024 .f32) (X1 : FVec Ideal S4x6144 .f32) (X4 : FVec Ideal S1024 .f32)
    (X5 : FVec Ideal S1024x3744 .f32) : FVec Ideal S4x8192x3744 .f32 :=
  Host.dotGeneral dot_S4x8192x1024_S1024x3744_S4x8192x3744_2_0_01_1_n_n none (addf (mulf (mulf (mulf X0
    (broadcastInDim S4x8192x1024 ![0, 1, 2] bcast_S4x8192x1_S4x8192x1024_0_1_2 (Host.rsqrt (addf (Host.divf
    (broadcastInDim S4x8192x1 ![0, 1] bcast_S4x8192_S4x8192x1_0_1 (Host.reduceAdd (mulf X0 X0) (constant S_ .f32
    0x00000000#32) reducesTo_S4x8192x1024_S4x8192_d2 h_S_)) (broadcastInDim S4x8192x1 ![] bcast_S_S4x8192x1
    (constant S_ .f32 0x44800000#32))) (broadcastInDim S4x8192x1 ![] bcast_S_S4x8192x1 (constant S_ .f32
    0x358637BD#32)))))) (broadcastInDim S4x8192x1024 ![0, 1, 2] bcast_S1x1x1024_S4x8192x1024_0_1_2 (broadcastInDim
    S1x1x1024 ![2] bcast_S1024_S1x1x1024_2 X4))) (broadcastInDim S4x8192x1024 ![0, 1, 2]
    bcast_S4x1x1024_S4x8192x1024_0_1_2 (addf (broadcastInDim S4x1x1024 ![] bcast_S_S4x1x1024 (constant S_ .f32
    0x3F800000#32)) (broadcastInDim S4x1x1024 ![0, 2] bcast_S4x1024_S4x1x1024_0_2 (extractStridedSlice S4x1024 ![0,
    1024] X1 slices_S4x6144_S4x1024_0_1024))))) (broadcastInDim S4x8192x1024 ![0, 1, 2]
    bcast_S4x1x1024_S4x8192x1024_0_1_2 (broadcastInDim S4x1x1024 ![0, 2] bcast_S4x1024_S4x1x1024_0_2
    (extractStridedSlice S4x1024 ![0, 0] X1 slices_S4x6144_S4x1024_0_0)))) X5

/-- The first product at one element. -/
theorem zAll_apply (X0 : FVec Ideal S4x8192x1024 .f32) (X1 : FVec Ideal S4x6144 .f32) (X4 : FVec Ideal S1024 .f32)
    (X5 : FVec Ideal S1024x3744 .f32) (b : Fin 4) (s : Fin 8192) (j : Fin 3744) :
    zAll X0 X1 X4 X5 (ix3 b s j)
      = ∑ k : Fin 1024, hrow (fun k => X0 (ix3 b s k)) (fun k => X4 (ix1 k)) (fun k => X1 (ix2 b ⟨1024 + k.val, by omega⟩))
          (fun k => X1 (ix2 b ⟨k.val, by omega⟩)) k * X5 (ix2 k j) := by
  pointwise [zAll, hrow, rms]

/-- The queries' product. -/
def qAll (z : FVec Ideal S4x8192x3744 .f32) (X6 : FVec Ideal S384 .f32) (X7 : FVec Ideal S384x768 .f32) :
    FVec Ideal S4x8192x768 .f32 :=
  Host.dotGeneral dot_S4x8192x384_S384x768_S4x8192x768_2_0_01_1_n_n none (mulf (mulf (extractStridedSlice
    S4x8192x384 ![0, 0, 0] z slices_S4x8192x3744_S4x8192x384_0_0_0) (broadcastInDim S4x8192x384 ![0, 1, 2]
    bcast_S4x8192x1_S4x8192x384_0_1_2 (Host.rsqrt (addf (Host.divf (broadcastInDim S4x8192x1 ![0, 1]
    bcast_S4x8192_S4x8192x1_0_1 (Host.reduceAdd (mulf (extractStridedSlice S4x8192x384 ![0, 0, 0] z
    slices_S4x8192x3744_S4x8192x384_0_0_0) (extractStridedSlice S4x8192x384 ![0, 0, 0] z
    slices_S4x8192x3744_S4x8192x384_0_0_0)) (constant S_ .f32 0x00000000#32) reducesTo_S4x8192x384_S4x8192_d2 h_S_))
    (broadcastInDim S4x8192x1 ![] bcast_S_S4x8192x1 (constant S_ .f32 0x43C00000#32))) (broadcastInDim S4x8192x1 ![]
    bcast_S_S4x8192x1 (constant S_ .f32 0x358637BD#32)))))) (broadcastInDim S4x8192x384 ![0, 1, 2]
    bcast_S1x1x384_S4x8192x384_0_1_2 (broadcastInDim S1x1x384 ![2] bcast_S384_S1x1x384_2 X6))) X7

/-- The queries' product at one element. -/
theorem qAll_apply (z : FVec Ideal S4x8192x3744 .f32) (X6 : FVec Ideal S384 .f32) (X7 : FVec Ideal S384x768 .f32)
    (b : Fin 4) (s : Fin 8192) (j : Fin 768) :
    qAll z X6 X7 (ix3 b s j) = ∑ k : Fin 384,
      rms 0x43C00000#32 (fun k : Fin 384 => z (ix3 b s ⟨k.val, by omega⟩)) (X6 (ix1 k)) k * X7 (ix2 k j) := by
  pointwise [qAll, rms]

/-- The product of keys and values. -/
def kvAll (z : FVec Ideal S4x8192x3744 .f32) (X8 : FVec Ideal S256 .f32) (X9 : FVec Ideal S256x1024 .f32) :
    FVec Ideal S4x8192x1024 .f32 :=
  Host.dotGeneral dot_S4x8192x256_S256x1024_S4x8192x1024_2_0_01_1_n_n none (mulf (mulf (extractStridedSlice
    S4x8192x256 ![0, 0, 384] z slices_S4x8192x3744_S4x8192x256_0_0_384) (broadcastInDim S4x8192x256 ![0, 1, 2]
    bcast_S4x8192x1_S4x8192x256_0_1_2 (Host.rsqrt (addf (Host.divf (broadcastInDim S4x8192x1 ![0, 1]
    bcast_S4x8192_S4x8192x1_0_1 (Host.reduceAdd (mulf (extractStridedSlice S4x8192x256 ![0, 0, 384] z
    slices_S4x8192x3744_S4x8192x256_0_0_384) (extractStridedSlice S4x8192x256 ![0, 0, 384] z
    slices_S4x8192x3744_S4x8192x256_0_0_384)) (constant S_ .f32 0x00000000#32) reducesTo_S4x8192x256_S4x8192_d2
    h_S_)) (broadcastInDim S4x8192x1 ![] bcast_S_S4x8192x1 (constant S_ .f32 0x43800000#32))) (broadcastInDim
    S4x8192x1 ![] bcast_S_S4x8192x1 (constant S_ .f32 0x358637BD#32)))))) (broadcastInDim S4x8192x256 ![0, 1, 2]
    bcast_S1x1x256_S4x8192x256_0_1_2 (broadcastInDim S1x1x256 ![2] bcast_S256_S1x1x256_2 X8))) X9

/-- The product of keys and values at one element. -/
theorem kvAll_apply (z : FVec Ideal S4x8192x3744 .f32) (X8 : FVec Ideal S256 .f32) (X9 : FVec Ideal S256x1024 .f32)
    (b : Fin 4) (s : Fin 8192) (j : Fin 1024) :
    kvAll z X8 X9 (ix3 b s j) = ∑ k : Fin 256,
      rms 0x43800000#32 (fun k : Fin 256 => z (ix3 b s ⟨384 + k.val, by omega⟩)) (X8 (ix1 k)) k * X9 (ix2 k j) := by
  pointwise [kvAll, rms]

/-- The reference's queries. -/
def qRes (q : FVec Ideal S4x8192x768 .f32) (X2 X3 : FVec Ideal S4x8192x16 .f32) : FVec Ideal S4x8x8192x128 .bf16 :=
  truncf .bf16 (pad S4x8x8192x128 ![0, 0, 0, 0] ![0, 0, 0, 32] ![0, 0, 0, 0] (transpose S4x8x8192x96 [0, 2, 1, 3]
    (concatenate S4x8192x8x96 3 [⟨S4x8192x8x64, (extractStridedSlice S4x8192x8x64 ![0, 0, 0, 0] (shapeCast
    S4x8192x8x96 q shapeCasts_S4x8192x768_S4x8192x8x96) slices_S4x8192x8x96_S4x8192x8x64_0_0_0_0)⟩, ⟨S4x8192x8x32,
    (concatenate S4x8192x8x32 3 [⟨S4x8192x8x16, (subf (mulf (extractStridedSlice S4x8192x8x16 ![0, 0, 0, 0]
    (extractStridedSlice S4x8192x8x32 ![0, 0, 0, 64] (shapeCast S4x8192x8x96 q shapeCasts_S4x8192x768_S4x8192x8x96)
    slices_S4x8192x8x96_S4x8192x8x32_0_0_0_64) slices_S4x8192x8x32_S4x8192x8x16_0_0_0_0) (broadcastInDim
    S4x8192x8x16 ![0, 1, 2, 3] bcast_S4x8192x1x16_S4x8192x8x16_0_1_2_3 (broadcastInDim S4x8192x1x16 ![0, 1, 3]
    bcast_S4x8192x16_S4x8192x1x16_0_1_3 X2))) (mulf (extractStridedSlice S4x8192x8x16 ![0, 0, 0, 16]
    (extractStridedSlice S4x8192x8x32 ![0, 0, 0, 64] (shapeCast S4x8192x8x96 q shapeCasts_S4x8192x768_S4x8192x8x96)
    slices_S4x8192x8x96_S4x8192x8x32_0_0_0_64) slices_S4x8192x8x32_S4x8192x8x16_0_0_0_16) (broadcastInDim
    S4x8192x8x16 ![0, 1, 2, 3] bcast_S4x8192x1x16_S4x8192x8x16_0_1_2_3 (broadcastInDim S4x8192x1x16 ![0, 1, 3]
    bcast_S4x8192x16_S4x8192x1x16_0_1_3 X3))))⟩, ⟨S4x8192x8x16, (addf (mulf (extractStridedSlice S4x8192x8x16 ![0,
    0, 0, 16] (extractStridedSlice S4x8192x8x32 ![0, 0, 0, 64] (shapeCast S4x8192x8x96 q
    shapeCasts_S4x8192x768_S4x8192x8x96) slices_S4x8192x8x96_S4x8192x8x32_0_0_0_64)
    slices_S4x8192x8x32_S4x8192x8x16_0_0_0_16) (broadcastInDim S4x8192x8x16 ![0, 1, 2, 3]
    bcast_S4x8192x1x16_S4x8192x8x16_0_1_2_3 (broadcastInDim S4x8192x1x16 ![0, 1, 3]
    bcast_S4x8192x16_S4x8192x1x16_0_1_3 X2))) (mulf (extractStridedSlice S4x8192x8x16 ![0, 0, 0, 0]
    (extractStridedSlice S4x8192x8x32 ![0, 0, 0, 64] (shapeCast S4x8192x8x96 q shapeCasts_S4x8192x768_S4x8192x8x96)
    slices_S4x8192x8x96_S4x8192x8x32_0_0_0_64) slices_S4x8192x8x32_S4x8192x8x16_0_0_0_0) (broadcastInDim
    S4x8192x8x16 ![0, 1, 2, 3] bcast_S4x8192x1x16_S4x8192x8x16_0_1_2_3 (broadcastInDim S4x8192x1x16 ![0, 1, 3]
    bcast_S4x8192x16_S4x8192x1x16_0_1_3 X3))))⟩] concatenates_S4x8192x8x16_S4x8192x8x16_S4x8192x8x32_d3)⟩]
    concatenates_S4x8192x8x64_S4x8192x8x32_S4x8192x8x96_d3) transposes_S4x8192x8x96_S4x8x8192x96_0_2_1_3) (sitofp
    .f32 (constantI S_ 32 0#32)) pads_S4x8x8192x96_S4x8x8192x128_000_000_000_0320 h_S_) bitsLt_bf16_f32

/-- The queries' first 64 lanes. -/
theorem qRes_low (q : FVec Ideal S4x8192x768 .f32) (X2 X3 : FVec Ideal S4x8192x16 .f32) (b : Fin 4) (h : Fin 8)
    (s : Fin 8192) (l : Fin 64) :
    qRes q X2 X3 (ix4 b h s ⟨l.val, by omega⟩) = q (ix3 b s ⟨h.val * 96 + l.val, by omega⟩) := by
  pointwise [qRes]
  rw [dif_pos (by omega)]

/-- The first half of the queries' rotated lanes. -/
theorem qRes_fst (q : FVec Ideal S4x8192x768 .f32) (X2 X3 : FVec Ideal S4x8192x16 .f32) (b : Fin 4) (h : Fin 8)
    (s : Fin 8192) (j : Fin 16) :
    qRes q X2 X3 (ix4 b h s ⟨64 + j.val, by omega⟩)
      = q (ix3 b s ⟨h.val * 96 + (64 + j.val), by omega⟩) * X2 (ix3 b s j)
        - q (ix3 b s ⟨h.val * 96 + (80 + j.val), by omega⟩) * X3 (ix3 b s j) := by
  pointwise [qRes]
  have e : ∀ u v : Fin 768, u.val = v.val → q (ix3 b s u) = q (ix3 b s v) := fun u v h => by rw [Fin.ext h]
  have ex : ∀ (X : FVec Ideal S4x8192x16 .f32) (u : Fin 16), u.val = j.val → X (ix3 b s u) = X (ix3 b s j) :=
    fun X u h => by rw [Fin.ext h]
  rw [dif_pos (by omega)]
  exact congrArg₂ (fun u v : EReal => u - v)
    (congrArg₂ (fun u v : EReal => u * v) (e _ _ (by simp <;> omega)) (ex _ _ (by simp <;> omega)))
    (congrArg₂ (fun u v : EReal => u * v) (e _ _ (by simp <;> omega)) (ex _ _ (by simp <;> omega)))

/-- The second half of the queries' rotated lanes. -/
theorem qRes_snd (q : FVec Ideal S4x8192x768 .f32) (X2 X3 : FVec Ideal S4x8192x16 .f32) (b : Fin 4) (h : Fin 8)
    (s : Fin 8192) (j : Fin 16) :
    qRes q X2 X3 (ix4 b h s ⟨80 + j.val, by omega⟩)
      = q (ix3 b s ⟨h.val * 96 + (80 + j.val), by omega⟩) * X2 (ix3 b s j)
        + q (ix3 b s ⟨h.val * 96 + (64 + j.val), by omega⟩) * X3 (ix3 b s j) := by
  pointwise [qRes]
  have e : ∀ u v : Fin 768, u.val = v.val → q (ix3 b s u) = q (ix3 b s v) := fun u v h => by rw [Fin.ext h]
  have ex : ∀ (X : FVec Ideal S4x8192x16 .f32) (u : Fin 16), u.val = j.val → X (ix3 b s u) = X (ix3 b s j) :=
    fun X u h => by rw [Fin.ext h]
  rw [dif_pos (by omega), dif_neg (by omega), dif_neg (by omega)]
  exact congrArg₂ (fun u v : EReal => u + v)
    (congrArg₂ (fun u v : EReal => u * v) (e _ _ (by simp <;> omega)) (ex _ _ (by simp <;> omega)))
    (congrArg₂ (fun u v : EReal => u * v) (e _ _ (by simp <;> omega)) (ex _ _ (by simp <;> omega)))

/-- The reference's keys. -/
def kRes (z : FVec Ideal S4x8192x3744 .f32) (kv : FVec Ideal S4x8192x1024 .f32) (X2 X3 : FVec Ideal S4x8192x16 .f32) :
    FVec Ideal S4x8x8192x128 .bf16 :=
  truncf .bf16 (pad S4x8x8192x128 ![0, 0, 0, 0] ![0, 0, 0, 32] ![0, 0, 0, 0] (transpose S4x8x8192x96 [0, 2, 1, 3]
    (concatenate S4x8192x8x96 3 [⟨S4x8192x8x64, (extractStridedSlice S4x8192x8x64 ![0, 0, 0, 0] (shapeCast
    S4x8192x8x128 kv shapeCasts_S4x8192x1024_S4x8192x8x128) slices_S4x8192x8x128_S4x8192x8x64_0_0_0_0)⟩,
    ⟨S4x8192x8x32, (broadcastInDim S4x8192x8x32 ![0, 1, 2, 3] bcast_S4x8192x1x32_S4x8192x8x32_0_1_2_3
    (broadcastInDim S4x8192x1x32 ![0, 1, 3] bcast_S4x8192x32_S4x8192x1x32_0_1_3 (concatenate S4x8192x32 2
    [⟨S4x8192x16, (subf (mulf (extractStridedSlice S4x8192x16 ![0, 0, 0] (extractStridedSlice S4x8192x32 ![0, 0,
    640] z slices_S4x8192x3744_S4x8192x32_0_0_640) slices_S4x8192x32_S4x8192x16_0_0_0) X2) (mulf
    (extractStridedSlice S4x8192x16 ![0, 0, 16] (extractStridedSlice S4x8192x32 ![0, 0, 640] z
    slices_S4x8192x3744_S4x8192x32_0_0_640) slices_S4x8192x32_S4x8192x16_0_0_16) X3))⟩, ⟨S4x8192x16, (addf (mulf
    (extractStridedSlice S4x8192x16 ![0, 0, 16] (extractStridedSlice S4x8192x32 ![0, 0, 640] z
    slices_S4x8192x3744_S4x8192x32_0_0_640) slices_S4x8192x32_S4x8192x16_0_0_16) X2) (mulf (extractStridedSlice
    S4x8192x16 ![0, 0, 0] (extractStridedSlice S4x8192x32 ![0, 0, 640] z slices_S4x8192x3744_S4x8192x32_0_0_640)
    slices_S4x8192x32_S4x8192x16_0_0_0) X3))⟩] concatenates_S4x8192x16_S4x8192x16_S4x8192x32_d2)))⟩]
    concatenates_S4x8192x8x64_S4x8192x8x32_S4x8192x8x96_d3) transposes_S4x8192x8x96_S4x8x8192x96_0_2_1_3) (sitofp
    .f32 (constantI S_ 32 0#32)) pads_S4x8x8192x96_S4x8x8192x128_000_000_000_0320 h_S_) bitsLt_bf16_f32

/-- The keys' first 64 lanes. -/
theorem kRes_low (z : FVec Ideal S4x8192x3744 .f32) (kv : FVec Ideal S4x8192x1024 .f32) (X2 X3 : FVec Ideal S4x8192x16 .f32)
    (b : Fin 4) (h : Fin 8) (s : Fin 8192) (l : Fin 64) :
    kRes z kv X2 X3 (ix4 b h s ⟨l.val, by omega⟩) = kv (ix3 b s ⟨h.val * 128 + l.val, by omega⟩) := by
  pointwise [kRes]
  rw [dif_pos (by omega)]

/-- The first half of the keys' rotated lanes. -/
theorem kRes_fst (z : FVec Ideal S4x8192x3744 .f32) (kv : FVec Ideal S4x8192x1024 .f32) (X2 X3 : FVec Ideal S4x8192x16 .f32)
    (b : Fin 4) (h : Fin 8) (s : Fin 8192) (j : Fin 16) :
    kRes z kv X2 X3 (ix4 b h s ⟨64 + j.val, by omega⟩)
      = z (ix3 b s ⟨640 + j.val, by omega⟩) * X2 (ix3 b s j) - z (ix3 b s ⟨656 + j.val, by omega⟩) * X3 (ix3 b s j) := by
  pointwise [kRes]
  have e : ∀ u v : Fin 3744, u.val = v.val → z (ix3 b s u) = z (ix3 b s v) := fun u v h => by rw [Fin.ext h]
  have ex : ∀ (X : FVec Ideal S4x8192x16 .f32) (u : Fin 16), u.val = j.val → X (ix3 b s u) = X (ix3 b s j) :=
    fun X u h => by rw [Fin.ext h]
  rw [dif_pos (by omega)]
  exact congrArg₂ (fun u v : EReal => u - v)
    (congrArg₂ (fun u v : EReal => u * v) (e _ _ (by simp <;> omega)) (ex _ _ (by simp <;> omega)))
    (congrArg₂ (fun u v : EReal => u * v) (e _ _ (by simp <;> omega)) (ex _ _ (by simp <;> omega)))

/-- The second half of the keys' rotated lanes. -/
theorem kRes_snd (z : FVec Ideal S4x8192x3744 .f32) (kv : FVec Ideal S4x8192x1024 .f32) (X2 X3 : FVec Ideal S4x8192x16 .f32)
    (b : Fin 4) (h : Fin 8) (s : Fin 8192) (j : Fin 16) :
    kRes z kv X2 X3 (ix4 b h s ⟨80 + j.val, by omega⟩)
      = z (ix3 b s ⟨656 + j.val, by omega⟩) * X2 (ix3 b s j) + z (ix3 b s ⟨640 + j.val, by omega⟩) * X3 (ix3 b s j) := by
  pointwise [kRes]
  have e : ∀ u v : Fin 3744, u.val = v.val → z (ix3 b s u) = z (ix3 b s v) := fun u v h => by rw [Fin.ext h]
  have ex : ∀ (X : FVec Ideal S4x8192x16 .f32) (u : Fin 16), u.val = j.val → X (ix3 b s u) = X (ix3 b s j) :=
    fun X u h => by rw [Fin.ext h]
  rw [dif_pos (by omega), dif_neg (by omega), dif_neg (by omega)]
  exact congrArg₂ (fun u v : EReal => u + v)
    (congrArg₂ (fun u v : EReal => u * v) (e _ _ (by simp <;> omega)) (ex _ _ (by simp <;> omega)))
    (congrArg₂ (fun u v : EReal => u * v) (e _ _ (by simp <;> omega)) (ex _ _ (by simp <;> omega)))

/-- The reference's values. -/
def vRes (kv : FVec Ideal S4x8192x1024 .f32) : FVec Ideal S4x8x8192x128 .bf16 :=
  truncf .bf16 (pad S4x8x8192x128 ![0, 0, 0, 0] ![0, 0, 0, 64] ![0, 0, 0, 0] (transpose S4x8x8192x64 [0, 2, 1, 3]
    (extractStridedSlice S4x8192x8x64 ![0, 0, 0, 64] (shapeCast S4x8192x8x128 kv
    shapeCasts_S4x8192x1024_S4x8192x8x128) slices_S4x8192x8x128_S4x8192x8x64_0_0_0_64)
    transposes_S4x8192x8x64_S4x8x8192x64_0_2_1_3) (sitofp .f32 (constantI S_ 32 0#32))
    pads_S4x8x8192x64_S4x8x8192x128_000_000_000_0640 h_S_) bitsLt_bf16_f32

/-- The values' 64 lanes. -/
theorem vRes_low (kv : FVec Ideal S4x8192x1024 .f32) (b : Fin 4) (h : Fin 8) (s : Fin 8192) (l : Fin 64) :
    vRes kv (ix4 b h s ⟨l.val, by omega⟩) = kv (ix3 b s ⟨h.val * 128 + (64 + l.val), by omega⟩) := by
  pointwise [vRes]

/-- The reference's input of the convolution. -/
def uRes (z : FVec Ideal S4x8192x3744 .f32) : FVec Ideal S32768x512 .bf16 :=
  truncf .bf16 (shapeCast S32768x512 (mulf (extractStridedSlice S4x8192x512 ![0, 0, 0] (extractStridedSlice
    S4x8192x1024 ![0, 0, 672] z slices_S4x8192x3744_S4x8192x1024_0_0_672) slices_S4x8192x1024_S4x8192x512_0_0_0)
    (Host.divf (broadcastInDim S4x8192x512 ![] bcast_S_S4x8192x512 (constant S_ .f32 0x3F800000#32)) (addf
    (broadcastInDim S4x8192x512 ![] bcast_S_S4x8192x512 (constant S_ .f32 0x3F800000#32)) (Host.exp (Host.negf
    (extractStridedSlice S4x8192x512 ![0, 0, 512] (extractStridedSlice S4x8192x1024 ![0, 0, 672] z
    slices_S4x8192x3744_S4x8192x1024_0_0_672) slices_S4x8192x1024_S4x8192x512_0_0_512))))))
    shapeCasts_S4x8192x512_S32768x512) bitsLt_bf16_f32

/-- The convolution's input at one element. -/
theorem uRes_apply (z : FVec Ideal S4x8192x3744 .f32) (b : Fin 4) (s : Fin 8192) (j : Fin 512) :
    uRes z (ix2 (⟨b.val * 8192 + s.val, by omega⟩ : Fin 32768) j)
      = z (ix3 b s ⟨672 + j.val, by omega⟩) * Ideal.logistic (z (ix3 b s ⟨1184 + j.val, by omega⟩)) := by
  have e : (⟨672 + (512 + j.val), by omega⟩ : Fin 3744) = ⟨1184 + j.val, by omega⟩ := Fin.ext (by simp; omega)
  pointwise [uRes, Ideal.logistic]
  rw [e]

/-- The reference's gates. -/
def gRes (z : FVec Ideal S4x8192x3744 .f32) : FVec Ideal S32768x2048 .bf16 :=
  truncf .bf16 (shapeCast S32768x2048 (Host.divf (broadcastInDim S4x8192x2048 ![] bcast_S_S4x8192x2048 (constant S_
    .f32 0x3F800000#32)) (addf (broadcastInDim S4x8192x2048 ![] bcast_S_S4x8192x2048 (constant S_ .f32
    0x3F800000#32)) (Host.exp (Host.negf (extractStridedSlice S4x8192x2048 ![0, 0, 1696] z
    slices_S4x8192x3744_S4x8192x2048_0_0_1696))))) shapeCasts_S4x8192x2048_S32768x2048) bitsLt_bf16_f32

/-- The gates at one element. -/
theorem gRes_apply (z : FVec Ideal S4x8192x3744 .f32) (b : Fin 4) (s : Fin 8192) (j : Fin 2048) :
    gRes z (ix2 (⟨b.val * 8192 + s.val, by omega⟩ : Fin 32768) j)
      = Ideal.logistic (z (ix3 b s ⟨1696 + j.val, by omega⟩)) := by
  pointwise [gRes, Ideal.logistic]

variable (m : (ℓ : Loc nD τ sig) → Buf (Elt Ideal) ℓ)

/-- The first product of the run's arguments. -/
abbrev zOf (c : Dev nD) : FVec Ideal S4x8192x3744 .f32 :=
  zAll (m (c, main_arg0)) (m (c, main_arg1)) (m (c, main_arg4)) (m (c, main_arg5))

/-- The queries the reference ends with. -/
theorem res0_eq (c : Dev nD) : res_out0 m c
    = qRes (qAll (zOf m c) (m (c, main_arg6)) (m (c, main_arg7))) (m (c, main_arg2)) (m (c, main_arg3)) := by
  unfold res_out0 res_main_v118
  rfl

/-- The keys the reference ends with. -/
theorem res1_eq (c : Dev nD) : res_out1 m c
    = kRes (zOf m c) (kvAll (zOf m c) (m (c, main_arg8)) (m (c, main_arg9))) (m (c, main_arg2)) (m (c, main_arg3)) := by
  unfold res_out1 res_main_v119
  rfl

/-- The values the reference ends with. -/
theorem res2_eq (c : Dev nD) : res_out2 m c = vRes (kvAll (zOf m c) (m (c, main_arg8)) (m (c, main_arg9))) := by
  unfold res_out2 res_main_v120
  rfl

end Cert.InRef

end
-- ==== Proof.InLanes.lean ====
/- The kernel's five results agree with the reference's on the lanes that are claimed. -/
module

public import proofs.«01_k».proof.Proof.InSpec
public import proofs.«01_k».proof.Proof.InRef

@[expose] public section

set_option maxRecDepth 16384

noncomputable section

namespace Cert.InLanes

open Idealize.ShloMosaic Idealize.SL.Sem
open Cert.InIdeal Cert.InIdeal.Gen Cert.InTile Cert.InHost Cert.InSpec

variable (X0 : FVec Ideal S4x8192x1024 .f32) (X1 : FVec Ideal S4x6144 .f32) (X2 X3 : FVec Ideal S4x8192x16 .f32)
  (X4 : FVec Ideal S1024 .f32) (X5 : FVec Ideal S1024x3744 .f32) (X6 : FVec Ideal S384 .f32)
  (X7 : FVec Ideal S384x768 .f32) (X8 : FVec Ideal S256 .f32) (X9 : FVec Ideal S256x1024 .f32)

/-- A column of the kernel's first product that has a column of the weights is that column of the reference's. -/
theorem zk_of (b : Fin 4) (s : Fin 8192) (i : Fin 3840) (j : Fin 3744)
    (h : ∀ k, laid X5 (ix2 k i) = X5 (ix2 k j)) : zk X0 X1 X4 X5 b s i = InRef.zAll X0 X1 X4 X5 (ix3 b s j) := by
  refine Eq.trans ?_ (InRef.zAll_apply X0 X1 X4 X5 b s j).symm
  exact Finset.sum_congr (M := EReal) rfl fun k _ => congrArg _ (h k)

/-- The first 640 columns stand where they stood. -/
theorem zk_low (b : Fin 4) (s : Fin 8192) (j : Fin 640) :
    zk X0 X1 X4 X5 b s ⟨j.val, by omega⟩ = InRef.zAll X0 X1 X4 X5 (ix3 b s ⟨j.val, by omega⟩) :=
  zk_of X0 X1 X4 X5 b s _ _ fun k => laid_low X5 k j

/-- The shared key's columns moved to lane 64. -/
theorem zk_key (b : Fin 4) (s : Fin 8192) (i : Fin 3840) (j : Fin 3744) (n : Fin 32) (hi : i.val = 704 + n.val)
    (hj : j.val = 640 + n.val) : zk X0 X1 X4 X5 b s i = InRef.zAll X0 X1 X4 X5 (ix3 b s j) := by
  refine zk_of X0 X1 X4 X5 b s _ _ fun k => ?_
  have ei : i = ⟨704 + n.val, by omega⟩ := Fin.ext hi
  have ej : j = ⟨640 + n.val, by omega⟩ := Fin.ext hj
  exact (congrArg (fun i => laid X5 (ix2 k i)) ei).trans ((laid_key X5 k n).trans (congrArg (fun j => X5 (ix2 k j)) ej.symm))

/-- The last columns moved by 96. -/
theorem zk_high (b : Fin 4) (s : Fin 8192) (i : Fin 3840) (j : Fin 3744) (n : Fin 3072) (hi : i.val = 768 + n.val)
    (hj : j.val = 672 + n.val) : zk X0 X1 X4 X5 b s i = InRef.zAll X0 X1 X4 X5 (ix3 b s j) := by
  refine zk_of X0 X1 X4 X5 b s _ _ fun k => ?_
  have ei : i = ⟨768 + n.val, by omega⟩ := Fin.ext hi
  have ej : j = ⟨672 + n.val, by omega⟩ := Fin.ext hj
  exact (congrArg (fun i => laid X5 (ix2 k i)) ei).trans ((laid_high X5 k n).trans (congrArg (fun j => X5 (ix2 k j)) ej.symm))

/-- The columns under the shared key's unrotated lanes are zero. -/
theorem zk_zero (b : Fin 4) (s : Fin 8192) (j : Fin 64) : zk X0 X1 X4 X5 b s ⟨640 + j.val, by omega⟩ = 0 := by
  unfold zk
  refine Finset.sum_eq_zero fun k _ => ?_
  rw [laid_zero, mul_zero]

/-- The queries' product in a head's first 96 lanes. -/
theorem qk_low (b : Fin 4) (s : Fin 8192) (h : Fin 8) (l : Fin 96) :
    qk X0 X1 X4 X5 X6 X7 b s ⟨h.val * 128 + l.val, by omega⟩
      = InRef.qAll (InRef.zAll X0 X1 X4 X5) X6 X7 (ix3 b s ⟨h.val * 96 + l.val, by omega⟩) := by
  refine Eq.trans ?_ (InRef.qAll_apply _ X6 X7 b s _).symm
  refine Finset.sum_congr (M := EReal) rfl fun k _ => ?_
  refine congr (congrArg _ (congrArg (fun f => rms 0x43C00000#32 f (X6 (ix1 k)) k) (funext fun k => ?_))) (wideQ_low X7 k h l)
  exact zk_low X0 X1 X4 X5 b s ⟨k.val, by omega⟩

/-- The keys' or the values' product in a head's first 64 lanes. -/
theorem hk_low (o : Fin 65) (hs : S256x8x128.Slices ![0, 0, o.val] S256x8x64) (b : Fin 4) (s : Fin 8192) (h : Fin 8)
    (l : Fin 64) (j : Fin 1024) (e : j.val = h.val * 128 + (o.val + l.val)) :
    hk X0 X1 X4 X5 X8 X9 o.val hs b s ⟨h.val * 128 + l.val, by omega⟩
      = InRef.kvAll (InRef.zAll X0 X1 X4 X5) X8 X9 (ix3 b s j) := by
  have ej : j = ⟨h.val * 128 + (o.val + l.val), by omega⟩ := Fin.ext e
  refine Eq.trans ?_ (congrArg (fun j => InRef.kvAll (InRef.zAll X0 X1 X4 X5) X8 X9 (ix3 b s j)) ej.symm)
  refine Eq.trans ?_ (InRef.kvAll_apply _ X8 X9 b s _).symm
  refine Finset.sum_congr (M := EReal) rfl fun k _ => ?_
  refine congr (congrArg _ (congrArg (fun f => rms 0x43800000#32 f (X8 (ix1 k)) k) (funext fun k => ?_))) (wideH_low o hs X9 k h l)
  exact zk_low X0 X1 X4 X5 b s ⟨384 + k.val, by omega⟩

/-- The keys' or the values' product is zero in a head's last 64 lanes. -/
theorem hk_high (o : Fin 65) (hs : S256x8x128.Slices ![0, 0, o.val] S256x8x64) (b : Fin 4) (s : Fin 8192) (h : Fin 8)
    (l : Fin 128) (hl : 64 ≤ l.val) : hk X0 X1 X4 X5 X8 X9 o.val hs b s ⟨h.val * 128 + l.val, by omega⟩ = 0 := by
  unfold hk
  refine Finset.sum_eq_zero fun k _ => ?_
  rw [wideH_high o hs X9 k h l hl, mul_zero]

/-- The lanes before lane 96: 64 unrotated ones and two halves of 16. -/
theorem lanes (l : Fin 128) (hl : l.val < 96) :
    (∃ (i : Fin 64) (p : i.val < 128), l = ⟨i.val, p⟩) ∨ (∃ (j : Fin 16) (p : 64 + j.val < 128), l = ⟨64 + j.val, p⟩)
      ∨ ∃ (j : Fin 16) (p : 80 + j.val < 128), l = ⟨80 + j.val, p⟩ := by
  rcases lt_or_ge l.val 64 with h | h
  · exact Or.inl ⟨⟨l.val, h⟩, l.isLt, rfl⟩
  rcases lt_or_ge l.val 80 with h' | h'
  · exact Or.inr (Or.inl ⟨⟨l.val - 64, by omega⟩, by dsimp only; omega, Fin.ext (by dsimp only; omega)⟩)
  · exact Or.inr (Or.inr ⟨⟨l.val - 80, by omega⟩, by dsimp only; omega, Fin.ext (by dsimp only; omega)⟩)

/-- The queries agree in a head's first 96 lanes. -/
theorem q_eq (b : Fin 4) (h : Fin 8) (s : Fin 8192) (l : Fin 128) (hl : l.val < 96) :
    qv X0 X1 X2 X3 X4 X5 X6 X7 b h s l
      = InRef.qRes (InRef.qAll (InRef.zAll X0 X1 X4 X5) X6 X7) X2 X3 (ix4 b h s l) := by
  have hq := qk_low X0 X1 X4 X5 X6 X7 b s h
  unfold qv
  rcases lanes l hl with ⟨i, p, rfl⟩ | ⟨j, p, rfl⟩ | ⟨j, p, rfl⟩
  · refine (turn_low _ X2 X3 b s i).trans (Eq.trans ?_ (InRef.qRes_low _ X2 X3 b h s i).symm)
    exact hq ⟨i.val, by omega⟩
  · refine (turn_fst _ X2 X3 b s j).trans (Eq.trans ?_ (InRef.qRes_fst _ X2 X3 b h s j).symm)
    rw [← hq ⟨64 + j.val, by omega⟩, ← hq ⟨80 + j.val, by omega⟩]
  · refine (turn_snd _ X2 X3 b s j).trans (Eq.trans ?_ (InRef.qRes_snd _ X2 X3 b h s j).symm)
    rw [← hq ⟨64 + j.val, by omega⟩, ← hq ⟨80 + j.val, by omega⟩]

/-- The keys agree in a head's first 96 lanes. -/
theorem k_eq (b : Fin 4) (h : Fin 8) (s : Fin 8192) (l : Fin 128) (hl : l.val < 96) :
    kv X0 X1 X2 X3 X4 X5 X8 X9 b h s l
      = InRef.kRes (InRef.zAll X0 X1 X4 X5) (InRef.kvAll (InRef.zAll X0 X1 X4 X5) X8 X9) X2 X3 (ix4 b h s l) := by
  have hz := zk_key X0 X1 X4 X5 b s
  unfold kv
  rcases lanes l hl with ⟨i, p, rfl⟩ | ⟨j, p, rfl⟩ | ⟨j, p, rfl⟩
  · refine Eq.trans ?_ (InRef.kRes_low _ _ X2 X3 b h s i).symm
    refine (congrArg _ ((turn_low _ X2 X3 b s i).trans (zk_zero X0 X1 X4 X5 b s i))).trans ((add_zero _).trans ?_)
    exact hk_low X0 X1 X4 X5 X8 X9 0 _ b s h i _ (by simp)
  · refine Eq.trans ?_ (InRef.kRes_fst _ _ X2 X3 b h s j).symm
    refine (congrArg (· + _) (hk_high X0 X1 X4 X5 X8 X9 0 _ b s h ⟨64 + j.val, by omega⟩ (by simp))).trans ((zero_add _).trans ?_)
    refine (turn_fst _ X2 X3 b s j).trans ?_
    dsimp only
    rw [hz ⟨640 + (64 + j.val), by omega⟩ ⟨640 + j.val, by omega⟩ ⟨j.val, by omega⟩ (by dsimp only; omega) rfl,
      hz ⟨640 + (80 + j.val), by omega⟩ ⟨656 + j.val, by omega⟩ ⟨16 + j.val, by omega⟩ (by dsimp only; omega) (by dsimp only; omega)]
  · refine Eq.trans ?_ (InRef.kRes_snd _ _ X2 X3 b h s j).symm
    refine (congrArg (· + _) (hk_high X0 X1 X4 X5 X8 X9 0 _ b s h ⟨80 + j.val, by omega⟩ (by simp <;> omega))).trans ((zero_add _).trans ?_)
    refine (turn_snd _ X2 X3 b s j).trans ?_
    dsimp only
    rw [hz ⟨640 + (64 + j.val), by omega⟩ ⟨640 + j.val, by omega⟩ ⟨j.val, by omega⟩ (by dsimp only; omega) rfl,
      hz ⟨640 + (80 + j.val), by omega⟩ ⟨656 + j.val, by omega⟩ ⟨16 + j.val, by omega⟩ (by dsimp only; omega) (by dsimp only; omega)]

/-- The lane that the values' row sums need is zero before lane 64. -/
theorem pay14_low (i : Fin 64) : k0_pay14 (F := Ideal) (ix2 0 ⟨i.val, by omega⟩) = 0 := by
  have hi : ∀ i : Fin 64, IntOp.cmpi .eq (BitVec.ofNat 32 i.val) 64#32 = 0#1 := by decide
  pointwise [k0_pay14]
  rw [hi i]
  rfl

/-- The values agree in a head's first 64 lanes. -/
theorem v_eq (b : Fin 4) (h : Fin 8) (s : Fin 8192) (l : Fin 128) (hl : l.val < 64) :
    vv X0 X1 X4 X5 X8 X9 b h s l
      = InRef.vRes (InRef.kvAll (InRef.zAll X0 X1 X4 X5) X8 X9) (ix4 b h s l) := by
  refine Eq.trans ?_ (InRef.vRes_low _ b h s ⟨l.val, hl⟩).symm
  unfold vv
  refine (congrArg _ (pay14_low ⟨l.val, hl⟩)).trans ((add_zero _).trans ?_)
  exact hk_low X0 X1 X4 X5 X8 X9 64 _ b s h ⟨l.val, hl⟩ _ (by simp)

/-- The inputs of the convolution agree. -/
theorem u_eq (b : Fin 4) (s : Fin 8192) (j : Fin 512) :
    uv X0 X1 X4 X5 b s j = InRef.uRes (InRef.zAll X0 X1 X4 X5) (ix2 (flat b s) j) := by
  refine Eq.trans ?_ (InRef.uRes_apply _ b s j).symm
  unfold uv
  rw [zk_high X0 X1 X4 X5 b s _ ⟨672 + j.val, by omega⟩ ⟨j.val, by omega⟩ rfl rfl,
    zk_high X0 X1 X4 X5 b s _ ⟨1184 + j.val, by omega⟩ ⟨512 + j.val, by omega⟩ (by dsimp only; omega) (by dsimp only; omega)]

/-- The gates agree. -/
theorem g_eq (b : Fin 4) (s : Fin 8192) (j : Fin 2048) :
    gv X0 X1 X4 X5 b s j = InRef.gRes (InRef.zAll X0 X1 X4 X5) (ix2 (flat b s) j) := by
  refine Eq.trans ?_ (InRef.gRes_apply _ b s j).symm
  unfold gv
  rw [zk_high X0 X1 X4 X5 b s _ ⟨1696 + j.val, by omega⟩ ⟨1024 + j.val, by omega⟩ (by dsimp only; omega) (by dsimp only; omega)]

end Cert.InLanes

end
-- ==== Proof.InPair.lean ====
/- The input projection's kernel and its reference, set beside each other: runs whose arguments agree leave the same
   results on the claimed lanes. -/
module

public import proofs.«01_k».proof.Proof.InValue
public import proofs.«01_k».proof.Proof.InLanes

@[expose] public section

set_option maxRecDepth 16384

noncomputable section

namespace Cert.InPair

open Idealize.ShloMosaic Idealize.ShloMosaic.TcCoe Idealize.SL.Sem
open Cert.InIdeal Cert.InIdeal.Gen Cert.InHost Cert.InSpec

variable (m : (ℓ : Loc nD τ sig) → Buf (Elt Ideal) ℓ)
  (m' : (ℓ : Loc Cert.InRefIdeal.nD Cert.InRefIdeal.τ Cert.InRefIdeal.sig) → Buf (Elt Ideal) ℓ)

/-- The two runs start with the same arguments on the device `c`. -/
structure Same (c : Dev nD) : Prop where
  /-- Argument 0. -/
  a0 : m' (c, Cert.InRefIdeal.main_arg0) = m (c, main_arg0)
  /-- Argument 1. -/
  a1 : m' (c, Cert.InRefIdeal.main_arg1) = m (c, main_arg1)
  /-- Argument 2. -/
  a2 : m' (c, Cert.InRefIdeal.main_arg2) = m (c, main_arg2)
  /-- Argument 3. -/
  a3 : m' (c, Cert.InRefIdeal.main_arg3) = m (c, main_arg3)
  /-- Argument 4. -/
  a4 : m' (c, Cert.InRefIdeal.main_arg4) = m (c, main_arg4)
  /-- Argument 5. -/
  a5 : m' (c, Cert.InRefIdeal.main_arg5) = m (c, main_arg5)
  /-- Argument 6. -/
  a6 : m' (c, Cert.InRefIdeal.main_arg6) = m (c, main_arg6)
  /-- Argument 7. -/
  a7 : m' (c, Cert.InRefIdeal.main_arg7) = m (c, main_arg7)
  /-- Argument 8. -/
  a8 : m' (c, Cert.InRefIdeal.main_arg8) = m (c, main_arg8)
  /-- Argument 9. -/
  a9 : m' (c, Cert.InRefIdeal.main_arg9) = m (c, main_arg9)

/-- The queries. -/
theorem pair0 (c : Dev nD) (h : Same m m' c) (i : S4x8x8192x128.Idx) (hl : (i 3).val < 96) :
    Cert.InRefIdeal.Value.res_out0 m' c i = (dats m 0 c).arrAt 12 cfg0.N i := by
  obtain ⟨a0, a1, a2, a3, a4, a5, a6, a7, a8, a9⟩ := h
  obtain ⟨b, h, s, l, rfl⟩ : ∃ (b : Fin 4) (h : Fin 8) (s : Fin 8192) (l : Fin 128), i = ix4 b h s l :=
    ⟨i 0, i 1, i 2, i 3, eq_ix4 i⟩
  refine Eq.trans ?_ (congrFun (InValue.arr12 m c (fun i => qv _ _ _ _ _ _ _ _ (i 0) (i 1) (i 2) (i 3))
    fun _ _ _ _ => rfl) _).symm
  rw [← a0, ← a1, ← a2, ← a3, ← a4, ← a5, ← a6, ← a7]
  exact (congrFun (InRef.res0_eq m' c) _).trans (InLanes.q_eq _ _ _ _ _ _ _ _ b h s l hl).symm

/-- The keys. -/
theorem pair1 (c : Dev nD) (h : Same m m' c) (i : S4x8x8192x128.Idx) (hl : (i 3).val < 96) :
    Cert.InRefIdeal.Value.res_out1 m' c i = (dats m 0 c).arrAt 13 cfg0.N i := by
  obtain ⟨a0, a1, a2, a3, a4, a5, a6, a7, a8, a9⟩ := h
  obtain ⟨b, h, s, l, rfl⟩ : ∃ (b : Fin 4) (h : Fin 8) (s : Fin 8192) (l : Fin 128), i = ix4 b h s l :=
    ⟨i 0, i 1, i 2, i 3, eq_ix4 i⟩
  refine Eq.trans ?_ (congrFun (InValue.arr13 m c (fun i => kv _ _ _ _ _ _ _ _ (i 0) (i 1) (i 2) (i 3))
    fun _ _ _ _ => rfl) _).symm
  rw [← a0, ← a1, ← a2, ← a3, ← a4, ← a5, ← a8, ← a9]
  exact (congrFun (InRef.res1_eq m' c) _).trans (InLanes.k_eq _ _ _ _ _ _ _ _ b h s l hl).symm

/-- The values. -/
theorem pair2 (c : Dev nD) (h : Same m m' c) (i : S4x8x8192x128.Idx) (hl : (i 3).val < 64) :
    Cert.InRefIdeal.Value.res_out2 m' c i = (dats m 0 c).arrAt 14 cfg0.N i := by
  obtain ⟨a0, a1, a2, a3, a4, a5, a6, a7, a8, a9⟩ := h
  obtain ⟨b, h, s, l, rfl⟩ : ∃ (b : Fin 4) (h : Fin 8) (s : Fin 8192) (l : Fin 128), i = ix4 b h s l :=
    ⟨i 0, i 1, i 2, i 3, eq_ix4 i⟩
  refine Eq.trans ?_ (congrFun (InValue.arr14 m c (fun i => vv _ _ _ _ _ _ (i 0) (i 1) (i 2) (i 3))
    fun _ _ _ _ => rfl) _).symm
  rw [← a0, ← a1, ← a4, ← a5, ← a8, ← a9]
  exact (congrFun (InRef.res2_eq m' c) _).trans (InLanes.v_eq _ _ _ _ _ _ b h s l hl).symm

/-- The inputs of the convolution. -/
theorem pair3 (c : Dev nD) (h : Same m m' c) : InRef.uRes (InRef.zOf m' c) = (dats m 0 c).arrAt 15 cfg0.N := by
  refine (InValue.arr15 m c (InRef.uRes (InRef.zOf m' c)) fun b s j => ?_).symm
  rw [← h.a0, ← h.a1, ← h.a4, ← h.a5]
  exact (InLanes.u_eq _ _ _ _ b s j).symm

/-- The gates. -/
theorem pair4 (c : Dev nD) (h : Same m m' c) : InRef.gRes (InRef.zOf m' c) = (dats m 0 c).arrAt 16 cfg0.N := by
  refine (InValue.arr16 m c (InRef.gRes (InRef.zOf m' c)) fun b s j => ?_).symm
  rw [← h.a0, ← h.a1, ← h.a4, ← h.a5]
  exact (InLanes.g_eq _ _ _ _ b s j).symm

end Cert.InPair

end
-- ==== Proof.InMask.lean ====
/- The lanes of the input projection's results that are claimed. -/
module

public import proofs.«01_k».proof.Proof.Gen.On_used_lanes
public import Idealize.ShloMosaic.Lib.IdealHost

@[expose] public section

set_option maxRecDepth 16384

noncomputable section

namespace Cert.InMask

open Idealize.ShloMosaic
open Cert.On_used_lanes

variable (X0 : FVec Ideal S4x8192x1024 .f32) (X1 : FVec Ideal S4x6144 .f32) (X2 X3 : FVec Ideal S4x8192x16 .f32)
  (X4 : FVec Ideal S1024 .f32) (X5 : FVec Ideal S1024x3744 .f32) (X6 : FVec Ideal S384 .f32)
  (X7 : FVec Ideal S384x768 .f32) (X8 : FVec Ideal S256 .f32) (X9 : FVec Ideal S256x1024 .f32)

/-- A lane that compares below 96 is below 96. -/
theorem below96 : ∀ l : Fin 128, IntOp.cmpi .slt (BitVec.ofNat 32 l.val) 96#32 = 1#1 → l.val < 96 := by decide

/-- A lane that compares below 64 is below 64. -/
theorem below64 : ∀ l : Fin 128, IntOp.cmpi .slt (BitVec.ofNat 32 l.val) 64#32 = 1#1 → l.val < 64 := by decide

/-- The queries' claimed lanes. -/
theorem mask0 [Facts] (i : S4x8x8192x128.Idx) (h : (fn (F := Ideal) X0 X1 X2 X3 X4 X5 X6 X7 X8 X9).1 i = 1#1) :
    (i 3).val < 96 :=
  below96 (i 3) h

/-- The keys' claimed lanes. -/
theorem mask1 [Facts] (i : S4x8x8192x128.Idx) (h : (fn (F := Ideal) X0 X1 X2 X3 X4 X5 X6 X7 X8 X9).2.1 i = 1#1) :
    (i 3).val < 96 :=
  below96 (i 3) h

/-- The values' claimed lanes. -/
theorem mask2 [Facts] (i : S4x8x8192x128.Idx) (h : (fn (F := Ideal) X0 X1 X2 X3 X4 X5 X6 X7 X8 X9).2.2.1 i = 1#1) :
    (i 3).val < 64 :=
  below64 (i 3) h

end Cert.InMask

end
-- ==== Proof.MixTile.lean ====
/- What one point of the merge's kernel computes, at one element: the convolution as a chain of 31 products, its norm over
   the channels and gate, the two products, the gated sum, and the norm before the experts. -/
module

public import proofs.«01_k».proof.Proof.Gen.MixIdeal.Skeleton
public import proofs.«01_k».proof.Proof.InTile
public import Idealize.ShloMosaic.Lib.Pipeline.ValueKit

@[expose] public section

set_option maxRecDepth 16384

noncomputable section

namespace Cert.MixTile

open Idealize.ShloMosaic Idealize.SL.Sem
open Cert.MixIdeal Cert.MixIdeal.Gen
open Cert.InTile (rms hrow)

/-- The terms of `f` added one after another, starting from `a`. -/
def chain : (n : ℕ) → (Fin n → EReal) → EReal → EReal
  | 0, _, a => a
  | n + 1, f, a => chain n (fun i => f i.castSucc) a + f (Fin.last n)

/-- The chain is its start plus the sum of its terms. -/
theorem chain_eq : ∀ (n : ℕ) (f : Fin n → EReal) (a : EReal), chain n f a = a + ∑ i : Fin n, f i
  | 0, f, a => by simp [chain]
  | n + 1, f, a => by rw [chain, chain_eq n, Fin.sum_univ_castSucc, add_assoc]

/-- The mean of a row of 512 numbers. -/
def mean (row : Fin 512 → EReal) : EReal := Ideal.div (∑ k : Fin 512, row k) (Ideal.ofBits .f32 0x44000000#32)

/-- The norm of a row of 512 numbers about its mean at place `j`, with weight `g` and shift `b`. -/
def lnorm (row : Fin 512 → EReal) (g b : EReal) (j : Fin 512) : EReal :=
  (row j - mean row) * Ideal.rsqrt (Ideal.div (∑ k : Fin 512, (row k - mean row) * (row k - mean row))
    (Ideal.ofBits .f32 0x44000000#32) + Ideal.ofBits .f32 0x358637BD#32) * g + b

/-- A number times its own gate. -/
def silu (x : EReal) : EReal := x * Ideal.logistic x

/-- The merged row at channel `d`: `x` plus `gt` times the product of the gated sum of the two products. -/
def merged (x gt : EReal) (a y : Fin 512 → EReal) (ga gc : Fin 1024 → EReal) (wa wc : Fin 512 → Fin 1024 → EReal)
    (wo : Fin 1024 → EReal) : EReal :=
  x + gt * ∑ k : Fin 1024, (ga k * (∑ j : Fin 512, a j * wa j k) + gc k * (∑ j : Fin 512, silu (y j) * wc j k)) * wo k

/-- A row of weights laid over all rows. -/
theorem pay5_apply (w : Vec Ideal S1x512 .f32) (r j : Fin 512) : k0_pay5 w (ix2 r j) = w (ix2 0 j) := by
  pointwise [k0_pay5]

/-- The start of the convolution's chain. -/
theorem pay4_apply (w : Vec Ideal S1x512 .f32) (r j : Fin 512) : k0_pay4 w (ix2 r j) = w (ix2 0 j) := by
  pointwise [k0_pay4]

/-- Six products added to what came before. -/
theorem pay6_apply (z b0 : Vec Ideal S512x512 .f32) (w0 : FVec Ideal S512x512 .f32) (b1 : Vec Ideal S512x512 .f32)
    (w1 : Vec Ideal S1x512 .f32) (b2 : Vec Ideal S512x512 .f32) (w2 : Vec Ideal S1x512 .f32)
    (b3 : Vec Ideal S512x512 .f32) (w3 : Vec Ideal S1x512 .f32) (b4 : Vec Ideal S512x512 .f32)
    (w4 : Vec Ideal S1x512 .f32) (b5 : Vec Ideal S512x512 .f32) (w5 : Vec Ideal S1x512 .f32) (r j : Fin 512) :
    k0_pay6 z b0 w0 b1 w1 b2 w2 b3 w3 b4 w4 b5 w5 (ix2 r j)
      = z (ix2 r j) + b0 (ix2 r j) * w0 (ix2 r j) + b1 (ix2 r j) * w1 (ix2 0 j) + b2 (ix2 r j) * w2 (ix2 0 j)
        + b3 (ix2 r j) * w3 (ix2 0 j) + b4 (ix2 r j) * w4 (ix2 0 j) + b5 (ix2 r j) * w5 (ix2 0 j) := by
  pointwise [k0_pay6]

/-- The convolution before its last product, from the 31 shifted blocks `B` and rows of weights `W`. -/
def taps (bias : Vec Ideal S1x512 .f32) (B : Fin 31 → Vec Ideal S512x512 .f32) (W : Fin 31 → Vec Ideal S1x512 .f32) :
    FVec Ideal S512x512 .f32 :=
  k0_pay14 (k0_pay12 (k0_pay10 (k0_pay8 (k0_pay6 (k0_pay4 bias)
    (B 0) (k0_pay5 (W 0)) (B 1) (W 1) (B 2) (W 2) (B 3) (W 3) (B 4) (W 4) (B 5) (W 5))
    (B 6) (k0_pay7 (W 6)) (B 7) (W 7) (B 8) (W 8) (B 9) (W 9) (B 10) (W 10) (B 11) (W 11))
    (B 12) (k0_pay9 (W 12)) (B 13) (W 13) (B 14) (W 14) (B 15) (W 15) (B 16) (W 16) (B 17) (W 17))
    (B 18) (k0_pay11 (W 18)) (B 19) (W 19) (B 20) (W 20) (B 21) (W 21) (B 22) (W 22) (B 23) (W 23))
    (B 24) (k0_pay13 (W 24)) (B 25) (W 25) (B 26) (W 26) (B 27) (W 27) (B 28) (W 28) (B 29) (W 29)

/-- The whole convolution at one element is the chain of its 31 products. -/
theorem taps_apply (bias : Vec Ideal S1x512 .f32) (B : Fin 31 → Vec Ideal S512x512 .f32)
    (W : Fin 31 → Vec Ideal S1x512 .f32) (r j : Fin 512) :
    taps bias B W (ix2 r j) + B 30 (ix2 r j) * k0_pay15 (W 30) (ix2 r j)
      = chain 31 (fun i => B i (ix2 r j) * W i (ix2 0 j)) (bias (ix2 0 j)) := by
  have e : ∀ i : Fin 31, k0_pay5 (W i) (ix2 r j) = W i (ix2 0 j) := fun i => pay5_apply _ r j
  have h : taps bias B W (ix2 r j)
      = chain 30 (fun i => B i.castSucc (ix2 r j) * W i.castSucc (ix2 0 j)) (bias (ix2 0 j)) := by
    refine (pay6_apply _ _ _ _ _ _ _ _ _ _ _ _ _ r j).trans ?_
    rw [show k0_pay12 _ _ _ _ _ _ _ _ _ _ _ _ _ (ix2 r j) = _ from pay6_apply _ _ _ _ _ _ _ _ _ _ _ _ _ r j]
    rw [show k0_pay10 _ _ _ _ _ _ _ _ _ _ _ _ _ (ix2 r j) = _ from pay6_apply _ _ _ _ _ _ _ _ _ _ _ _ _ r j]
    rw [show k0_pay8 _ _ _ _ _ _ _ _ _ _ _ _ _ (ix2 r j) = _ from pay6_apply _ _ _ _ _ _ _ _ _ _ _ _ _ r j]
    rw [pay6_apply, pay4_apply, pay5_apply]
    rw [show k0_pay7 (W 6) (ix2 r j) = _ from e 6, show k0_pay9 (W 12) (ix2 r j) = _ from e 12,
      show k0_pay11 (W 18) (ix2 r j) = _ from e 18, show k0_pay13 (W 24) (ix2 r j) = _ from e 24]
    rfl
  rw [h, show k0_pay15 (W 30) (ix2 r j) = _ from e 30]
  rfl

/-- The convolution's output after norm, gate and product. -/
theorem pay16_apply (z b w : FVec Ideal S512x512 .f32) (g s : Vec Ideal S1x512 .f32) (v : Vec Ideal S512x1024 .bf16)
    (r : Fin 512) (k : Fin 1024) :
    k0_pay16 z b w g s v (ix2 r k)
      = ∑ j : Fin 512, silu (lnorm (fun j => z (ix2 r j) + b (ix2 r j) * w (ix2 r j)) (g (ix2 0 j)) (s (ix2 0 j)) j)
          * v (ix2 j k) := by
  pointwise [k0_pay16, silu, lnorm, mean]

/-- The attention's product. -/
theorem pay17_apply (a : Vec Ideal S512x512 .bf16) (w : Vec Ideal S512x1024 .bf16) (r : Fin 512) (k : Fin 1024) :
    k0_pay17 a w (ix2 r k) = ∑ j : Fin 512, a (ix2 r j) * w (ix2 j k) := by
  pointwise [k0_pay17]

/-- The gated sum's product, scaled and added to the input. -/
theorem pay19_apply (yc ya : FVec Ideal S512x1024 .f32) (ga gc : Vec Ideal S512x1024 .bf16)
    (wo : Vec Ideal S1024x1024 .bf16) (gt : Vec Ideal S1x1x1024 .f32) (x : Vec Ideal S512x1024 .f32)
    (r : Fin 512) (d : Fin 1024) :
    k0_pay19 yc ya (k0_pay18 ga) gc wo gt x (ix2 r d)
      = x (ix2 r d) + gt (ix3 0 0 d) * ∑ k : Fin 1024,
          (ga (ix2 r k) * ya (ix2 r k) + gc (ix2 r k) * yc (ix2 r k)) * wo (ix2 k d) := by
  pointwise [k0_pay19, k0_pay18]

/-- The merged row after its norm and modulation. -/
theorem pay23_apply (yc ya g0 : FVec Ideal S512x1024 .f32) (gc : Vec Ideal S512x1024 .bf16)
    (wo : Vec Ideal S1024x1024 .bf16) (gt : Vec Ideal S1x1x1024 .f32) (x : Vec Ideal S512x1024 .f32)
    (g : Vec Ideal S1x1024 .f32) (sh sc : Vec Ideal S1x1x1024 .f32) (r : Fin 512) (d : Fin 1024) :
    k0_pay23 (k0_pay20 sh) (k0_pay21 sc) (k0_pay22 yc ya g0 gc wo gt x g) (Scalar.ofBits .f32 0x3F800000#32) (ix2 r d)
      = hrow (fun d => k0_pay19 yc ya g0 gc wo gt x (ix2 r d)) (fun d => g (ix2 0 d)) (fun d => sc (ix3 0 0 d))
          (fun d => sh (ix3 0 0 d)) d := by
  unfold k0_pay22
  generalize k0_pay19 yc ya g0 gc wo gt x = z
  pointwise [k0_pay23, k0_pay20, k0_pay21, hrow, rms]

end Cert.MixTile

end
-- ==== Proof.MixBlocks.lean ====
/- The blocks that the merge's kernel reads at a grid point, as entries of the arguments. -/
module

public import proofs.«01_k».proof.Proof.Gen.MixIdeal.Value
public import proofs.«01_k».proof.Proof.MixTile
public import Idealize.ShloMosaic.Lib.Pipeline.ValueKit
public import Idealize.ShloMosaic.Lib.Claim
public import Idealize.ShloMosaic.Lib.KernelVsHost

@[expose] public section

set_option maxRecDepth 16384

noncomputable section

namespace Cert.MixBlocks

open Idealize.ShloMosaic Idealize.ShloMosaic.TcCoe Idealize.SL.Sem
open Idealize.ShloMosaic.Pipeline (Dat)
open Cert.MixIdeal Cert.MixIdeal.Gen

variable (m : (ℓ : Loc nD τ sig) → Buf (Elt Ideal) ℓ)

/-- The blocks of the grid's point `t`. -/
theorem idx_val : ∀ t : Fin cfg0.N,
    win0_0.index t = ![t.val, 0] ∧ win0_1.index t = ![t.val, 0] ∧ win0_2.index t = ![t.val * 16 - 1, 0] ∧
    win0_3.index t = ![t.val, 0] ∧ win0_4.index t = ![t.val, 0] ∧ win0_5.index t = ![t.val / 16, 0, 0] ∧
    win0_6.index t = ![0, 0] ∧ win0_7.index t = ![0, 0] ∧ win0_8.index t = ![0, 0] ∧ win0_9.index t = ![0, 0] ∧
    win0_10.index t = ![0, 0] ∧ win0_11.index t = ![0, 0] ∧ win0_12.index t = ![0, 0] ∧ win0_13.index t = ![0, 0] ∧
    win0_16.index t = ![t.val, 0] ∧ win0_17.index t = ![t.val, 0] :=
  (by decide +kernel : ∀ t : Fin grid0.N, _)

/-- The batch entry of point `t`. -/
abbrev bat (t : Fin cfg0.N) : Fin 4 :=
  ⟨t.val / 16, by have := lt_of_lt_of_eq t.isLt (show cfg0.N = 64 from N_0); omega⟩

/-- The position of row `r` of point `t`. -/
abbrev pos (t : Fin cfg0.N) (r : Fin 512) : Fin 8192 := ⟨t.val % 16 * 512 + r.val, by omega⟩

/-- Row `s` of batch entry `b` among all rows. -/
abbrev flat (b : Fin 4) (s : Fin 8192) : Fin 32768 := ⟨b.val * 8192 + s.val, by omega⟩

/-- Row `r` of point `t` among all rows. -/
theorem flat_val (t : Fin cfg0.N) (r : Fin 512) : (flat (bat t) (pos t r)).val = t.val * 512 + r.val := by
  show t.val / 16 * 8192 + (t.val % 16 * 512 + r.val) = _
  omega

/-- Rows of 512 channels at one element. -/
theorem rows512 (x : FVec Ideal S4x8192x512 .f32) (b : Fin 4) (s : Fin 8192) (k : Fin 512) :
    truncf .bf16 (shapeCast S32768x512 x shapeCasts_S4x8192x512_S32768x512) bitsLt_bf16_f32 (ix2 (flat b s) k)
      = x (ix3 b s k) := by
  pointwise [flat]

/-- Rows of 2048 channels at one element. -/
theorem rows2048 (x : FVec Ideal S4x8192x2048 .f32) (b : Fin 4) (s : Fin 8192) (k : Fin 2048) :
    truncf .bf16 (shapeCast S32768x2048 x shapeCasts_S4x8192x2048_S32768x2048) bitsLt_bf16_f32 (ix2 (flat b s) k)
      = x (ix3 b s k) := by
  pointwise [flat]

/-- Rows of 1024 channels at one element. -/
theorem rows1024 (x : FVec Ideal S4x8192x1024 .f32) (b : Fin 4) (s : Fin 8192) (k : Fin 1024) :
    shapeCast S32768x1024 x shapeCasts_S4x8192x1024_S32768x1024 (ix2 (flat b s) k) = x (ix3 b s k) := by
  pointwise [flat]

/-- The modulation vectors at one element. -/
theorem ada_apply (x : FVec Ideal S4x6144 .f32) (b : Fin 4) (i : Fin 6) (k : Fin 1024) :
    shapeCast S4x6x1024 x shapeCasts_S4x6144_S4x6x1024 (ix3 b i k) = x (ix2 b ⟨i.val * 1024 + k.val, by omega⟩) := by
  pointwise

/-- A row of 512 weights at one element. -/
theorem row512 (x : FVec Ideal S512 .f32) (k : Fin 512) :
    shapeCast S1x512 x shapeCasts_S512_S1x512 (ix2 0 k) = x (ix1 k) := by
  pointwise

/-- A row of 1024 weights at one element. -/
theorem row1024 (x : FVec Ideal S1024 .f32) (k : Fin 1024) :
    shapeCast S1x1024 x shapeCasts_S1024_S1x1024 (ix2 0 k) = x (ix1 k) := by
  pointwise

/-- The padded taps at one of the 31 taps. -/
theorem tap_apply (x : FVec Ideal S31x512 .f32) (i : Fin 31) (k : Fin 512) :
    pad S32x512 ![0, 0] ![1, 0] ![0, 0] x (sitofp .f32 (constantI S_ 32 0#32) : FVec Ideal S_ .f32)
      pads_S31x512_S32x512_010_000 h_S_ (ix2 ⟨i.val, by omega⟩ k) = x (ix2 i k) := by
  pointwise

/-- The block of the attention's rows. -/
theorem blk0 (c : Dev nD) (t : Fin cfg0.N) (r k : Fin 512) :
    iblk m c 0 t (ix2 r k) = m (c, main_arg0) (ix3 (bat t) (pos t r) k) := by
  have hv := flat_val t r
  have h : iblk m c 0 t (ix2 r k) = V m c main_v8 (ix2 (flat (bat t) (pos t r)) k) := by
    blk_point [iblk, V, idx_val t]
  exact h.trans (rows512 (m (c, main_arg0)) _ _ k)

/-- The block of the convolution's inputs. -/
theorem blk1 (c : Dev nD) (t : Fin cfg0.N) (r k : Fin 512) :
    iblk m c 1 t (ix2 r k) = m (c, main_arg1) (ix3 (bat t) (pos t r) k) := by
  have hv := flat_val t r
  have h : iblk m c 1 t (ix2 r k) = V m c main_v10 (ix2 (flat (bat t) (pos t r)) k) := by
    blk_point [iblk, V, idx_val t]
  exact h.trans (rows512 (m (c, main_arg1)) _ _ k)

/-- The 32 rows before the block of the convolution's inputs. -/
theorem blk2 (c : Dev nD) (t : Fin cfg0.N) (h0 : t.val % 16 ≠ 0) (n : Fin 32) (k : Fin 512) :
    iblk m c 2 t (ix2 n k)
      = m (c, main_arg1) (ix3 (bat t) ⟨t.val % 16 * 512 + n.val - 32, by omega⟩ k) := by
  have hv : (flat (bat t) ⟨t.val % 16 * 512 + n.val - 32, by omega⟩).val = (t.val * 16 - 1) * 32 + n.val := by
    show t.val / 16 * 8192 + (t.val % 16 * 512 + n.val - 32) = _
    omega
  have h : iblk m c 2 t (ix2 n k)
      = V m c main_v10 (ix2 (flat (bat t) ⟨t.val % 16 * 512 + n.val - 32, by omega⟩) k) := by
    blk_point [iblk, V, idx_val t]
  exact h.trans (rows512 (m (c, main_arg1)) _ _ k)

/-- The block of the gates. -/
theorem blk3 (c : Dev nD) (t : Fin cfg0.N) (r : Fin 512) (k : Fin 2048) :
    iblk m c 3 t (ix2 r k) = m (c, main_arg2) (ix3 (bat t) (pos t r) k) := by
  have hv := flat_val t r
  have h : iblk m c 3 t (ix2 r k) = V m c main_v12 (ix2 (flat (bat t) (pos t r)) k) := by
    blk_point [iblk, V, idx_val t]
  exact h.trans (rows2048 (m (c, main_arg2)) _ _ k)

/-- The block of the layer's input. -/
theorem blk4 (c : Dev nD) (t : Fin cfg0.N) (r : Fin 512) (k : Fin 1024) :
    iblk m c 4 t (ix2 r k) = m (c, main_arg3) (ix3 (bat t) (pos t r) k) := by
  have hv := flat_val t r
  have h : iblk m c 4 t (ix2 r k) = V m c main_v13 (ix2 (flat (bat t) (pos t r)) k) := by
    blk_point [iblk, V, idx_val t]
  exact h.trans (rows1024 (m (c, main_arg3)) _ _ k)

/-- The modulation vectors of the point's batch entry. -/
theorem blk5 (c : Dev nD) (t : Fin cfg0.N) (i : Fin 6) (k : Fin 1024) :
    iblk m c 5 t (ix3 0 i k) = m (c, main_arg4) (ix2 (bat t) ⟨i.val * 1024 + k.val, by omega⟩) := by
  have h : iblk m c 5 t (ix3 0 i k) = V m c main_v14 (ix3 (bat t) i k) := by
    blk_point [iblk, V, idx_val t]
  exact h.trans (ada_apply (m (c, main_arg4)) _ i k)

/-- The block of the attention's weights. -/
theorem blk6 (c : Dev nD) (t : Fin cfg0.N) (j : Fin 512) (k : Fin 1024) :
    iblk m c 6 t (ix2 j k) = m (c, main_arg5) (ix2 j k) := by
  have h : iblk m c 6 t (ix2 j k) = V m c main_v15 (ix2 j k) := by
    blk_point [iblk, V, idx_val t]
  exact h

/-- The block of the convolution's taps. -/
theorem blk7 (c : Dev nD) (t : Fin cfg0.N) (i : Fin 31) (k : Fin 512) :
    iblk m c 7 t (ix2 ⟨i.val, by omega⟩ k) = m (c, main_arg6) (ix2 i k) := by
  have h : iblk m c 7 t (ix2 ⟨i.val, by omega⟩ k) = V m c main_v6 (ix2 ⟨i.val, by omega⟩ k) := by
    blk_point [iblk, V, idx_val t]
  exact h.trans (tap_apply (m (c, main_arg6)) i k)

/-- The block of the convolution's shift. -/
theorem blk8 (c : Dev nD) (t : Fin cfg0.N) (k : Fin 512) : iblk m c 8 t (ix2 0 k) = m (c, main_arg7) (ix1 k) := by
  have h : iblk m c 8 t (ix2 0 k) = V m c main_v16 (ix2 0 k) := by
    blk_point [iblk, V, idx_val t]
  exact h.trans (row512 (m (c, main_arg7)) k)

/-- The block of the convolution's norm's weights. -/
theorem blk9 (c : Dev nD) (t : Fin cfg0.N) (k : Fin 512) : iblk m c 9 t (ix2 0 k) = m (c, main_arg8) (ix1 k) := by
  have h : iblk m c 9 t (ix2 0 k) = V m c main_v17 (ix2 0 k) := by
    blk_point [iblk, V, idx_val t]
  exact h.trans (row512 (m (c, main_arg8)) k)

/-- The block of the convolution's norm's shift. -/
theorem blk10 (c : Dev nD) (t : Fin cfg0.N) (k : Fin 512) : iblk m c 10 t (ix2 0 k) = m (c, main_arg9) (ix1 k) := by
  have h : iblk m c 10 t (ix2 0 k) = V m c main_v18 (ix2 0 k) := by
    blk_point [iblk, V, idx_val t]
  exact h.trans (row512 (m (c, main_arg9)) k)

/-- The block of the convolution's weights. -/
theorem blk11 (c : Dev nD) (t : Fin cfg0.N) (j : Fin 512) (k : Fin 1024) :
    iblk m c 11 t (ix2 j k) = m (c, main_arg10) (ix2 j k) := by
  have h : iblk m c 11 t (ix2 j k) = V m c main_v19 (ix2 j k) := by
    blk_point [iblk, V, idx_val t]
  exact h

/-- The block of the last weights. -/
theorem blk12 (c : Dev nD) (t : Fin cfg0.N) (j k : Fin 1024) :
    iblk m c 12 t (ix2 j k) = m (c, main_arg11) (ix2 j k) := by
  have h : iblk m c 12 t (ix2 j k) = V m c main_v20 (ix2 j k) := by
    blk_point [iblk, V, idx_val t]
  exact h

/-- The block of the second norm's weights. -/
theorem blk13 (c : Dev nD) (t : Fin cfg0.N) (k : Fin 1024) : iblk m c 13 t (ix2 0 k) = m (c, main_arg12) (ix1 k) := by
  have h : iblk m c 13 t (ix2 0 k) = V m c main_v21 (ix2 0 k) := by
    blk_point [iblk, V, idx_val t]
  exact h.trans (row1024 (m (c, main_arg12)) k)

end Cert.MixBlocks

end
-- ==== Proof.MixPoint.lean ====
/- What a grid point of the merge's kernel writes, at one element, from the arguments. The scratch buffer holds the 32 rows
   before the point's block (zero at the start of a batch entry) and then the block itself; the 31 shifted blocks that the
   convolution multiplies are read out of it. -/
module

public import proofs.«01_k».proof.Proof.MixBlocks
public import Idealize.ShloMosaic.Lib.Pipeline.ReadBack

@[expose] public section

set_option maxRecDepth 16384

noncomputable section

namespace Cert.MixPoint

open Idealize.ShloMosaic Idealize.ShloMosaic.TcCoe Idealize.SL.Sem
open Cert.MixIdeal Cert.MixIdeal.Gen Cert.MixTile Cert.MixBlocks
open Cert.InTile (rms hrow)

variable (m : (ℓ : Loc nD τ sig) → Buf (Elt Ideal) ℓ)

/-- The convolution's input 30 positions before `p`, zero before the first position. -/
def past (u : FVec Ideal S4x8192x512 .f32) (b : Fin 4) (p : ℕ) (j : Fin 512) : EReal :=
  if h : 30 ≤ p ∧ p < 8222 then u (ix3 b ⟨p - 30, by omega⟩ j) else 0

/-- Whether a point is the first of its batch entry, as the kernel works it out. -/
def first (a : BitVec 32) : BitVec 1 :=
  let v1 : BitVec 32 := Scalar.select (Scalar.cmpi .eq 16#32 0#32) 1#32 16#32
  let v2 : BitVec 32 := Scalar.remsi a v1
  let v3 : BitVec 1 := Scalar.cmpi .ne v2 0#32
  let v6 : BitVec 1 := Scalar.xori (Scalar.cmpi .slt v2 0#32) (Scalar.cmpi .slt v1 0#32)
  Scalar.cmpi .eq (Scalar.select (Scalar.andi v6 v3) (Scalar.addi v2 v1) v2) 0#32

/-- It is the first where 16 divides its number. -/
theorem first_val : ∀ t : Fin cfg0.N,
    first (BitVec.ofNat 32 (grid0.coords t 0).val) = if t.val % 16 = 0 then 1#1 else 0#1 :=
  (by decide +kernel : ∀ t : Fin grid0.N, _)

/-- The rows before the block, as the kernel stores them: zero at the first point of a batch entry. -/
theorem pay2_first (t : Fin cfg0.N) (v : Vec Ideal S32x512 .bf16) (h : t.val % 16 = 0) (n : Fin 32) (j : Fin 512) :
    k0_pay2 (grid0.coords t) v (ix2 n j) = 0 := by
  have e : k0_pay2 (grid0.coords t) v = shapeCast S32x512 (Scalar.select (first (BitVec.ofNat 32 (grid0.coords t 0).val))
      (broadcast S32x512 (Scalar.ofBits .f32 0x00000000#32 : Ideal .f32))
      (extf .f32 (shapeCast S32x512 v shapeCasts_S32x512_S32x512) bitsLt_bf16_f32)) shapeCasts_S32x512_S32x512 := rfl
  rw [e, first_val t, if_pos h]
  pointwise [Scalar.select]
  rw [if_pos (by decide)]
  rfl

/-- Elsewhere they are the rows themselves. -/
theorem pay2_rest (t : Fin cfg0.N) (v : Vec Ideal S32x512 .bf16) (h : t.val % 16 ≠ 0) (n : Fin 32) (j : Fin 512) :
    k0_pay2 (grid0.coords t) v (ix2 n j) = v (ix2 n j) := by
  have e : k0_pay2 (grid0.coords t) v = shapeCast S32x512 (Scalar.select (first (BitVec.ofNat 32 (grid0.coords t 0).val))
      (broadcast S32x512 (Scalar.ofBits .f32 0x00000000#32 : Ideal .f32))
      (extf .f32 (shapeCast S32x512 v shapeCasts_S32x512_S32x512) bitsLt_bf16_f32)) shapeCasts_S32x512_S32x512 := rfl
  rw [e, first_val t, if_neg h]
  pointwise [Scalar.select]
  rw [if_neg (by decide)]
  rfl

/-- The block's rows, as the kernel stores them. -/
theorem pay3_apply (v : Vec Ideal S512x512 .bf16) (r j : Fin 512) : k0_pay3 v (ix2 r j) = v (ix2 r j) := by
  pointwise [k0_pay3]

/-- What the kernel stores to the scratch buffer, the last store first. -/
def pieces (c : Dev nD) (t : Fin cfg0.N) : List (View.Piece (Elt Ideal) S544x512 .f32) :=
  [⟨Rect.unit ![32, 0] ![512, 512] inb_S544x512_S512x512_32_0, k0_pay3 (iblk m c 1 t)⟩,
   ⟨Rect.unit ![0, 0] ![32, 512] inb_S544x512_S32x512_0_0, k0_pay2 (grid0.coords t) (iblk m c 2 t)⟩]

/-- The buffer's row `n` is the convolution's input `n` rows after the first of the 32 before the block. -/
theorem buffer_apply (c : Dev nD) (t : Fin cfg0.N) (n : Fin 544) (hn : 2 ≤ n.val) (j : Fin 512) :
    View.canon (pieces m c t) (ix2 n j) = past (m (c, main_arg1)) (bat t) (t.val % 16 * 512 + n.val - 2) j := by
  unfold pieces past
  by_cases h : 32 ≤ n.val
  · have e : (ix2 n j : S544x512.Idx)
        = (Rect.unit (s := S544x512) ![32, 0] ![512, 512] inb_S544x512_S512x512_32_0).emb
            (ix2 (⟨n.val - 32, by omega⟩ : Fin 512) j) := by
      funext a
      refine Fin.ext ?_
      fin_cases a
      · show n.val = 32 + 1 * (n.val - 32)
        omega
      · show j.val = 0 + 1 * j.val
        omega
    rw [e, View.canon_cons_emb, pay3_apply, blk1, dif_pos ⟨by omega, by omega⟩]
    exact congrArg (fun p => m (c, main_arg1) (ix3 (bat t) p j)) (Fin.ext (by simp; omega))
  · have e : (ix2 n j : S544x512.Idx)
        = (Rect.unit (s := S544x512) ![0, 0] ![32, 512] inb_S544x512_S32x512_0_0).emb
            (ix2 (⟨n.val, by omega⟩ : Fin 32) j) := by
      funext a
      refine Fin.ext ?_
      fin_cases a
      · show n.val = 0 + 1 * n.val
        omega
      · show j.val = 0 + 1 * j.val
        omega
    rw [View.canon_cons_of_not_mem]
    · rw [e, View.canon_cons_emb]
      by_cases h0 : t.val % 16 = 0
      · rw [pay2_first t _ h0, dif_neg (by omega)]
      · rw [pay2_rest t _ h0, blk2 m c t h0, dif_pos ⟨by omega, by omega⟩]
        exact congrArg (fun p => m (c, main_arg1) (ix3 (bat t) p j)) (Fin.ext (by simp; omega))
    · intro hm
      have := (Rect.mem_set_unit (inb := inb_S544x512_S512x512_32_0).mp hm) 0
      exact h this.1

/-- The block shifted for tap `i`, read out of the buffer. -/
def B (c : Dev nD) (t : Fin cfg0.N) (i : Fin 31) : Vec Ideal S512x512 .f32 :=
  (View.whole cc0_scratch0).readCov (pieces m c t)
    (Rect.unit (s := S544x512) ![i.val + 2, 0] ![512, 512] (by
      intro a; fin_cases a
      · show i.val + 2 + 512 ≤ 544
        omega
      · show 0 + 512 ≤ 512
        omega)).toLoadRect

/-- The weights of tap `i`. -/
def W (c : Dev nD) (t : Fin cfg0.N) (i : Fin 31) : Vec Ideal S1x512 .f32 :=
  View.ld (iblk m c 7 t) (Rect.unit (s := S32x512) ![i.val, 0] ![1, 512] (by
      intro a; fin_cases a
      · show i.val + 1 ≤ 32
        omega
      · show 0 + 512 ≤ 512
        omega))

/-- The shifted block at one element. -/
theorem B_apply (c : Dev nD) (t : Fin cfg0.N) (i : Fin 31) (r j : Fin 512) :
    B m c t i (ix2 r j) = past (m (c, main_arg1)) (bat t) ((pos t r).val + i.val) j := by
  unfold B
  rw [View.readCov_eq_canon']
  refine Eq.trans (congrArg (View.canon (pieces m c t)) ?_)
    ((buffer_apply m c t ⟨i.val + 2 + r.val, by omega⟩ (by show 2 ≤ i.val + 2 + r.val; omega) j).trans ?_)
  · funext a
    refine Fin.ext ?_
    fin_cases a
    · show i.val + 2 + 1 * r.val = i.val + 2 + r.val
      omega
    · show 0 + 1 * j.val = j.val
      omega
  · exact congrArg (fun p => past (m (c, main_arg1)) (bat t) p j) (by simp; omega)

/-- The weights of a tap at one element. -/
theorem W_apply (c : Dev nD) (t : Fin cfg0.N) (i : Fin 31) (j : Fin 512) :
    W m c t i (ix2 0 j) = m (c, main_arg6) (ix2 i j) := by
  refine Eq.trans (congrArg (iblk m c 7 t) ?_) (blk7 m c t i j)
  funext a
  refine Fin.ext ?_
  fin_cases a
  · show i.val + 1 * 0 = i.val
    omega
  · show 0 + 1 * j.val = j.val
    omega

/-- The part of `gates` that weighs the attention. -/
abbrev gateA (c : Dev nD) (t : Fin cfg0.N) : Vec Ideal S512x1024 .bf16 :=
  View.ld (iblk m c 3 t) (Rect.unit (s := S512x2048) ![0, 0] ![512, 1024] inb_S512x2048_S512x1024_0_0)

/-- The part of `gates` that weighs the convolution. -/
abbrev gateC (c : Dev nD) (t : Fin cfg0.N) : Vec Ideal S512x1024 .bf16 :=
  View.ld (iblk m c 3 t) (Rect.unit (s := S512x2048) ![0, 1024] ![512, 1024] inb_S512x2048_S512x1024_0_1024)

/-- The modulation vector `i` of the point's batch entry. -/
abbrev mod (c : Dev nD) (t : Fin cfg0.N) (i : Fin 6) : Vec Ideal S1x1x1024 .f32 :=
  View.ld (iblk m c 5 t) (Rect.unit (s := S1x6x1024) ![0, i.val, 0] ![1, 1, 1024] (by
      intro a; fin_cases a
      · show 0 + 1 ≤ 1
        omega
      · show i.val + 1 ≤ 6
        omega
      · show 0 + 1024 ≤ 1024
        omega))

/-- The convolution's product at the point. -/
abbrev yc (c : Dev nD) (t : Fin cfg0.N) : FVec Ideal S512x1024 .f32 :=
  k0_pay16 (taps (iblk m c 8 t) (B m c t) (W m c t)) (B m c t 30) (k0_pay15 (W m c t 30)) (iblk m c 9 t)
    (iblk m c 10 t) (iblk m c 11 t)

/-- The merged rows that the point writes. -/
theorem out16_eq (c : Dev nD) (t : Fin cfg0.N) : (outsAt0 m c t).1
    = k0_pay19 (yc m c t) (k0_pay17 (iblk m c 0 t) (iblk m c 6 t)) (k0_pay18 (gateA m c t)) (gateC m c t)
        (iblk m c 12 t) (mod m c t 2) (iblk m c 4 t) := by
  simp only [outsAt0]
  frame_out
  rfl

/-- The normed rows that the point writes. -/
theorem out17_eq (c : Dev nD) (t : Fin cfg0.N) : (outsAt0 m c t).2.1
    = k0_pay23 (k0_pay20 (mod m c t 3)) (k0_pay21 (mod m c t 4))
        (k0_pay22 (yc m c t) (k0_pay17 (iblk m c 0 t) (iblk m c 6 t)) (k0_pay18 (gateA m c t)) (gateC m c t)
          (iblk m c 12 t) (mod m c t 2) (iblk m c 4 t) (iblk m c 13 t)) (Scalar.ofBits .f32 0x3F800000#32) := by
  simp only [outsAt0]
  frame_out
  rfl

/-- The convolution at row `r` and channel `j`. -/
def conv (u : FVec Ideal S4x8192x512 .f32) (w : FVec Ideal S31x512 .f32) (bias : FVec Ideal S512 .f32)
    (b : Fin 4) (s : Fin 8192) (j : Fin 512) : EReal :=
  ∑ i : Fin 31, past u b (s.val + i.val) j * w (ix2 i j) + bias (ix1 j)

end Cert.MixPoint

end
-- ==== Proof.MixSpec.lean ====
/- What the merge leaves at every element of its two claimed results, as plain formulas over the arguments. -/
module

public import proofs.«01_k».proof.Proof.MixPoint

@[expose] public section

set_option maxRecDepth 16384

noncomputable section

namespace Cert.MixSpec

open Idealize.ShloMosaic Idealize.ShloMosaic.TcCoe Idealize.SL.Sem
open Cert.MixIdeal Cert.MixIdeal.Gen Cert.MixTile Cert.MixBlocks Cert.MixPoint
open Cert.InTile (rms hrow)

section Formulas

variable (X0 X1 : FVec Ideal S4x8192x512 .f32) (X2 : FVec Ideal S4x8192x2048 .f32) (X3 : FVec Ideal S4x8192x1024 .f32)
  (X4 : FVec Ideal S4x6144 .f32) (X5 : FVec Ideal S512x1024 .f32) (X6 : FVec Ideal S31x512 .f32)
  (X7 X8 X9 : FVec Ideal S512 .f32) (X10 : FVec Ideal S512x1024 .f32) (X11 : FVec Ideal S1024x1024 .f32)
  (X12 : FVec Ideal S1024 .f32)

/-- The attention's product at one element. -/
def attended (b : Fin 4) (s : Fin 8192) (k : Fin 1024) : EReal := ∑ j : Fin 512, X0 (ix3 b s j) * X5 (ix2 j k)

/-- The merged rows at one element. -/
def xv (b : Fin 4) (s : Fin 8192) (d : Fin 1024) : EReal :=
  merged (X3 (ix3 b s d)) (X4 (ix2 b ⟨2048 + d.val, by omega⟩)) (fun j => X0 (ix3 b s j))
    (fun j => lnorm (fun j => conv X1 X6 X7 b s j) (X8 (ix1 j)) (X9 (ix1 j)) j)
    (fun k => X2 (ix3 b s ⟨k.val, by omega⟩)) (fun k => X2 (ix3 b s ⟨1024 + k.val, by omega⟩))
    (fun j k => X5 (ix2 j k)) (fun j k => X10 (ix2 j k)) (fun k => X11 (ix2 k d))

/-- The experts' input at one element. -/
def hv (b : Fin 4) (s : Fin 8192) (d : Fin 1024) : EReal :=
  hrow (fun d => xv X0 X1 X2 X3 X4 X5 X6 X7 X8 X9 X10 X11 b s d) (fun d => X12 (ix1 d))
    (fun d => X4 (ix2 b ⟨4096 + d.val, by omega⟩)) (fun d => X4 (ix2 b ⟨3072 + d.val, by omega⟩)) d

end Formulas

variable (m : (ℓ : Loc nD τ sig) → Buf (Elt Ideal) ℓ)

/-- The merged rows of the run's arguments. -/
abbrev xOf (c : Dev nD) (b : Fin 4) (s : Fin 8192) (d : Fin 1024) : EReal :=
  xv (m (c, main_arg0)) (m (c, main_arg1)) (m (c, main_arg2)) (m (c, main_arg3)) (m (c, main_arg4)) (m (c, main_arg5))
    (m (c, main_arg6)) (m (c, main_arg7)) (m (c, main_arg8)) (m (c, main_arg9)) (m (c, main_arg10)) (m (c, main_arg11)) b s d

/-- The experts' input of the run's arguments. -/
abbrev hOf (c : Dev nD) (b : Fin 4) (s : Fin 8192) (d : Fin 1024) : EReal :=
  hv (m (c, main_arg0)) (m (c, main_arg1)) (m (c, main_arg2)) (m (c, main_arg3)) (m (c, main_arg4)) (m (c, main_arg5))
    (m (c, main_arg6)) (m (c, main_arg7)) (m (c, main_arg8)) (m (c, main_arg9)) (m (c, main_arg10)) (m (c, main_arg11))
    (m (c, main_arg12)) b s d

/-- Equal rows, weights and shifts have equal norms. -/
theorem lnorm_congr {y y' : Fin 512 → EReal} {g g' b b' : EReal} (hy : ∀ j, y j = y' j) (hg : g = g') (hb : b = b')
    (j : Fin 512) : lnorm y g b j = lnorm y' g' b' j := by
  rw [funext hy, hg, hb]

/-- Equal rows, weights and modulations give equal normed and modulated rows. -/
theorem hrow_congr {x x' g g' sc sc' sh sh' : Fin 1024 → EReal} (hx : ∀ k, x k = x' k) (hg : ∀ k, g k = g' k)
    (hc : ∀ k, sc k = sc' k) (hs : ∀ k, sh k = sh' k) (k : Fin 1024) : hrow x g sc sh k = hrow x' g' sc' sh' k := by
  rw [funext hx, funext hg, funext hc, funext hs]

/-- The attention's gates at one element. -/
theorem gateA_apply (c : Dev nD) (t : Fin cfg0.N) (r : Fin 512) (k : Fin 1024) :
    gateA m c t (ix2 r k) = m (c, main_arg2) (ix3 (bat t) (pos t r) ⟨k.val, by omega⟩) := by
  refine Eq.trans (congrArg (iblk m c 3 t) ?_) (blk3 m c t r ⟨k.val, by omega⟩)
  funext a
  refine Fin.ext ?_
  fin_cases a
  · show 0 + 1 * r.val = r.val
    omega
  · show 0 + 1 * k.val = k.val
    omega

/-- The convolution's gates at one element. -/
theorem gateC_apply (c : Dev nD) (t : Fin cfg0.N) (r : Fin 512) (k : Fin 1024) :
    gateC m c t (ix2 r k) = m (c, main_arg2) (ix3 (bat t) (pos t r) ⟨1024 + k.val, by omega⟩) := by
  refine Eq.trans (congrArg (iblk m c 3 t) ?_) (blk3 m c t r ⟨1024 + k.val, by omega⟩)
  funext a
  refine Fin.ext ?_
  fin_cases a
  · show 0 + 1 * r.val = r.val
    omega
  · show 1024 + 1 * k.val = 1024 + k.val
    omega

/-- A modulation vector at one element. -/
theorem mod_apply (c : Dev nD) (t : Fin cfg0.N) (i : Fin 6) (k : Fin 1024) :
    mod m c t i (ix3 0 0 k) = m (c, main_arg4) (ix2 (bat t) ⟨i.val * 1024 + k.val, by omega⟩) := by
  refine Eq.trans (congrArg (iblk m c 5 t) ?_) (blk5 m c t i k)
  funext a
  refine Fin.ext ?_
  fin_cases a
  · rfl
  · show i.val + 1 * 0 = i.val
    omega
  · show 0 + 1 * k.val = k.val
    omega

/-- The convolution at one element. -/
theorem conv_apply (c : Dev nD) (t : Fin cfg0.N) (r j : Fin 512) :
    taps (iblk m c 8 t) (B m c t) (W m c t) (ix2 r j) + B m c t 30 (ix2 r j) * k0_pay15 (W m c t 30) (ix2 r j)
      = conv (m (c, main_arg1)) (m (c, main_arg6)) (m (c, main_arg7)) (bat t) (pos t r) j := by
  refine (taps_apply _ _ _ r j).trans ?_
  rw [chain_eq, add_comm]
  refine congrArg₂ (fun u v : EReal => u + v) (Finset.sum_congr rfl fun i _ => ?_) (blk8 m c t j)
  exact congrArg₂ (fun u v : EReal => u * v) (B_apply m c t i r j) (W_apply m c t i j)

/-- The convolution's product at one element. -/
theorem yc_apply (c : Dev nD) (t : Fin cfg0.N) (r : Fin 512) (k : Fin 1024) :
    yc m c t (ix2 r k) = ∑ j : Fin 512, silu (lnorm (fun j => conv (m (c, main_arg1)) (m (c, main_arg6))
      (m (c, main_arg7)) (bat t) (pos t r) j) (m (c, main_arg8) (ix1 j)) (m (c, main_arg9) (ix1 j)) j)
        * m (c, main_arg10) (ix2 j k) := by
  refine (pay16_apply _ _ _ _ _ _ r k).trans (Finset.sum_congr rfl fun j _ => ?_)
  exact congrArg₂ (fun u v : EReal => u * v) (congrArg silu
    (lnorm_congr (fun j => conv_apply m c t r j) (blk9 m c t j) (blk10 m c t j) j)) (blk11 m c t j k)

/-- The attention's product at one element. -/
theorem ya_apply (c : Dev nD) (t : Fin cfg0.N) (r : Fin 512) (k : Fin 1024) :
    k0_pay17 (iblk m c 0 t) (iblk m c 6 t) (ix2 r k)
      = attended (m (c, main_arg0)) (m (c, main_arg5)) (bat t) (pos t r) k :=
  (pay17_apply _ _ r k).trans (Finset.sum_congr rfl fun j _ =>
    congrArg₂ (fun u v : EReal => u * v) (blk0 m c t r j) (blk6 m c t j k))

/-- The merged rows that point `t` writes. -/
theorem x_apply (c : Dev nD) (t : Fin cfg0.N) (r : Fin 512) (d : Fin 1024) :
    k0_pay19 (yc m c t) (k0_pay17 (iblk m c 0 t) (iblk m c 6 t)) (k0_pay18 (gateA m c t)) (gateC m c t)
        (iblk m c 12 t) (mod m c t 2) (iblk m c 4 t) (ix2 r d) = xOf m c (bat t) (pos t r) d := by
  refine (pay19_apply _ _ _ _ _ _ _ r d).trans ?_
  refine congrArg₂ (fun u v : EReal => u + v) (blk4 m c t r d) (congrArg₂ (fun u v : EReal => u * v) (mod_apply m c t 2 d)
    (Finset.sum_congr rfl fun k _ => congrArg₂ (fun u v : EReal => u * v) (congrArg₂ (fun u v : EReal => u + v)
      (congrArg₂ (fun u v : EReal => u * v) (gateA_apply m c t r k) (ya_apply m c t r k))
      (congrArg₂ (fun u v : EReal => u * v) (gateC_apply m c t r k) (yc_apply m c t r k))) (blk12 m c t k d)))

/-- The experts' input that point `t` writes. -/
theorem h_apply (c : Dev nD) (t : Fin cfg0.N) (r : Fin 512) (d : Fin 1024) :
    k0_pay23 (k0_pay20 (mod m c t 3)) (k0_pay21 (mod m c t 4))
        (k0_pay22 (yc m c t) (k0_pay17 (iblk m c 0 t) (iblk m c 6 t)) (k0_pay18 (gateA m c t)) (gateC m c t)
          (iblk m c 12 t) (mod m c t 2) (iblk m c 4 t) (iblk m c 13 t)) (Scalar.ofBits .f32 0x3F800000#32) (ix2 r d)
      = hOf m c (bat t) (pos t r) d := by
  refine (pay23_apply _ _ _ _ _ _ _ _ _ _ r d).trans ?_
  exact hrow_congr (fun d => x_apply m c t r d) (fun d => blk13 m c t d) (fun d => mod_apply m c t 4 d)
    (fun d => mod_apply m c t 3 d) d

/-- The array of merged rows. -/
theorem arr16 (c : Dev nD) (X : FVec Ideal S32768x1024 .f32) (hX : ∀ b s d, X (ix2 (flat b s) d) = xOf m c b s d) :
    (dats m 0 c).arrAt 16 cfg0.N = X := by
  refine (dats m 0 c).arrAt_eq_of_covers 16 _ (by decide +kernel) fun t hf y => ?_
  have hN : t.val < 64 := lt_of_lt_of_eq t.isLt (show cfg0.N = 64 from N_0)
  blk_simp
  rw [after0_16, out16_eq]
  obtain ⟨r, j, rfl⟩ : ∃ (r : Fin 512) (j : Fin 1024), y = ix2 r j := ⟨y 0, y 1, eq_ix2 y⟩
  have hv := flat_val t r
  have hX' : X ((win0_16.blk t).view.emb (ix2 r j)) = X (ix2 (flat (bat t) (pos t r)) j) := by
    blk_point [idx_val t]
  exact (x_apply m c t r j).trans (hX'.trans (hX _ _ _)).symm

/-- The array of the experts' inputs. -/
theorem arr17 (c : Dev nD) (X : FVec Ideal S32768x1024 .bf16) (hX : ∀ b s d, X (ix2 (flat b s) d) = hOf m c b s d) :
    (dats m 0 c).arrAt 17 cfg0.N = X := by
  refine (dats m 0 c).arrAt_eq_of_covers 17 _ (by decide +kernel) fun t hf y => ?_
  have hN : t.val < 64 := lt_of_lt_of_eq t.isLt (show cfg0.N = 64 from N_0)
  blk_simp
  rw [after0_17, out17_eq]
  obtain ⟨r, j, rfl⟩ : ∃ (r : Fin 512) (j : Fin 1024), y = ix2 r j := ⟨y 0, y 1, eq_ix2 y⟩
  have hv := flat_val t r
  have hX' : X ((win0_17.blk t).view.emb (ix2 r j)) = X (ix2 (flat (bat t) (pos t r)) j) := by
    blk_point [idx_val t]
  exact (h_apply m c t r j).trans (hX'.trans (hX _ _ _)).symm

end Cert.MixSpec

end
-- ==== Proof.MixRef.lean ====
/- The reference of the merge, read at one element of each of its two claimed results. -/
module

public import proofs.«01_k».proof.Proof.Gen.MixRefIdeal.Run
public import proofs.«01_k».proof.Proof.MixPoint
public import Idealize.ShloMosaic.Lib.KernelVsHost
public import Idealize.ShloMosaic.Lib.IdealHost

@[expose] public section

set_option maxRecDepth 16384

noncomputable section

namespace Cert.MixRef

open Idealize.ShloMosaic Idealize.ShloMosaic.TcCoe Idealize.SL.Sem
open Cert.MixRefIdeal Cert.MixRefIdeal.Gen Cert.MixRefIdeal.Value
open Cert.InTile (rms hrow)
open Cert.MixTile (chain chain_eq mean lnorm silu merged)
open Cert.MixPoint (past conv)

/-- The padded input of the convolution. -/
def padded (u : FVec Ideal S4x8192x512 .f32) : FVec Ideal S4x8222x512 .f32 :=
  pad S4x8222x512 ![0, 30, 0] ![0, 0, 0] ![0, 0, 0] u (sitofp .f32 (constantI S_ 32 0#32) : FVec Ideal S_ .f32)
    pads_S4x8192x512_S4x8222x512_000_3000_000 h_S_

/-- The number zero that the padding writes. -/
theorem zero_apply : (FloatOps.sitofp FTy.f32 0#32 : Ideal .f32) = 0 := by
  simp [FloatOps.sitofp]

/-- The padded input at one element. -/
theorem padded_apply (u : FVec Ideal S4x8192x512 .f32) (b : Fin 4) (p : Fin 8222) (j : Fin 512) :
    padded u (ix3 b p j) = past u b p.val j := by
  unfold past
  by_cases h : 30 ≤ p.val
  · rw [dif_pos ⟨h, p.isLt⟩]
    pointwise [padded]
    rw [dif_pos (by omega)]
  · rw [dif_neg (by omega)]
    pointwise [padded]
    rw [dif_neg (by omega)]
    exact zero_apply

/-- Tap `i`'s product over all positions, as the reference writes it. -/
def tap (X : FVec Ideal S4x8222x512 .f32) (w : FVec Ideal S31x512 .f32) (i : ℕ)
    (h : S4x8222x512.Slices ![0, i, 0] S4x8192x512) (hw : S31x512.Slices ![i, 0] S1x512) : FVec Ideal S4x8192x512 .f32 :=
  mulf (extractStridedSlice S4x8192x512 ![0, i, 0] X h) (broadcastInDim S4x8192x512 ![0, 1, 2]
    bcast_S1x1x512_S4x8192x512_0_1_2 (broadcastInDim S1x1x512 ![2] bcast_S512_S1x1x512_2 (shapeCast S512
    (extractStridedSlice S1x512 ![i, 0] w hw) shapeCasts_S1x512_S512)))

/-- Its product at one element. -/
theorem tap_apply (X : FVec Ideal S4x8222x512 .f32) (w : FVec Ideal S31x512 .f32) (i : Fin 31)
    (h : S4x8222x512.Slices ![0, i.val, 0] S4x8192x512) (hw : S31x512.Slices ![i.val, 0] S1x512)
    (b : Fin 4) (s : Fin 8192) (j : Fin 512) :
    tap X w i.val h hw (ix3 b s j) = X (ix3 b ⟨s.val + i.val, by omega⟩ j) * w (ix2 i j) := by
  have e : (⟨s.val + i.val, by omega⟩ : Fin 8222) = ⟨i.val + s.val, by omega⟩ := Fin.ext (Nat.add_comm _ _)
  rw [e]
  pointwise [tap]

/-- Every tap's slice lies in the padded input. -/
theorem tap_in (i : Fin 31) : S4x8222x512.Slices ![0, i.val, 0] S4x8192x512 := by
  refine ⟨rfl, fun a => ?_⟩
  fin_cases a
  · show 0 + 4 ≤ 4
    omega
  · show i.val + 8192 ≤ 8222
    omega
  · show 0 + 512 ≤ 512
    omega

/-- Every tap's row lies in the taps. -/
theorem tap_row (i : Fin 31) : S31x512.Slices ![i.val, 0] S1x512 := by
  refine ⟨rfl, fun a => ?_⟩
  fin_cases a
  · show i.val + 1 ≤ 31
    omega
  · show 0 + 512 ≤ 512
    omega

/-- The convolution as the reference writes it, at one element, is the chain of its taps' products from zero. -/
theorem v234_chain (V0 : Valuation τ sig (Elt Ideal)) (b : Fin 4) (s : Fin 8192) (j : Fin 512) :
    res_main_v234 V0 (ix3 b s j)
      = chain 31 (fun i => tap (padded (V0 (Proc.devRef .tc main_arg1))) (V0 (Proc.devRef .tc main_arg6)) i.val (tap_in i)
          (tap_row i) (ix3 b s j)) (Ideal.ofBits .f32 0x00000000#32)
        + broadcastInDim S4x8192x512 ![0, 1, 2] bcast_S1x1x512_S4x8192x512_0_1_2 (broadcastInDim S1x1x512 ![2]
            bcast_S512_S1x1x512_2 (V0 (Proc.devRef .tc main_arg7) : FVec Ideal S512 .f32)) (ix3 b s j) := by
  rfl

/-- The convolution the reference computes, at one element. -/
theorem v234_apply (V0 : Valuation τ sig (Elt Ideal)) (b : Fin 4) (s : Fin 8192) (j : Fin 512) :
    res_main_v234 V0 (ix3 b s j) = conv (V0 (Proc.devRef .tc main_arg1)) (V0 (Proc.devRef .tc main_arg6))
      (V0 (Proc.devRef .tc main_arg7)) b s j := by
  rw [v234_chain, chain_eq]
  have h0 : Ideal.ofBits .f32 0x00000000#32 = 0 := by simp
  have hb : broadcastInDim S4x8192x512 ![0, 1, 2] bcast_S1x1x512_S4x8192x512_0_1_2 (broadcastInDim S1x1x512 ![2]
      bcast_S512_S1x1x512_2 (V0 (Proc.devRef .tc main_arg7) : FVec Ideal S512 .f32)) (ix3 b s j)
      = (V0 (Proc.devRef .tc main_arg7) : FVec Ideal S512 .f32) (ix1 j) := by
    pointwise
  rw [hb, h0, zero_add]
  unfold conv
  refine congrArg (fun x : EReal => x + _) (Finset.sum_congr rfl fun i _ => ?_)
  rw [tap_apply, padded_apply]

/-- The norm over the channels, as the reference writes it. -/
def normed (y : FVec Ideal S4x8192x512 .f32) (g b : FVec Ideal S512 .f32) : FVec Ideal S4x8192x512 .f32 :=
  let mu : FVec Ideal S4x8192x1 .f32 := Host.divf (broadcastInDim S4x8192x1 ![0, 1] bcast_S4x8192_S4x8192x1_0_1
    (Host.reduceAdd y (constant S_ .f32 0x00000000#32) reducesTo_S4x8192x512_S4x8192_d2 h_S_))
    (broadcastInDim S4x8192x1 ![] bcast_S_S4x8192x1 (constant S_ .f32 0x44000000#32))
  let d : FVec Ideal S4x8192x512 .f32 := subf y (broadcastInDim S4x8192x512 ![0, 1, 2] bcast_S4x8192x1_S4x8192x512_0_1_2 mu)
  addf (mulf (mulf d (broadcastInDim S4x8192x512 ![0, 1, 2] bcast_S4x8192x1_S4x8192x512_0_1_2 (Host.rsqrt (addf (Host.divf
    (broadcastInDim S4x8192x1 ![0, 1] bcast_S4x8192_S4x8192x1_0_1 (Host.reduceAdd (mulf d d) (constant S_ .f32 0x00000000#32)
    reducesTo_S4x8192x512_S4x8192_d2 h_S_)) (broadcastInDim S4x8192x1 ![] bcast_S_S4x8192x1 (constant S_ .f32 0x44000000#32)))
    (broadcastInDim S4x8192x1 ![] bcast_S_S4x8192x1 (constant S_ .f32 0x358637BD#32))))))
    (broadcastInDim S4x8192x512 ![0, 1, 2] bcast_S1x1x512_S4x8192x512_0_1_2 (broadcastInDim S1x1x512 ![2]
    bcast_S512_S1x1x512_2 g))) (broadcastInDim S4x8192x512 ![0, 1, 2] bcast_S1x1x512_S4x8192x512_0_1_2
    (broadcastInDim S1x1x512 ![2] bcast_S512_S1x1x512_2 b))

/-- The norm at one element. -/
theorem normed_apply (y : FVec Ideal S4x8192x512 .f32) (g b : FVec Ideal S512 .f32) (i : Fin 4) (s : Fin 8192)
    (j : Fin 512) : normed y g b (ix3 i s j) = lnorm (fun j => y (ix3 i s j)) (g (ix1 j)) (b (ix1 j)) j := by
  pointwise [normed, lnorm, mean]

/-- The reference's normed convolution. -/
theorem v258_eq (V0 : Valuation τ sig (Elt Ideal)) : res_main_v258 V0
    = normed (res_main_v234 V0) (V0 (Proc.devRef .tc main_arg8)) (V0 (Proc.devRef .tc main_arg9)) := by
  unfold res_main_v258 res_main_v240 res_main_v238
  rfl

/-- The merged rows, from the normed convolution `y`, as the reference writes them. -/
def mergedAll (X0 : FVec Ideal S4x8192x512 .f32) (X2 : FVec Ideal S4x8192x2048 .f32) (X3 : FVec Ideal S4x8192x1024 .f32)
    (X4 : FVec Ideal S4x6144 .f32) (X5 X10 : FVec Ideal S512x1024 .f32) (X11 : FVec Ideal S1024x1024 .f32)
    (y : FVec Ideal S4x8192x512 .f32) : FVec Ideal S4x8192x1024 .f32 :=
  addf X3 (mulf (broadcastInDim S4x8192x1024 ![0, 1, 2] bcast_S4x1x1024_S4x8192x1024_0_1_2 (broadcastInDim S4x1x1024
    ![0, 2] bcast_S4x1024_S4x1x1024_0_2 (extractStridedSlice S4x1024 ![0, 2048] X4 slices_S4x6144_S4x1024_0_2048)))
    (Host.dotGeneral dot_S4x8192x1024_S1024x1024_S4x8192x1024_2_0_01_1_n_n none (addf (mulf (extractStridedSlice
    S4x8192x1024 ![0, 0, 0] X2 slices_S4x8192x2048_S4x8192x1024_0_0_0) (Host.dotGeneral
    dot_S4x8192x512_S512x1024_S4x8192x1024_2_0_01_1_n_n none X0 X5)) (mulf (extractStridedSlice S4x8192x1024
    ![0, 0, 1024] X2 slices_S4x8192x2048_S4x8192x1024_0_0_1024) (Host.dotGeneral
    dot_S4x8192x512_S512x1024_S4x8192x1024_2_0_01_1_n_n none (mulf y (Host.divf (broadcastInDim S4x8192x512 ![]
    bcast_S_S4x8192x512 (constant S_ .f32 0x3F800000#32)) (addf (broadcastInDim S4x8192x512 ![] bcast_S_S4x8192x512
    (constant S_ .f32 0x3F800000#32)) (Host.exp (Host.negf y))))) X10))) X11))

/-- The merged rows at one element. -/
theorem mergedAll_apply (X0 : FVec Ideal S4x8192x512 .f32) (X2 : FVec Ideal S4x8192x2048 .f32)
    (X3 : FVec Ideal S4x8192x1024 .f32) (X4 : FVec Ideal S4x6144 .f32) (X5 X10 : FVec Ideal S512x1024 .f32)
    (X11 : FVec Ideal S1024x1024 .f32) (y : FVec Ideal S4x8192x512 .f32) (b : Fin 4) (s : Fin 8192) (d : Fin 1024) :
    mergedAll X0 X2 X3 X4 X5 X10 X11 y (ix3 b s d)
      = merged (X3 (ix3 b s d)) (X4 (ix2 b ⟨2048 + d.val, by omega⟩)) (fun j => X0 (ix3 b s j)) (fun j => y (ix3 b s j))
          (fun k => X2 (ix3 b s ⟨k.val, by omega⟩)) (fun k => X2 (ix3 b s ⟨1024 + k.val, by omega⟩))
          (fun j k => X5 (ix2 j k)) (fun j k => X10 (ix2 j k)) (fun k => X11 (ix2 k d)) := by
  pointwise [mergedAll, merged, silu, Ideal.logistic]

/-- The reference's merged rows. -/
theorem v275_eq (V0 : Valuation τ sig (Elt Ideal)) : res_main_v275 V0
    = mergedAll (V0 (Proc.devRef .tc main_arg0)) (V0 (Proc.devRef .tc main_arg2)) (V0 (Proc.devRef .tc main_arg3))
        (V0 (Proc.devRef .tc main_arg4)) (V0 (Proc.devRef .tc main_arg5)) (V0 (Proc.devRef .tc main_arg10))
        (V0 (Proc.devRef .tc main_arg11)) (res_main_v258 V0) := by
  unfold res_main_v275
  rfl

end Cert.MixRef

end
-- ==== Proof.MixPair.lean ====
/- The merge's kernel and its reference, set beside each other: runs whose arguments agree leave the same merged rows and
   the same experts' inputs. -/
module

public import proofs.«01_k».proof.Proof.MixSpec
public import proofs.«01_k».proof.Proof.MixRef

@[expose] public section

set_option maxRecDepth 16384

noncomputable section

namespace Cert.MixPair

open Idealize.ShloMosaic Idealize.ShloMosaic.TcCoe Idealize.SL.Sem
open Cert.MixRefIdeal Cert.MixRefIdeal.Gen Cert.MixRefIdeal.Value
open Cert.InTile (rms hrow)
open Cert.MixTile (lnorm merged)
open Cert.MixBlocks (flat)
open Cert.MixSpec (xv hv)

/-- The experts' input, from the merged rows, as the reference writes it. -/
def inAll (z : FVec Ideal S4x8192x1024 .f32) (X4 : FVec Ideal S4x6144 .f32) (X12 : FVec Ideal S1024 .f32) :
    FVec Ideal S32768x1024 .bf16 :=
  truncf .bf16 (shapeCast S32768x1024 (addf (mulf (mulf (mulf z (broadcastInDim S4x8192x1024 ![0, 1, 2]
    bcast_S4x8192x1_S4x8192x1024_0_1_2 (Host.rsqrt (addf (Host.divf (broadcastInDim S4x8192x1 ![0, 1]
    bcast_S4x8192_S4x8192x1_0_1 (Host.reduceAdd (mulf z z) (constant S_ .f32 0x00000000#32)
    reducesTo_S4x8192x1024_S4x8192_d2 h_S_)) (broadcastInDim S4x8192x1 ![] bcast_S_S4x8192x1 (constant S_ .f32
    0x44800000#32))) (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2]
    bcast_S1024_S1x1x1024_2 X12))) (broadcastInDim S4x8192x1024 ![0, 1, 2] bcast_S4x1x1024_S4x8192x1024_0_1_2 (addf
    (broadcastInDim S4x1x1024 ![] bcast_S_S4x1x1024 (constant S_ .f32 0x3F800000#32)) (broadcastInDim S4x1x1024 ![0, 2]
    bcast_S4x1024_S4x1x1024_0_2 (extractStridedSlice S4x1024 ![0, 4096] X4 slices_S4x6144_S4x1024_0_4096)))))
    (broadcastInDim S4x8192x1024 ![0, 1, 2] bcast_S4x1x1024_S4x8192x1024_0_1_2 (broadcastInDim S4x1x1024 ![0, 2]
    bcast_S4x1024_S4x1x1024_0_2 (extractStridedSlice S4x1024 ![0, 3072] X4 slices_S4x6144_S4x1024_0_3072))))
    shapeCasts_S4x8192x1024_S32768x1024) bitsLt_bf16_f32

/-- The experts' input at one element. -/
theorem inAll_apply (z : FVec Ideal S4x8192x1024 .f32) (X4 : FVec Ideal S4x6144 .f32) (X12 : FVec Ideal S1024 .f32)
    (b : Fin 4) (s : Fin 8192) (d : Fin 1024) :
    inAll z X4 X12 (ix2 (flat b s) d)
      = hrow (fun d => z (ix3 b s d)) (fun d => X12 (ix1 d)) (fun d => X4 (ix2 b ⟨4096 + d.val, by omega⟩))
          (fun d => X4 (ix2 b ⟨3072 + d.val, by omega⟩)) d := by
  pointwise [inAll, hrow, rms, flat]

/-- The merged rows laid out in rows, at one element. -/
theorem rows_apply (z : FVec Ideal S4x8192x1024 .f32) (b : Fin 4) (s : Fin 8192) (d : Fin 1024) :
    shapeCast S32768x1024 z shapeCasts_S4x8192x1024_S32768x1024 (ix2 (flat b s) d) = z (ix3 b s d) := by
  pointwise [flat]

variable (m : (ℓ : Loc Cert.MixIdeal.nD Cert.MixIdeal.τ Cert.MixIdeal.sig) → Buf (Elt Ideal) ℓ)
  (m' : (ℓ : Loc nD τ sig) → Buf (Elt Ideal) ℓ)

/-- The reference's merged rows, from the run's arguments. -/
abbrev zOf (c : Dev nD) : FVec Ideal S4x8192x1024 .f32 := res_main_v275 (StableHlo.launchContents m' c)

/-- The reference's merged rows at one element. -/
theorem zOf_apply (c : Dev nD) (b : Fin 4) (s : Fin 8192) (d : Fin 1024) :
    zOf m' c (ix3 b s d) = xv (m' (c, main_arg0)) (m' (c, main_arg1)) (m' (c, main_arg2)) (m' (c, main_arg3))
      (m' (c, main_arg4)) (m' (c, main_arg5)) (m' (c, main_arg6)) (m' (c, main_arg7)) (m' (c, main_arg8))
      (m' (c, main_arg9)) (m' (c, main_arg10)) (m' (c, main_arg11)) b s d := by
  refine (congrFun (MixRef.v275_eq _) _).trans ((MixRef.mergedAll_apply _ _ _ _ _ _ _ _ b s d).trans ?_)
  have e : (fun j => res_main_v258 (StableHlo.launchContents m' c) (ix3 b s j))
      = fun j => lnorm (fun j => MixPoint.conv (m' (c, main_arg1)) (m' (c, main_arg6)) (m' (c, main_arg7)) b s j)
          (m' (c, main_arg8) (ix1 j)) (m' (c, main_arg9) (ix1 j)) j := by
    funext j
    refine (congrFun (MixRef.v258_eq _) _).trans ((MixRef.normed_apply _ _ _ b s j).trans ?_)
    rw [funext fun j => MixRef.v234_apply (StableHlo.launchContents m' c) b s j]
  rw [e]
  rfl

/-- The two runs start with the same arguments on the device `c`. -/
structure Same (c : Dev nD) : Prop where
  /-- Argument 0. -/
  a0 : m' (c, main_arg0) = m (c, Cert.MixIdeal.main_arg0)
  /-- Argument 1. -/
  a1 : m' (c, main_arg1) = m (c, Cert.MixIdeal.main_arg1)
  /-- Argument 2. -/
  a2 : m' (c, main_arg2) = m (c, Cert.MixIdeal.main_arg2)
  /-- Argument 3. -/
  a3 : m' (c, main_arg3) = m (c, Cert.MixIdeal.main_arg3)
  /-- Argument 4. -/
  a4 : m' (c, main_arg4) = m (c, Cert.MixIdeal.main_arg4)
  /-- Argument 5. -/
  a5 : m' (c, main_arg5) = m (c, Cert.MixIdeal.main_arg5)
  /-- Argument 6. -/
  a6 : m' (c, main_arg6) = m (c, Cert.MixIdeal.main_arg6)
  /-- Argument 7. -/
  a7 : m' (c, main_arg7) = m (c, Cert.MixIdeal.main_arg7)
  /-- Argument 8. -/
  a8 : m' (c, main_arg8) = m (c, Cert.MixIdeal.main_arg8)
  /-- Argument 9. -/
  a9 : m' (c, main_arg9) = m (c, Cert.MixIdeal.main_arg9)
  /-- Argument 10. -/
  a10 : m' (c, main_arg10) = m (c, Cert.MixIdeal.main_arg10)
  /-- Argument 11. -/
  a11 : m' (c, main_arg11) = m (c, Cert.MixIdeal.main_arg11)
  /-- Argument 12. -/
  a12 : m' (c, main_arg12) = m (c, Cert.MixIdeal.main_arg12)

/-- The merged rows. -/
theorem pair0 (c : Dev nD) (h : Same m m' c) :
    shapeCast S32768x1024 (zOf m' c) shapeCasts_S4x8192x1024_S32768x1024
      = (Cert.MixIdeal.Gen.dats m 0 c).arrAt 16 Cert.MixIdeal.cfg0.N := by
  refine (MixSpec.arr16 m c _ fun b s d => ?_).symm
  refine (rows_apply _ b s d).trans ((zOf_apply m' c b s d).trans ?_)
  rw [h.a0, h.a1, h.a2, h.a3, h.a4, h.a5, h.a6, h.a7, h.a8, h.a9, h.a10, h.a11]

/-- The experts' inputs. -/
theorem pair1 (c : Dev nD) (h : Same m m' c) :
    inAll (zOf m' c) (m' (c, main_arg4)) (m' (c, main_arg12))
      = (Cert.MixIdeal.Gen.dats m 0 c).arrAt 17 Cert.MixIdeal.cfg0.N := by
  refine (MixSpec.arr17 m c _ fun b s d => ?_).symm
  refine (inAll_apply _ _ _ b s d).trans ?_
  rw [funext fun d => zOf_apply m' c b s d]
  rw [h.a0, h.a1, h.a2, h.a3, h.a4, h.a5, h.a6, h.a7, h.a8, h.a9, h.a10, h.a11, h.a12]
  rfl

end Cert.MixPair

end
-- ==== Proof.lean ====
/- The proof of the certificate: the frames are the generated runs, the value claims are the equations of
   `Proof/AttnValue.lean`, `Proof/MoeValue.lean`, `Proof/InValue.lean` and `Proof/MixSpec.lean` set beside the runs of kernel and reference. -/
module

public import proofs.«01_k».proof.Defs
public import proofs.«01_k».proof.Proof.Gen.Attn.Frame
public import proofs.«01_k».proof.Proof.Gen.AttnIdeal.Value
public import proofs.«01_k».proof.Proof.Gen.Moe.Frame
public import proofs.«01_k».proof.Proof.Gen.MoeIdeal.Value
public import proofs.«01_k».proof.Proof.Gen.In.Frame
public import proofs.«01_k».proof.Proof.Gen.InIdeal.Value
public import proofs.«01_k».proof.Proof.Gen.InRefIdeal.Run
public import proofs.«01_k».proof.Proof.Gen.Mix.Frame
public import proofs.«01_k».proof.Proof.Gen.MixIdeal.Value
public import proofs.«01_k».proof.Proof.Gen.MixRefIdeal.Run
public import proofs.«01_k».proof.Proof.Gen.AttnRefIdeal.Run
public import proofs.«01_k».proof.Proof.Gen.MoeRefIdeal.Run
public import proofs.«01_k».proof.Proof.Gen.Pre_finite_and_counting_up
public import proofs.«01_k».proof.Proof.Gen.On_used_lanes
public import proofs.«01_k».proof.Proof.AttnValue
public import proofs.«01_k».proof.Proof.MoeValue
public import proofs.«01_k».proof.Proof.InPair
public import proofs.«01_k».proof.Proof.InMask
public import proofs.«01_k».proof.Proof.MixPair
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The reference of the attention runs to its end, keeps its arguments and leaves every counter at zero. -/
theorem attnRefFrame : quiescent_AttnRefIdeal (hAttnRefIdeal := Cert.AttnRefIdeal.Gen.facts) := by
  intro m g _
  refine θ_run_mono (Cert.AttnRefIdeal.Value.run m g) fun r h => ⟨fun c => (h c).2, funext fun s => ?_⟩
  rcases s with ⟨_, i | i⟩ <;> exact i.elim0

/-- The reference of the experts runs to its end, keeps its arguments and leaves every counter at zero. -/
theorem moeRefFrame : quiescent_MoeRefIdeal (hMoeRefIdeal := Cert.MoeRefIdeal.Gen.facts) := by
  intro m g _
  refine θ_run_mono (Cert.MoeRefIdeal.Value.run m g) fun r h => ⟨fun c => (h c).2, funext fun s => ?_⟩
  rcases s with ⟨_, i | i⟩ <;> exact i.elim0

/-- The reference of the input projection runs to its end, keeps its arguments and leaves every counter at zero. -/
theorem inRefFrame : quiescent_InRefIdeal (hInRefIdeal := Cert.InRefIdeal.Gen.facts) := by
  intro m g _
  refine θ_run_mono (Cert.InRefIdeal.Value.run m g) fun r h => ⟨fun c => (h c).2.2.2.2.2, funext fun s => ?_⟩
  rcases s with ⟨_, i | i⟩ <;> exact i.elim0

/-- The reference of the merge runs to its end, keeps its arguments and leaves every counter at zero. -/
theorem mixRefFrame : quiescent_MixRefIdeal (hMixRefIdeal := Cert.MixRefIdeal.Gen.facts) := by
  intro m g _
  refine θ_run_mono (Cert.MixRefIdeal.Value.run m g) fun r h => ⟨fun c => (h c).2.2, funext fun s => ?_⟩
  rcases s with ⟨_, i | i⟩ <;> exact i.elim0

/-- The experts' kernel and its reference leave the same result. -/
theorem moeEqual : algebraic_MoeIdeal_MoeRefIdeal (hMoeIdeal := Cert.MoeIdeal.Gen.facts)
    (hMoeRefIdeal := Cert.MoeRefIdeal.Gen.facts) := by
  pair_intro
  run_from Cert.MoeIdeal.Value.run_blocks m g
  run_from Cert.MoeRefIdeal.Value.run m' g'
  refine (MoeValue.arr_eq m c _ fun i d => ?_).symm
  obtain ⟨h0, h1, h2, h3, h4, h5, h6, h7⟩ := hagree c
  refine (MoeRef.res_apply m' c i d).trans ?_
  rw [← h0, ← h1, ← h2, ← h3, ← h4, ← h5, ← h6, ← h7]

/-- The attention's kernel and its reference leave the same result, for finite queries and keys and positions that
count up. -/
theorem attnEqual : algebraic_AttnIdeal_AttnRefIdeal_pre_finite_and_counting_up (hAttnIdeal := Cert.AttnIdeal.Gen.facts)
    (hAttnRefIdeal := Cert.AttnRefIdeal.Gen.facts)
    (hPre_finite_and_counting_up := Cert.Pre_finite_and_counting_up.Gen.facts) := by
  pair_intro
  run_from Cert.AttnIdeal.Value.run_blocks m g
  run_from Cert.AttnRefIdeal.Value.run m' g'
  letI := Cert.Pre_finite_and_counting_up.Gen.facts
  obtain ⟨hQ, hK, hP⟩ := AttnPre.read _ _ _ _ (hpre c)
  obtain ⟨h0, h1, h2, h3⟩ := hagree c
  refine (AttnValue.arr_eq m c hQ hK _ fun b i h d => ?_).symm
  obtain ⟨p, hp, hP⟩ := hP b
  refine (AttnRef.res_apply m' c b i h d (fun j => Softmax.seen (AttnScore.z (AttnValue.argQ m c) (AttnValue.argK m c) b h i)
    i.val j.val) fun j => ?_).trans ?_
  · refine (congrFun (congr (congr (congrArg AttnRef.scores h0) h1) h3) _).trans ?_
    exact AttnScore.scores_eq hQ hK hp hP h i j
  · refine Eq.trans ?_ (AttnValue.value_eq _ _ (AttnValue.argV m c) b h i d _ fun _ => rfl)
    exact Finset.sum_congr (M := EReal) rfl fun k _ => congrArg _ (congrFun h2 _)

/-- The input projection's kernel and its reference leave the same five results, on the lanes that are claimed. -/
theorem inEqual : algebraic_InIdeal_InRefIdeal_on_used_lanes (hInIdeal := Cert.InIdeal.Gen.facts)
    (hInRefIdeal := Cert.InRefIdeal.Gen.facts) (hOn_used_lanes := Cert.On_used_lanes.Gen.facts) := by
  letI := Cert.On_used_lanes.Gen.facts
  intro m g m' g' _ hagree
  refine ⟨fun c => (Cert.InIdeal.Gen.dats m 0 c).arrAt 12 Cert.InIdeal.cfg0.N,
    fun c => (Cert.InIdeal.Gen.dats m 0 c).arrAt 13 Cert.InIdeal.cfg0.N,
    fun c => (Cert.InIdeal.Gen.dats m 0 c).arrAt 14 Cert.InIdeal.cfg0.N,
    fun c => (Cert.InIdeal.Gen.dats m 0 c).arrAt 15 Cert.InIdeal.cfg0.N,
    fun c => (Cert.InIdeal.Gen.dats m 0 c).arrAt 16 Cert.InIdeal.cfg0.N,
    θ_run_mono (Cert.InIdeal.Value.run_blocks m g) fun r h c => ?_,
    θ_run_mono (Cert.InRefIdeal.Value.run m' g') fun r h c => ?_⟩
  · obtain ⟨h0, h1, h2, h3, h4, hk⟩ := h c
    exact ⟨fun i _ => congrFun h0 i, fun i _ => congrFun h1 i, fun i _ => congrFun h2 i, fun i _ => congrFun h3 i,
      fun i _ => congrFun h4 i, hk⟩
  · obtain ⟨h0, h1, h2, h3, h4, hk⟩ := h c
    obtain ⟨a0, a1, a2, a3, a4, a5, a6, a7, a8, a9⟩ := hagree c
    have hs : InPair.Same m m' c := ⟨a0, a1, a2, a3, a4, a5, a6, a7, a8, a9⟩
    exact ⟨fun i hi => (congrFun h0 i).trans (InPair.pair0 m m' c hs i (InMask.mask0 _ _ _ _ _ _ _ _ _ _ i hi)),
      fun i hi => (congrFun h1 i).trans (InPair.pair1 m m' c hs i (InMask.mask1 _ _ _ _ _ _ _ _ _ _ i hi)),
      fun i hi => (congrFun h2 i).trans (InPair.pair2 m m' c hs i (InMask.mask2 _ _ _ _ _ _ _ _ _ _ i hi)),
      fun i _ => congrFun (h3.trans (InPair.pair3 m m' c hs)) i,
      fun i _ => congrFun (h4.trans (InPair.pair4 m m' c hs)) i, hk⟩

/-- The merge's kernel and its reference leave the same merged rows and the same experts' inputs. -/
theorem mixEqual : algebraic_MixIdeal_MixRefIdeal (hMixIdeal := Cert.MixIdeal.Gen.facts)
    (hMixRefIdeal := Cert.MixRefIdeal.Gen.facts) := by
  intro m g m' g' _ hagree
  refine ⟨fun c => (Cert.MixIdeal.Gen.dats m 0 c).arrAt 16 Cert.MixIdeal.cfg0.N,
    fun c => (Cert.MixIdeal.Gen.dats m 0 c).arrAt 17 Cert.MixIdeal.cfg0.N,
    θ_run_mono (Cert.MixIdeal.Value.run_blocks m g) fun r h c => ?_,
    θ_run_mono (Cert.MixRefIdeal.Value.run m' g') fun r h c => ?_⟩
  · obtain ⟨h0, h1, _, hk⟩ := h c
    exact ⟨h0, h1, hk⟩
  · obtain ⟨h0, h1, hk⟩ := h c
    obtain ⟨a0, a1, a2, a3, a4, a5, a6, a7, a8, a9, a10, a11, a12, _⟩ := hagree c
    have hs : MixPair.Same m m' c := ⟨a0, a1, a2, a3, a4, a5, a6, a7, a8, a9, a10, a11, a12⟩
    exact ⟨h0.trans (MixPair.pair0 m m' c hs), h1.trans (MixPair.pair1 m m' c hs), hk⟩

/-- Everything that is claimed. -/
theorem claim : Cert.Claim := ⟨Cert.Attn.Gen.facts, Cert.AttnIdeal.Gen.facts, Cert.AttnRefIdeal.Gen.facts,
  Cert.Moe.Gen.facts, Cert.MoeIdeal.Gen.facts, Cert.MoeRefIdeal.Gen.facts,
  Cert.In.Gen.facts, Cert.InIdeal.Gen.facts, Cert.InRefIdeal.Gen.facts,
  Cert.Mix.Gen.facts, Cert.MixIdeal.Gen.facts, Cert.MixRefIdeal.Gen.facts, Cert.Pre_finite_and_counting_up.Gen.facts,
  Cert.On_used_lanes.Gen.facts,
  fun m g _ => Cert.Attn.Gen.frame m g,
  fun m g _ => Cert.AttnIdeal.Gen.frame m g,
  fun m g _ => Cert.AttnIdeal.Gen.frame m g,
  attnRefFrame,
  fun m g _ => attnRefFrame m g trivial,
  fun m g _ => Cert.Moe.Gen.frame m g,
  fun m g _ => Cert.MoeIdeal.Gen.frame m g,
  moeRefFrame,
  fun m g _ => Cert.In.Gen.frame m g,
  fun m g _ => Cert.InIdeal.Gen.frame m g,
  inRefFrame,
  fun m g _ => Cert.Mix.Gen.frame m g,
  fun m g _ => Cert.MixIdeal.Gen.frame m g,
  mixRefFrame,
  IdealRules.named_const.statement Cert.AttnIdeal.κ "query_factor" .f32 0x3E16C740#32 _ rfl,
  attnEqual,
  trivial,
  moeEqual,
  trivial,
  inEqual,
  trivial,
  mixEqual⟩

end Cert.Proof

end
